-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x64x64 : Shape := ⟨4, ![2, 256, 64, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x64x64 : S_.BroadcastsInDim S2x256x64x64 (![] : Fin 0 → Fin S2x256x64x64.rank)
  reducesTo_S2x256x64x64_S_d0_1_2_3 : S2x256x64x64.ReducesTo [0, 1, 2, 3] S_

variable [Facts]

def fn {F : FTy → Type} [FloatOps F] (main_arg0 : FVec F S2x256x512 .bf16) (main_arg1 : FVec F S512x256 .bf16) (main_arg2 : FVec F S2x256x64x64 .bf16) (main_arg3 : FVec F S2x256x64x64 .bf16) (main_arg4 : FVec F S256x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x64x64 .bf16 := Host.absf main_arg2
  let main_cst_2 : FVec F S_ .bf16 := constant S_ .bf16 0x7F80#16
  let main_v10 : FVec F S2x256x64x64 .bf16 := broadcastInDim S2x256x64x64 ![] bcast_S_S2x256x64x64 main_cst_2
  let main_v11 : IVec S2x256x64x64 1 := cmpf .olt main_v9 main_v10
  let main_c_3 : IVec S_ 1 := constantI S_ 1 1#1
  let main_v12 : IVec S_ 1 := (fun x v => Host.reduce IntOp.andi x v reducesTo_S2x256x64x64_S_d0_1_2_3 h_S_) main_v11 main_c_3
  let main_v13 : IVec S_ 1 := andi main_v8 main_v12
  main_v13
-- ==== Pre_finite_ReferenceIdeal.lean ====
abbrev S2x256x512 : Shape := ⟨3, ![2, 256, 512]⟩
abbrev S512x4096 : Shape := ⟨2, ![512, 4096]⟩
abbrev S2x256x64x64 : Shape := ⟨4, ![2, 256, 64, 64]⟩
abbrev S4096x512 : Shape := ⟨2, ![4096, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S2x256x64x64 : S_.BroadcastsInDim S2x256x64x64 (![] : Fin 0 → Fin S2x256x64x64.rank)
  reducesTo_S2x256x64x64_S_d0_1_2_3 : S2x256x64x64.ReducesTo [0, 1, 2, 3] S_

variable [Facts]

def fn {F : FTy → Type} [FloatOps F] (main_arg0 : FVec F S2x256x512 .bf16) (main_arg1 : FVec F S512x4096 .bf16) (main_arg2 : FVec F S2x256x64x64 .bf16) (main_arg3 : FVec F S2x256x64x64 .bf16) (main_arg4 : FVec F S4096x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x4096 .bf16 := Host.absf main_arg1
  let main_cst_0 : FVec F S_ .bf16 := constant S_ .bf16 0x7F80#16
  let main_v5 : FVec F S512x4096 .bf16 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S2x256x64x64 .bf16 := Host.absf main_arg2
  let main_cst_2 : FVec F S_ .bf16 := constant S_ .bf16 0x7F80#16
  let main_v10 : FVec F S2x256x64x64 .bf16 := broadcastInDim S2x256x64x64 ![] bcast_S_S2x256x64x64 main_cst_2
  let main_v11 : IVec S2x256x64x64 1 := cmpf .olt main_v9 main_v10
  let main_c_3 : IVec S_ 1 := constantI S_ 1 1#1
  let main_v12 : IVec S_ 1 := (fun x v => Host.reduce IntOp.andi x v reducesTo_S2x256x64x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x64x64 : Shape := ⟨4, ![2, 256, 64, 64]⟩
abbrev S256x512 : Shape := ⟨2, ![256, 512]⟩
abbrev S_ : Shape := ⟨0, ![]⟩
abbrev S2x256x256 : Shape := ⟨3, ![2, 256, 256]⟩
abbrev S2x256x4x64 : Shape := ⟨4, ![2, 256, 4, 64]⟩
abbrev S2x4x256x256 : Shape := ⟨4, ![2, 4, 256, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1x256x256 : Shape := ⟨4, ![1, 1, 256, 256]⟩
abbrev S2x4x256 : Shape := ⟨3, ![2, 4, 256]⟩
abbrev S2x4x256x1 : Shape := ⟨4, ![2, 4, 256, 1]⟩
abbrev S2x4x64x256 : Shape := ⟨4, ![2, 4, 64, 256]⟩
abbrev S512x512 : Shape := ⟨2, ![512, 512]⟩
abbrev S16x2x16x512 : Shape := ⟨4, ![16, 2, 16, 512]⟩
abbrev S16x2 : Shape := ⟨2, ![16, 2]⟩
abbrev S1x1 : Shape := ⟨2, ![1, 1]⟩
abbrev S1x1x16x512 : Shape := ⟨4, ![1, 1, 16, 512]⟩
abbrev S16x512 : Shape := ⟨2, ![16, 512]⟩

abbrev nBuf : Space → Nat
  | .hbm => 82
  | .vmem => 4
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x64x64, .bf16⟩
  | .hbm, ⟨3, _⟩ => ⟨S2x256x64x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2x256x256, .f32⟩
  | .hbm, ⟨12, _⟩ => ⟨S2x256x4x64, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S2x256x4x64, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S2x256x4x64, .bf16⟩
  | .hbm, ⟨35, _⟩ => ⟨S_, .f32⟩
  | .hbm, ⟨36, _⟩ => ⟨S2x256x4x64, .f32⟩
  | .hbm, ⟨37, _⟩ => ⟨S2x256x4x64, .f32⟩
  | .hbm, ⟨38, _⟩ => ⟨S2x256x4x64, .bf16⟩
  | .hbm, ⟨39, _⟩ => ⟨S2x4x256x256, .f32⟩
  | .hbm, ⟨40, _⟩ => ⟨S256, .i32⟩
  | .hbm, ⟨41, _⟩ => ⟨S256x1, .i32⟩
  | .hbm, ⟨42, _⟩ => ⟨S256, .i32⟩
  | .hbm, ⟨43, _⟩ => ⟨S1x256, .i32⟩
  | .hbm, ⟨44, _⟩ => ⟨S256x256, .i32⟩
  | .hbm, ⟨45, _⟩ => ⟨S256x256, .i32⟩
  | .hbm, ⟨46, _⟩ => ⟨S256x256, .i32⟩
  | .hbm, ⟨47, _⟩ => ⟨S256x256, .i32⟩
  | .hbm, ⟨48, _⟩ => ⟨S_, .i32⟩
  | .hbm, ⟨49, _⟩ => ⟨S256x256, .i32⟩
  | .hbm, ⟨50, _⟩ => ⟨S256x256, .i1⟩
  | .hbm, ⟨51, _⟩ => ⟨S_, .i32⟩
  | .hbm, ⟨52, _⟩ => ⟨S1x256, .i32⟩
  | .hbm, ⟨53, _⟩ => ⟨S1x256, .i1⟩
  | .hbm, ⟨54, _⟩ => ⟨S256x256, .i1⟩
  | .hbm, ⟨55, _⟩ => ⟨S256x256, .i1⟩
  | .hbm, ⟨56, _⟩ => ⟨S_, .i32⟩
  | .hbm, ⟨57, _⟩ => ⟨S256x1, .i32⟩
  | .hbm, ⟨58, _⟩ => ⟨S256x1, .i1⟩
  | .hbm, ⟨59, _⟩ => ⟨S256x256, .i1⟩
  | .hbm, ⟨60, _⟩ => ⟨S256x256, .i1⟩
  | .hbm, ⟨61, _⟩ => ⟨S1x1x256x256, .i1⟩
  | .hbm, ⟨62, _⟩ => ⟨S_, .f32⟩
  | .hbm, ⟨63, _⟩ => ⟨S_, .f32⟩
  | .hbm, ⟨64, _⟩ => ⟨S2x4x256x256, .i1⟩
  | .hbm, ⟨65, _⟩ => ⟨S2x4x256x256, .f32⟩
  | .hbm, ⟨66, _⟩ => ⟨S2x4x256x256, .f32⟩
  | .hbm, ⟨67, _⟩ => ⟨S2x4x256x256, .f32⟩
  | .hbm, ⟨68, _⟩ => ⟨S_, .f32⟩
  | .hbm, ⟨69, _⟩ => ⟨S2x4x256, .f32⟩
  | .hbm, ⟨70, _⟩ => ⟨S2x4x256x1, .f32⟩
  | .hbm, ⟨71, _⟩ => ⟨S2x4x256x256, .f32⟩
  | .hbm, ⟨72, _⟩ => ⟨S2x4x256x256, .f32⟩
  | .hbm, ⟨73, _⟩ => ⟨S2x4x256x256, .bf16⟩
  | .hbm, ⟨74, _⟩ => ⟨S2x4x64x256, .f32⟩
  | .hbm, ⟨75, _⟩ => ⟨S2x256x4x64, .f32⟩
  | .hbm, ⟨76, _⟩ => ⟨S2x256x256, .f32⟩
  | .hbm, ⟨77, _⟩ => ⟨S2x256x256, .bf16⟩
  | .hbm, ⟨78, _⟩ => ⟨S2x256x512, .f32⟩
  | .hbm, ⟨79, _⟩ => ⟨S512x512, .f32⟩
  | .hbm, ⟨80, _⟩ => ⟨S512x512, .bf16⟩
  | .hbm, ⟨81, _⟩ => ⟨S2x256x512, .bf16⟩
  | .local _ .vmem, ⟨0, _⟩ => ⟨S512x512, .f32⟩
  | .local _ .vmem, ⟨1, _⟩ => ⟨S512x512, .bf16⟩
  | .local _ .vmem, ⟨2, _⟩ => ⟨S512x512, .bf16⟩
  | .local _ .vmem, ⟨3, _⟩ => ⟨S16x2x16x512, .bf16⟩
  | _, _ => ⟨S2x256x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_c_8 : Ref sig .tc := ⟨.hbm, 26, rfl⟩
abbrev main_v13 : Ref sig .tc := ⟨.hbm, 27, rfl⟩
abbrev main_c_9 : Ref sig .tc := ⟨.hbm, 28, rfl⟩
abbrev main_v14 : Ref sig .tc := ⟨.hbm, 29, rfl⟩
abbrev main_v15 : Ref sig .tc := ⟨.hbm, 30, rfl⟩
abbrev main_c_10 : Ref sig .tc := ⟨.hbm, 31, rfl⟩
abbrev main_c_11 : Ref sig .tc := ⟨.hbm, 32, rfl⟩
abbrev main_c_12 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_13 : Ref sig .tc := ⟨.hbm, 48, rfl⟩
abbrev main_v29 : Ref sig .tc := ⟨.hbm, 49, rfl⟩
abbrev main_v30 : Ref sig .tc := ⟨.hbm, 50, rfl⟩
abbrev main_c_14 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_15 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_16 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v40 : Ref sig .tc := ⟨.hbm, 66, rfl⟩
abbrev main_v41 : Ref sig .tc := ⟨.hbm, 67, rfl⟩
abbrev main_cst_17 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_147 : BitVec 32 := 0#32
  let c0_i32_154 : BitVec 32 := 0#32
  let c0_i32_155 : BitVec 32 := 0#32
  ![v2.toNat, 0, 0, 0]
def k0_off2 (d0 : Dev nD) (c8_i32_139 : BitVec 32) (c0_i32_146 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v205 : BitVec 32 := Scalar.addi v2 c8_i32_139
  let c16_i32_140 : BitVec 32 := 16#32
  let c0_i32_141 : BitVec 32 := 0#32
  let v206 : BitVec 1 := Scalar.cmpi .eq c16_i32_140 c0_i32_141
  let c1_i32_142 : BitVec 32 := 1#32
  let v207 : BitVec 32 := Scalar.select v206 c1_i32_142 c16_i32_140
  let v208 : BitVec 32 := Scalar.remsi v205 v207
  let c0_i32_144 : BitVec 32 := 0#32
  let v210 : BitVec 1 := Scalar.cmpi .slt v208 c0_i32_144
  let c0_i32_145 : BitVec 32 := 0#32
  let v211 : BitVec 1 := Scalar.cmpi .slt v207 c0_i32_145
  let v212 : BitVec 1 := Scalar.xori v210 v211
  let c0_i32_143 : BitVec 32 := 0#32
  let v209 : BitVec 1 := Scalar.cmpi .ne v208 c0_i32_143
  let v213 : BitVec 1 := Scalar.andi v212 v209
  let v214 : BitVec 32 := Scalar.addi v208 v207
  let v215 : BitVec 32 := Scalar.select v213 v214 v208
  let c32_i32 : BitVec 32 := 32#32
  let v216 : BitVec 32 := Scalar.muli v215 c32_i32
  let v217 : BitVec 32 := Scalar.addi v216 c0_i32_146
  let c0_i32_156 : BitVec 32 := 0#32
  ![v217.toNat, 0]
def k0_dev16 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_139 : BitVec 32 := 8#32
  let v205 : BitVec 32 := Scalar.addi v2 c8_i32_139
  let c16_i32_140 : BitVec 32 := 16#32
  let c0_i32_141 : BitVec 32 := 0#32
  let v206 : BitVec 1 := Scalar.cmpi .eq c16_i32_140 c0_i32_141
  let c1_i32_142 : BitVec 32 := 1#32
  let v207 : BitVec 32 := Scalar.select v206 c1_i32_142 c16_i32_140
  let v208 : BitVec 32 := Scalar.remsi v205 v207
  let c0_i32_144 : BitVec 32 := 0#32
  let v210 : BitVec 1 := Scalar.cmpi .slt v208 c0_i32_144
  let c0_i32_145 : BitVec 32 := 0#32
  let v211 : BitVec 1 := Scalar.cmpi .slt v207 c0_i32_145
  let v212 : BitVec 1 := Scalar.xori v210 v211
  let c0_i32_143 : BitVec 32 := 0#32
  let v209 : BitVec 1 := Scalar.cmpi .ne v208 c0_i32_143
  let v213 : BitVec 1 := Scalar.andi v212 v209
  let v214 : BitVec 32 := Scalar.addi v208 v207
  let v215 : BitVec 32 := Scalar.select v213 v214 v208
  let c1_i32_152 : BitVec 32 := 1#32
  let v218 : BitVec 32 := Scalar.muli v215 c1_i32_152
  let v219 : BitVec 32 := Scalar.addi c0_i32_153 v218
  v219.toNat
def k0_dev17 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_157 : BitVec 32 := 7#32
  let v227 : BitVec 32 := Scalar.addi v2 c7_i32_157
  let c16_i32_158 : BitVec 32 := 16#32
  let c0_i32_159 : BitVec 32 := 0#32
  let v228 : BitVec 1 := Scalar.cmpi .eq c16_i32_158 c0_i32_159
  let c1_i32_160 : BitVec 32 := 1#32
  let v229 : BitVec 32 := Scalar.select v228 c1_i32_160 c16_i32_158
  let v230 : BitVec 32 := Scalar.remsi v227 v229
  let c0_i32_162 : BitVec 32 := 0#32
  let v232 : BitVec 1 := Scalar.cmpi .slt v230 c0_i32_162
  let c0_i32_163 : BitVec 32 := 0#32
  let v233 : BitVec 1 := Scalar.cmpi .slt v229 c0_i32_163
  let v234 : BitVec 1 := Scalar.xori v232 v233
  let c0_i32_161 : BitVec 32 := 0#32
  let v231 : BitVec 1 := Scalar.cmpi .ne v230 c0_i32_161
  let v235 : BitVec 1 := Scalar.andi v234 v231
  let v236 : BitVec 32 := Scalar.addi v230 v229
  let v237 : BitVec 32 := Scalar.select v235 v236 v230
  let c1_i32_171 : BitVec 32 := 1#32
  let v240 : BitVec 32 := Scalar.muli v237 c1_i32_171
  let v241 : BitVec 32 := Scalar.addi c0_i32_172 v240
  v241.toNat
def k0_dev18 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_176 : BitVec 32 := 9#32
  let v249 : BitVec 32 := Scalar.addi v2 c9_i32_176
  let c16_i32_177 : BitVec 32 := 16#32
  let c0_i32_178 : BitVec 32 := 0#32
  let v250 : BitVec 1 := Scalar.cmpi .eq c16_i32_177 c0_i32_178
  let c1_i32_179 : BitVec 32 := 1#32
  let v251 : BitVec 32 := Scalar.select v250 c1_i32_179 c16_i32_177
  let v252 : BitVec 32 := Scalar.remsi v249 v251
  let c0_i32_181 : BitVec 32 := 0#32
  let v254 : BitVec 1 := Scalar.cmpi .slt v252 c0_i32_181
  let c0_i32_182 : BitVec 32 := 0#32
  let v255 : BitVec 1 := Scalar.cmpi .slt v251 c0_i32_182
  let v256 : BitVec 1 := Scalar.xori v254 v255
  let c0_i32_180 : BitVec 32 := 0#32
  let v253 : BitVec 1 := Scalar.cmpi .ne v252 c0_i32_180
  let v257 : BitVec 1 := Scalar.andi v256 v253
  let v258 : BitVec 32 := Scalar.addi v252 v251
  let v259 : BitVec 32 := Scalar.select v257 v258 v252
  let c1_i32_190 : BitVec 32 := 1#32
  let v262 : BitVec 32 := Scalar.muli v259 c1_i32_190
  let v263 : BitVec 32 := Scalar.addi c0_i32_191 v262
  v263.toNat
def k0_dev19 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_195 : BitVec 32 := 6#32
  let v271 : BitVec 32 := Scalar.addi v2 c6_i32_195
  let c16_i32_196 : BitVec 32 := 16#32
  let c0_i32_197 : BitVec 32 := 0#32
  let v272 : BitVec 1 := Scalar.cmpi .eq c16_i32_196 c0_i32_197
  let c1_i32_198 : BitVec 32 := 1#32
  let v273 : BitVec 32 := Scalar.select v272 c1_i32_198 c16_i32_196
  let v274 : BitVec 32 := Scalar.remsi v271 v273
  let c0_i32_200 : BitVec 32 := 0#32
  let v276 : BitVec 1 := Scalar.cmpi .slt v274 c0_i32_200
  let c0_i32_201 : BitVec 32 := 0#32
  let v277 : BitVec 1 := Scalar.cmpi .slt v273 c0_i32_201
  let v278 : BitVec 1 := Scalar.xori v276 v277
  let c0_i32_199 : BitVec 32 := 0#32
  let v275 : BitVec 1 := Scalar.cmpi .ne v274 c0_i32_199
  let v279 : BitVec 1 := Scalar.andi v278 v275
  let v280 : BitVec 32 := Scalar.addi v274 v273
  let v281 : BitVec 32 := Scalar.select v279 v280 v274
  let c1_i32_209 : BitVec 32 := 1#32
  let v284 : BitVec 32 := Scalar.muli v281 c1_i32_209
  let v285 : BitVec 32 := Scalar.addi c0_i32_210 v284
  v285.toNat
def k0_dev20 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_214 : BitVec 32 := 10#32
  let v293 : BitVec 32 := Scalar.addi v2 c10_i32_214
  let c16_i32_215 : BitVec 32 := 16#32
  let c0_i32_216 : BitVec 32 := 0#32
  let v294 : BitVec 1 := Scalar.cmpi .eq c16_i32_215 c0_i32_216
  let c1_i32_217 : BitVec 32 := 1#32
  let v295 : BitVec 32 := Scalar.select v294 c1_i32_217 c16_i32_215
  let v296 : BitVec 32 := Scalar.remsi v293 v295
  let c0_i32_219 : BitVec 32 := 0#32
  let v298 : BitVec 1 := Scalar.cmpi .slt v296 c0_i32_219
  let c0_i32_220 : BitVec 32 := 0#32
  let v299 : BitVec 1 := Scalar.cmpi .slt v295 c0_i32_220
  let v300 : BitVec 1 := Scalar.xori v298 v299
  let c0_i32_218 : BitVec 32 := 0#32
  let v297 : BitVec 1 := Scalar.cmpi .ne v296 c0_i32_218
  let v301 : BitVec 1 := Scalar.andi v300 v297
  let v302 : BitVec 32 := Scalar.addi v296 v295
  let v303 : BitVec 32 := Scalar.select v301 v302 v296
  let c1_i32_228 : BitVec 32 := 1#32
  let v306 : BitVec 32 := Scalar.muli v303 c1_i32_228
  let v307 : BitVec 32 := Scalar.addi c0_i32_229 v306
  v307.toNat
def k0_dev21 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_233 : BitVec 32 := 5#32
  let v315 : BitVec 32 := Scalar.addi v2 c5_i32_233
  let c16_i32_234 : BitVec 32 := 16#32
  let c0_i32_235 : BitVec 32 := 0#32
  let v316 : BitVec 1 := Scalar.cmpi .eq c16_i32_234 c0_i32_235
  let c1_i32_236 : BitVec 32 := 1#32
  let v317 : BitVec 32 := Scalar.select v316 c1_i32_236 c16_i32_234
  let v318 : BitVec 32 := Scalar.remsi v315 v317
  let c0_i32_238 : BitVec 32 := 0#32
  let v320 : BitVec 1 := Scalar.cmpi .slt v318 c0_i32_238
  let c0_i32_239 : BitVec 32 := 0#32
  let v321 : BitVec 1 := Scalar.cmpi .slt v317 c0_i32_239
  let v322 : BitVec 1 := Scalar.xori v320 v321
  let c0_i32_237 : BitVec 32 := 0#32
  let v319 : BitVec 1 := Scalar.cmpi .ne v318 c0_i32_237
  let v323 : BitVec 1 := Scalar.andi v322 v319
  let v324 : BitVec 32 := Scalar.addi v318 v317
  let v325 : BitVec 32 := Scalar.select v323 v324 v318
  let c1_i32_247 : BitVec 32 := 1#32
  let v328 : BitVec 32 := Scalar.muli v325 c1_i32_247
  let v329 : BitVec 32 := Scalar.addi c0_i32_248 v328
  v329.toNat
def k0_dev22 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_252 : BitVec 32 := 11#32
  let v337 : BitVec 32 := Scalar.addi v2 c11_i32_252
  let c16_i32_253 : BitVec 32 := 16#32
  let c0_i32_254 : BitVec 32 := 0#32
  let v338 : BitVec 1 := Scalar.cmpi .eq c16_i32_253 c0_i32_254
  let c1_i32_255 : BitVec 32 := 1#32
  let v339 : BitVec 32 := Scalar.select v338 c1_i32_255 c16_i32_253
  let v340 : BitVec 32 := Scalar.remsi v337 v339
  let c0_i32_257 : BitVec 32 := 0#32
  let v342 : BitVec 1 := Scalar.cmpi .slt v340 c0_i32_257
  let c0_i32_258 : BitVec 32 := 0#32
  let v343 : BitVec 1 := Scalar.cmpi .slt v339 c0_i32_258
  let v344 : BitVec 1 := Scalar.xori v342 v343
  let c0_i32_256 : BitVec 32 := 0#32
  let v341 : BitVec 1 := Scalar.cmpi .ne v340 c0_i32_256
  let v345 : BitVec 1 := Scalar.andi v344 v341
  let v346 : BitVec 32 := Scalar.addi v340 v339
  let v347 : BitVec 32 := Scalar.select v345 v346 v340
  let c1_i32_266 : BitVec 32 := 1#32
  let v350 : BitVec 32 := Scalar.muli v347 c1_i32_266
  let v351 : BitVec 32 := Scalar.addi c0_i32_267 v350
  v351.toNat
def k0_dev23 (d0 : Dev nD) : Nat :=
  let c0_i32_286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_271 : BitVec 32 := 4#32
  let v359 : BitVec 32 := Scalar.addi v2 c4_i32_271
  let c16_i32_272 : BitVec 32 := 16#32
  let c0_i32_273 : BitVec 32 := 0#32
  let v360 : BitVec 1 := Scalar.cmpi .eq c16_i32_272 c0_i32_273
  let c1_i32_274 : BitVec 32 := 1#32
  let v361 : BitVec 32 := Scalar.select v360 c1_i32_274 c16_i32_272
  let v362 : BitVec 32 := Scalar.remsi v359 v361
  let c0_i32_276 : BitVec 32 := 0#32
  let v364 : BitVec 1 := Scalar.cmpi .slt v362 c0_i32_276
  let c0_i32_277 : BitVec 32 := 0#32
  let v365 : BitVec 1 := Scalar.cmpi .slt v361 c0_i32_277
  let v366 : BitVec 1 := Scalar.xori v364 v365
  let c0_i32_275 : BitVec 32 := 0#32
  let v363 : BitVec 1 := Scalar.cmpi .ne v362 c0_i32_275
  let v367 : BitVec 1 := Scalar.andi v366 v363
  let v368 : BitVec 32 := Scalar.addi v362 v361
  let v369 : BitVec 32 := Scalar.select v367 v368 v362
  let c1_i32_285 : BitVec 32 := 1#32
  let v372 : BitVec 32 := Scalar.muli v369 c1_i32_285
  let v373 : BitVec 32 := Scalar.addi c0_i32_286 v372
  v373.toNat
def k0_dev24 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_290 : BitVec 32 := 12#32
  let v381 : BitVec 32 := Scalar.addi v2 c12_i32_290
  let c16_i32_291 : BitVec 32 := 16#32
  let c0_i32_292 : BitVec 32 := 0#32
  let v382 : BitVec 1 := Scalar.cmpi .eq c16_i32_291 c0_i32_292
  let c1_i32_293 : BitVec 32 := 1#32
  let v383 : BitVec 32 := Scalar.select v382 c1_i32_293 c16_i32_291
  let v384 : BitVec 32 := Scalar.remsi v381 v383
  let c0_i32_295 : BitVec 32 := 0#32
  let v386 : BitVec 1 := Scalar.cmpi .slt v384 c0_i32_295
  let c0_i32_296 : BitVec 32 := 0#32
  let v387 : BitVec 1 := Scalar.cmpi .slt v383 c0_i32_296
  let v388 : BitVec 1 := Scalar.xori v386 v387
  let c0_i32_294 : BitVec 32 := 0#32
  let v385 : BitVec 1 := Scalar.cmpi .ne v384 c0_i32_294
  let v389 : BitVec 1 := Scalar.andi v388 v385
  let v390 : BitVec 32 := Scalar.addi v384 v383
  let v391 : BitVec 32 := Scalar.select v389 v390 v384
  let c1_i32_304 : BitVec 32 := 1#32
  let v394 : BitVec 32 := Scalar.muli v391 c1_i32_304
  let v395 : BitVec 32 := Scalar.addi c0_i32_305 v394
  v395.toNat
def k0_dev25 (d0 : Dev nD) : Nat :=
  let c0_i32_324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_309 : BitVec 32 := 3#32
  let v403 : BitVec 32 := Scalar.addi v2 c3_i32_309
  let c16_i32_310 : BitVec 32 := 16#32
  let c0_i32_311 : BitVec 32 := 0#32
  let v404 : BitVec 1 := Scalar.cmpi .eq c16_i32_310 c0_i32_311
  let c1_i32_312 : BitVec 32 := 1#32
  let v405 : BitVec 32 := Scalar.select v404 c1_i32_312 c16_i32_310
  let v406 : BitVec 32 := Scalar.remsi v403 v405
  let c0_i32_314 : BitVec 32 := 0#32
  let v408 : BitVec 1 := Scalar.cmpi .slt v406 c0_i32_314
  let c0_i32_315 : BitVec 32 := 0#32
  let v409 : BitVec 1 := Scalar.cmpi .slt v405 c0_i32_315
  let v410 : BitVec 1 := Scalar.xori v408 v409
  let c0_i32_313 : BitVec 32 := 0#32
  let v407 : BitVec 1 := Scalar.cmpi .ne v406 c0_i32_313
  let v411 : BitVec 1 := Scalar.andi v410 v407
  let v412 : BitVec 32 := Scalar.addi v406 v405
  let v413 : BitVec 32 := Scalar.select v411 v412 v406
  let c1_i32_323 : BitVec 32 := 1#32
  let v416 : BitVec 32 := Scalar.muli v413 c1_i32_323
  let v417 : BitVec 32 := Scalar.addi c0_i32_324 v416
  v417.toNat
def k0_dev26 (d0 : Dev nD) : Nat :=
  let c0_i32_343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_328 : BitVec 32 := 13#32
  let v425 : BitVec 32 := Scalar.addi v2 c13_i32_328
  let c16_i32_329 : BitVec 32 := 16#32
  let c0_i32_330 : BitVec 32 := 0#32
  let v426 : BitVec 1 := Scalar.cmpi .eq c16_i32_329 c0_i32_330
  let c1_i32_331 : BitVec 32 := 1#32
  let v427 : BitVec 32 := Scalar.select v426 c1_i32_331 c16_i32_329
  let v428 : BitVec 32 := Scalar.remsi v425 v427
  let c0_i32_333 : BitVec 32 := 0#32
  let v430 : BitVec 1 := Scalar.cmpi .slt v428 c0_i32_333
  let c0_i32_334 : BitVec 32 := 0#32
  let v431 : BitVec 1 := Scalar.cmpi .slt v427 c0_i32_334
  let v432 : BitVec 1 := Scalar.xori v430 v431
  let c0_i32_332 : BitVec 32 := 0#32
  let v429 : BitVec 1 := Scalar.cmpi .ne v428 c0_i32_332
  let v433 : BitVec 1 := Scalar.andi v432 v429
  let v434 : BitVec 32 := Scalar.addi v428 v427
  let v435 : BitVec 32 := Scalar.select v433 v434 v428
  let c1_i32_342 : BitVec 32 := 1#32
  let v438 : BitVec 32 := Scalar.muli v435 c1_i32_342
  let v439 : BitVec 32 := Scalar.addi c0_i32_343 v438
  v439.toNat
def k0_dev27 (d0 : Dev nD) : Nat :=
  let c0_i32_362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_347 : BitVec 32 := 2#32
  let v447 : BitVec 32 := Scalar.addi v2 c2_i32_347
  let c16_i32_348 : BitVec 32 := 16#32
  let c0_i32_349 : BitVec 32 := 0#32
  let v448 : BitVec 1 := Scalar.cmpi .eq c16_i32_348 c0_i32_349
  let c1_i32_350 : BitVec 32 := 1#32
  let v449 : BitVec 32 := Scalar.select v448 c1_i32_350 c16_i32_348
  let v450 : BitVec 32 := Scalar.remsi v447 v449
  let c0_i32_352 : BitVec 32 := 0#32
  let v452 : BitVec 1 := Scalar.cmpi .slt v450 c0_i32_352
  let c0_i32_353 : BitVec 32 := 0#32
  let v453 : BitVec 1 := Scalar.cmpi .slt v449 c0_i32_353
  let v454 : BitVec 1 := Scalar.xori v452 v453
  let c0_i32_351 : BitVec 32 := 0#32
  let v451 : BitVec 1 := Scalar.cmpi .ne v450 c0_i32_351
  let v455 : BitVec 1 := Scalar.andi v454 v451
  let v456 : BitVec 32 := Scalar.addi v450 v449
  let v457 : BitVec 32 := Scalar.select v455 v456 v450
  let c1_i32_361 : BitVec 32 := 1#32
  let v460 : BitVec 32 := Scalar.muli v457 c1_i32_361
  let v461 : BitVec 32 := Scalar.addi c0_i32_362 v460
  v461.toNat
def k0_dev28 (d0 : Dev nD) : Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_366 : BitVec 32 := 14#32
  let v469 : BitVec 32 := Scalar.addi v2 c14_i32_366
  let c16_i32_367 : BitVec 32 := 16#32
  let c0_i32_368 : BitVec 32 := 0#32
  let v470 : BitVec 1 := Scalar.cmpi .eq c16_i32_367 c0_i32_368
  let c1_i32_369 : BitVec 32 := 1#32
  let v471 : BitVec 32 := Scalar.select v470 c1_i32_369 c16_i32_367
  let v472 : BitVec 32 := Scalar.remsi v469 v471
  let c0_i32_371 : BitVec 32 := 0#32
  let v474 : BitVec 1 := Scalar.cmpi .slt v472 c0_i32_371
  let c0_i32_372 : BitVec 32 := 0#32
  let v475 : BitVec 1 := Scalar.cmpi .slt v471 c0_i32_372
  let v476 : BitVec 1 := Scalar.xori v474 v475
  let c0_i32_370 : BitVec 32 := 0#32
  let v473 : BitVec 1 := Scalar.cmpi .ne v472 c0_i32_370
  let v477 : BitVec 1 := Scalar.andi v476 v473
  let v478 : BitVec 32 := Scalar.addi v472 v471
  let v479 : BitVec 32 := Scalar.select v477 v478 v472
  let c1_i32_380 : BitVec 32 := 1#32
  let v482 : BitVec 32 := Scalar.muli v479 c1_i32_380
  let v483 : BitVec 32 := Scalar.addi c0_i32_381 v482
  v483.toNat
def k0_dev29 (d0 : Dev nD) : Nat :=
  let c0_i32_400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_385 : BitVec 32 := 1#32
  let v491 : BitVec 32 := Scalar.addi v2 c1_i32_385
  let c16_i32_386 : BitVec 32 := 16#32
  let c0_i32_387 : BitVec 32 := 0#32
  let v492 : BitVec 1 := Scalar.cmpi .eq c16_i32_386 c0_i32_387
  let c1_i32_388 : BitVec 32 := 1#32
  let v493 : BitVec 32 := Scalar.select v492 c1_i32_388 c16_i32_386
  let v494 : BitVec 32 := Scalar.remsi v491 v493
  let c0_i32_390 : BitVec 32 := 0#32
  let v496 : BitVec 1 := Scalar.cmpi .slt v494 c0_i32_390
  let c0_i32_391 : BitVec 32 := 0#32
  let v497 : BitVec 1 := Scalar.cmpi .slt v493 c0_i32_391
  let v498 : BitVec 1 := Scalar.xori v496 v497
  let c0_i32_389 : BitVec 32 := 0#32
  let v495 : BitVec 1 := Scalar.cmpi .ne v494 c0_i32_389
  let v499 : BitVec 1 := Scalar.andi v498 v495
  let v500 : BitVec 32 := Scalar.addi v494 v493
  let v501 : BitVec 32 := Scalar.select v499 v500 v494
  let c1_i32_399 : BitVec 32 := 1#32
  let v504 : BitVec 32 := Scalar.muli v501 c1_i32_399
  let v505 : BitVec 32 := Scalar.addi c0_i32_400 v504
  v505.toNat
def k0_dev30 (d0 : Dev nD) : Nat :=
  let c0_i32_419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_404 : BitVec 32 := 15#32
  let v513 : BitVec 32 := Scalar.addi v2 c15_i32_404
  let c16_i32_405 : BitVec 32 := 16#32
  let c0_i32_406 : BitVec 32 := 0#32
  let v514 : BitVec 1 := Scalar.cmpi .eq c16_i32_405 c0_i32_406
  let c1_i32_407 : BitVec 32 := 1#32
  let v515 : BitVec 32 := Scalar.select v514 c1_i32_407 c16_i32_405
  let v516 : BitVec 32 := Scalar.remsi v513 v515
  let c0_i32_409 : BitVec 32 := 0#32
  let v518 : BitVec 1 := Scalar.cmpi .slt v516 c0_i32_409
  let c0_i32_410 : BitVec 32 := 0#32
  let v519 : BitVec 1 := Scalar.cmpi .slt v515 c0_i32_410
  let v520 : BitVec 1 := Scalar.xori v518 v519
  let c0_i32_408 : BitVec 32 := 0#32
  let v517 : BitVec 1 := Scalar.cmpi .ne v516 c0_i32_408
  let v521 : BitVec 1 := Scalar.andi v520 v517
  let v522 : BitVec 32 := Scalar.addi v516 v515
  let v523 : BitVec 32 := Scalar.select v521 v522 v516
  let c1_i32_418 : BitVec 32 := 1#32
  let v526 : BitVec 32 := Scalar.muli v523 c1_i32_418
  let v527 : BitVec 32 := Scalar.addi c0_i32_419 v526
  v527.toNat
def k0_off3 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_432 : BitVec 32 := 1#32
  let c0_i32_439 : BitVec 32 := 0#32
  let c0_i32_440 : BitVec 32 := 0#32
  ![v2.toNat, 1, 0, 0]
def k0_dev31 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_423 : BitVec 32 := 8#32
  let v535 : BitVec 32 := Scalar.addi v2 c8_i32_423
  let c16_i32_424 : BitVec 32 := 16#32
  let c0_i32_425 : BitVec 32 := 0#32
  let v536 : BitVec 1 := Scalar.cmpi .eq c16_i32_424 c0_i32_425
  let c1_i32_426 : BitVec 32 := 1#32
  let v537 : BitVec 32 := Scalar.select v536 c1_i32_426 c16_i32_424
  let v538 : BitVec 32 := Scalar.remsi v535 v537
  let c0_i32_428 : BitVec 32 := 0#32
  let v540 : BitVec 1 := Scalar.cmpi .slt v538 c0_i32_428
  let c0_i32_429 : BitVec 32 := 0#32
  let v541 : BitVec 1 := Scalar.cmpi .slt v537 c0_i32_429
  let v542 : BitVec 1 := Scalar.xori v540 v541
  let c0_i32_427 : BitVec 32 := 0#32
  let v539 : BitVec 1 := Scalar.cmpi .ne v538 c0_i32_427
  let v543 : BitVec 1 := Scalar.andi v542 v539
  let v544 : BitVec 32 := Scalar.addi v538 v537
  let v545 : BitVec 32 := Scalar.select v543 v544 v538
  let c1_i32_437 : BitVec 32 := 1#32
  let v548 : BitVec 32 := Scalar.muli v545 c1_i32_437
  let v549 : BitVec 32 := Scalar.addi c0_i32_438 v548
  v549.toNat
def k0_dev32 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_442 : BitVec 32 := 7#32
  let v557 : BitVec 32 := Scalar.addi v2 c7_i32_442
  let c16_i32_443 : BitVec 32 := 16#32
  let c0_i32_444 : BitVec 32 := 0#32
  let v558 : BitVec 1 := Scalar.cmpi .eq c16_i32_443 c0_i32_444
  let c1_i32_445 : BitVec 32 := 1#32
  let v559 : BitVec 32 := Scalar.select v558 c1_i32_445 c16_i32_443
  let v560 : BitVec 32 := Scalar.remsi v557 v559
  let c0_i32_447 : BitVec 32 := 0#32
  let v562 : BitVec 1 := Scalar.cmpi .slt v560 c0_i32_447
  let c0_i32_448 : BitVec 32 := 0#32
  let v563 : BitVec 1 := Scalar.cmpi .slt v559 c0_i32_448
  let v564 : BitVec 1 := Scalar.xori v562 v563
  let c0_i32_446 : BitVec 32 := 0#32
  let v561 : BitVec 1 := Scalar.cmpi .ne v560 c0_i32_446
  let v565 : BitVec 1 := Scalar.andi v564 v561
  let v566 : BitVec 32 := Scalar.addi v560 v559
  let v567 : BitVec 32 := Scalar.select v565 v566 v560
  let c1_i32_456 : BitVec 32 := 1#32
  let v570 : BitVec 32 := Scalar.muli v567 c1_i32_456
  let v571 : BitVec 32 := Scalar.addi c0_i32_457 v570
  v571.toNat
def k0_dev33 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_461 : BitVec 32 := 9#32
  let v579 : BitVec 32 := Scalar.addi v2 c9_i32_461
  let c16_i32_462 : BitVec 32 := 16#32
  let c0_i32_463 : BitVec 32 := 0#32
  let v580 : BitVec 1 := Scalar.cmpi .eq c16_i32_462 c0_i32_463
  let c1_i32_464 : BitVec 32 := 1#32
  let v581 : BitVec 32 := Scalar.select v580 c1_i32_464 c16_i32_462
  let v582 : BitVec 32 := Scalar.remsi v579 v581
  let c0_i32_466 : BitVec 32 := 0#32
  let v584 : BitVec 1 := Scalar.cmpi .slt v582 c0_i32_466
  let c0_i32_467 : BitVec 32 := 0#32
  let v585 : BitVec 1 := Scalar.cmpi .slt v581 c0_i32_467
  let v586 : BitVec 1 := Scalar.xori v584 v585
  let c0_i32_465 : BitVec 32 := 0#32
  let v583 : BitVec 1 := Scalar.cmpi .ne v582 c0_i32_465
  let v587 : BitVec 1 := Scalar.andi v586 v583
  let v588 : BitVec 32 := Scalar.addi v582 v581
  let v589 : BitVec 32 := Scalar.select v587 v588 v582
  let c1_i32_475 : BitVec 32 := 1#32
  let v592 : BitVec 32 := Scalar.muli v589 c1_i32_475
  let v593 : BitVec 32 := Scalar.addi c0_i32_476 v592
  v593.toNat
def k0_dev34 (d0 : Dev nD) : Nat :=
  let c0_i32_495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_480 : BitVec 32 := 6#32
  let v601 : BitVec 32 := Scalar.addi v2 c6_i32_480
  let c16_i32_481 : BitVec 32 := 16#32
  let c0_i32_482 : BitVec 32 := 0#32
  let v602 : BitVec 1 := Scalar.cmpi .eq c16_i32_481 c0_i32_482
  let c1_i32_483 : BitVec 32 := 1#32
  let v603 : BitVec 32 := Scalar.select v602 c1_i32_483 c16_i32_481
  let v604 : BitVec 32 := Scalar.remsi v601 v603
  let c0_i32_485 : BitVec 32 := 0#32
  let v606 : BitVec 1 := Scalar.cmpi .slt v604 c0_i32_485
  let c0_i32_486 : BitVec 32 := 0#32
  let v607 : BitVec 1 := Scalar.cmpi .slt v603 c0_i32_486
  let v608 : BitVec 1 := Scalar.xori v606 v607
  let c0_i32_484 : BitVec 32 := 0#32
  let v605 : BitVec 1 := Scalar.cmpi .ne v604 c0_i32_484
  let v609 : BitVec 1 := Scalar.andi v608 v605
  let v610 : BitVec 32 := Scalar.addi v604 v603
  let v611 : BitVec 32 := Scalar.select v609 v610 v604
  let c1_i32_494 : BitVec 32 := 1#32
  let v614 : BitVec 32 := Scalar.muli v611 c1_i32_494
  let v615 : BitVec 32 := Scalar.addi c0_i32_495 v614
  v615.toNat
def k0_dev35 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_499 : BitVec 32 := 10#32
  let v623 : BitVec 32 := Scalar.addi v2 c10_i32_499
  let c16_i32_500 : BitVec 32 := 16#32
  let c0_i32_501 : BitVec 32 := 0#32
  let v624 : BitVec 1 := Scalar.cmpi .eq c16_i32_500 c0_i32_501
  let c1_i32_502 : BitVec 32 := 1#32
  let v625 : BitVec 32 := Scalar.select v624 c1_i32_502 c16_i32_500
  let v626 : BitVec 32 := Scalar.remsi v623 v625
  let c0_i32_504 : BitVec 32 := 0#32
  let v628 : BitVec 1 := Scalar.cmpi .slt v626 c0_i32_504
  let c0_i32_505 : BitVec 32 := 0#32
  let v629 : BitVec 1 := Scalar.cmpi .slt v625 c0_i32_505
  let v630 : BitVec 1 := Scalar.xori v628 v629
  let c0_i32_503 : BitVec 32 := 0#32
  let v627 : BitVec 1 := Scalar.cmpi .ne v626 c0_i32_503
  let v631 : BitVec 1 := Scalar.andi v630 v627
  let v632 : BitVec 32 := Scalar.addi v626 v625
  let v633 : BitVec 32 := Scalar.select v631 v632 v626
  let c1_i32_513 : BitVec 32 := 1#32
  let v636 : BitVec 32 := Scalar.muli v633 c1_i32_513
  let v637 : BitVec 32 := Scalar.addi c0_i32_514 v636
  v637.toNat
def k0_dev36 (d0 : Dev nD) : Nat :=
  let c0_i32_533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_518 : BitVec 32 := 5#32
  let v645 : BitVec 32 := Scalar.addi v2 c5_i32_518
  let c16_i32_519 : BitVec 32 := 16#32
  let c0_i32_520 : BitVec 32 := 0#32
  let v646 : BitVec 1 := Scalar.cmpi .eq c16_i32_519 c0_i32_520
  let c1_i32_521 : BitVec 32 := 1#32
  let v647 : BitVec 32 := Scalar.select v646 c1_i32_521 c16_i32_519
  let v648 : BitVec 32 := Scalar.remsi v645 v647
  let c0_i32_523 : BitVec 32 := 0#32
  let v650 : BitVec 1 := Scalar.cmpi .slt v648 c0_i32_523
  let c0_i32_524 : BitVec 32 := 0#32
  let v651 : BitVec 1 := Scalar.cmpi .slt v647 c0_i32_524
  let v652 : BitVec 1 := Scalar.xori v650 v651
  let c0_i32_522 : BitVec 32 := 0#32
  let v649 : BitVec 1 := Scalar.cmpi .ne v648 c0_i32_522
  let v653 : BitVec 1 := Scalar.andi v652 v649
  let v654 : BitVec 32 := Scalar.addi v648 v647
  let v655 : BitVec 32 := Scalar.select v653 v654 v648
  let c1_i32_532 : BitVec 32 := 1#32
  let v658 : BitVec 32 := Scalar.muli v655 c1_i32_532
  let v659 : BitVec 32 := Scalar.addi c0_i32_533 v658
  v659.toNat
def k0_dev37 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_537 : BitVec 32 := 11#32
  let v667 : BitVec 32 := Scalar.addi v2 c11_i32_537
  let c16_i32_538 : BitVec 32 := 16#32
  let c0_i32_539 : BitVec 32 := 0#32
  let v668 : BitVec 1 := Scalar.cmpi .eq c16_i32_538 c0_i32_539
  let c1_i32_540 : BitVec 32 := 1#32
  let v669 : BitVec 32 := Scalar.select v668 c1_i32_540 c16_i32_538
  let v670 : BitVec 32 := Scalar.remsi v667 v669
  let c0_i32_542 : BitVec 32 := 0#32
  let v672 : BitVec 1 := Scalar.cmpi .slt v670 c0_i32_542
  let c0_i32_543 : BitVec 32 := 0#32
  let v673 : BitVec 1 := Scalar.cmpi .slt v669 c0_i32_543
  let v674 : BitVec 1 := Scalar.xori v672 v673
  let c0_i32_541 : BitVec 32 := 0#32
  let v671 : BitVec 1 := Scalar.cmpi .ne v670 c0_i32_541
  let v675 : BitVec 1 := Scalar.andi v674 v671
  let v676 : BitVec 32 := Scalar.addi v670 v669
  let v677 : BitVec 32 := Scalar.select v675 v676 v670
  let c1_i32_551 : BitVec 32 := 1#32
  let v680 : BitVec 32 := Scalar.muli v677 c1_i32_551
  let v681 : BitVec 32 := Scalar.addi c0_i32_552 v680
  v681.toNat
def k0_dev38 (d0 : Dev nD) : Nat :=
  let c0_i32_571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_556 : BitVec 32 := 4#32
  let v689 : BitVec 32 := Scalar.addi v2 c4_i32_556
  let c16_i32_557 : BitVec 32 := 16#32
  let c0_i32_558 : BitVec 32 := 0#32
  let v690 : BitVec 1 := Scalar.cmpi .eq c16_i32_557 c0_i32_558
  let c1_i32_559 : BitVec 32 := 1#32
  let v691 : BitVec 32 := Scalar.select v690 c1_i32_559 c16_i32_557
  let v692 : BitVec 32 := Scalar.remsi v689 v691
  let c0_i32_561 : BitVec 32 := 0#32
  let v694 : BitVec 1 := Scalar.cmpi .slt v692 c0_i32_561
  let c0_i32_562 : BitVec 32 := 0#32
  let v695 : BitVec 1 := Scalar.cmpi .slt v691 c0_i32_562
  let v696 : BitVec 1 := Scalar.xori v694 v695
  let c0_i32_560 : BitVec 32 := 0#32
  let v693 : BitVec 1 := Scalar.cmpi .ne v692 c0_i32_560
  let v697 : BitVec 1 := Scalar.andi v696 v693
  let v698 : BitVec 32 := Scalar.addi v692 v691
  let v699 : BitVec 32 := Scalar.select v697 v698 v692
  let c1_i32_570 : BitVec 32 := 1#32
  let v702 : BitVec 32 := Scalar.muli v699 c1_i32_570
  let v703 : BitVec 32 := Scalar.addi c0_i32_571 v702
  v703.toNat
def k0_dev39 (d0 : Dev nD) : Nat :=
  let c0_i32_590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_575 : BitVec 32 := 12#32
  let v711 : BitVec 32 := Scalar.addi v2 c12_i32_575
  let c16_i32_576 : BitVec 32 := 16#32
  let c0_i32_577 : BitVec 32 := 0#32
  let v712 : BitVec 1 := Scalar.cmpi .eq c16_i32_576 c0_i32_577
  let c1_i32_578 : BitVec 32 := 1#32
  let v713 : BitVec 32 := Scalar.select v712 c1_i32_578 c16_i32_576
  let v714 : BitVec 32 := Scalar.remsi v711 v713
  let c0_i32_580 : BitVec 32 := 0#32
  let v716 : BitVec 1 := Scalar.cmpi .slt v714 c0_i32_580
  let c0_i32_581 : BitVec 32 := 0#32
  let v717 : BitVec 1 := Scalar.cmpi .slt v713 c0_i32_581
  let v718 : BitVec 1 := Scalar.xori v716 v717
  let c0_i32_579 : BitVec 32 := 0#32
  let v715 : BitVec 1 := Scalar.cmpi .ne v714 c0_i32_579
  let v719 : BitVec 1 := Scalar.andi v718 v715
  let v720 : BitVec 32 := Scalar.addi v714 v713
  let v721 : BitVec 32 := Scalar.select v719 v720 v714
  let c1_i32_589 : BitVec 32 := 1#32
  let v724 : BitVec 32 := Scalar.muli v721 c1_i32_589
  let v725 : BitVec 32 := Scalar.addi c0_i32_590 v724
  v725.toNat
def k0_dev40 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_594 : BitVec 32 := 3#32
  let v733 : BitVec 32 := Scalar.addi v2 c3_i32_594
  let c16_i32_595 : BitVec 32 := 16#32
  let c0_i32_596 : BitVec 32 := 0#32
  let v734 : BitVec 1 := Scalar.cmpi .eq c16_i32_595 c0_i32_596
  let c1_i32_597 : BitVec 32 := 1#32
  let v735 : BitVec 32 := Scalar.select v734 c1_i32_597 c16_i32_595
  let v736 : BitVec 32 := Scalar.remsi v733 v735
  let c0_i32_599 : BitVec 32 := 0#32
  let v738 : BitVec 1 := Scalar.cmpi .slt v736 c0_i32_599
  let c0_i32_600 : BitVec 32 := 0#32
  let v739 : BitVec 1 := Scalar.cmpi .slt v735 c0_i32_600
  let v740 : BitVec 1 := Scalar.xori v738 v739
  let c0_i32_598 : BitVec 32 := 0#32
  let v737 : BitVec 1 := Scalar.cmpi .ne v736 c0_i32_598
  let v741 : BitVec 1 := Scalar.andi v740 v737
  let v742 : BitVec 32 := Scalar.addi v736 v735
  let v743 : BitVec 32 := Scalar.select v741 v742 v736
  let c1_i32_608 : BitVec 32 := 1#32
  let v746 : BitVec 32 := Scalar.muli v743 c1_i32_608
  let v747 : BitVec 32 := Scalar.addi c0_i32_609 v746
  v747.toNat
def k0_dev41 (d0 : Dev nD) : Nat :=
  let c0_i32_628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_613 : BitVec 32 := 13#32
  let v755 : BitVec 32 := Scalar.addi v2 c13_i32_613
  let c16_i32_614 : BitVec 32 := 16#32
  let c0_i32_615 : BitVec 32 := 0#32
  let v756 : BitVec 1 := Scalar.cmpi .eq c16_i32_614 c0_i32_615
  let c1_i32_616 : BitVec 32 := 1#32
  let v757 : BitVec 32 := Scalar.select v756 c1_i32_616 c16_i32_614
  let v758 : BitVec 32 := Scalar.remsi v755 v757
  let c0_i32_618 : BitVec 32 := 0#32
  let v760 : BitVec 1 := Scalar.cmpi .slt v758 c0_i32_618
  let c0_i32_619 : BitVec 32 := 0#32
  let v761 : BitVec 1 := Scalar.cmpi .slt v757 c0_i32_619
  let v762 : BitVec 1 := Scalar.xori v760 v761
  let c0_i32_617 : BitVec 32 := 0#32
  let v759 : BitVec 1 := Scalar.cmpi .ne v758 c0_i32_617
  let v763 : BitVec 1 := Scalar.andi v762 v759
  let v764 : BitVec 32 := Scalar.addi v758 v757
  let v765 : BitVec 32 := Scalar.select v763 v764 v758
  let c1_i32_627 : BitVec 32 := 1#32
  let v768 : BitVec 32 := Scalar.muli v765 c1_i32_627
  let v769 : BitVec 32 := Scalar.addi c0_i32_628 v768
  v769.toNat
def k0_dev42 (d0 : Dev nD) : Nat :=
  let c0_i32_647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_632 : BitVec 32 := 2#32
  let v777 : BitVec 32 := Scalar.addi v2 c2_i32_632
  let c16_i32_633 : BitVec 32 := 16#32
  let c0_i32_634 : BitVec 32 := 0#32
  let v778 : BitVec 1 := Scalar.cmpi .eq c16_i32_633 c0_i32_634
  let c1_i32_635 : BitVec 32 := 1#32
  let v779 : BitVec 32 := Scalar.select v778 c1_i32_635 c16_i32_633
  let v780 : BitVec 32 := Scalar.remsi v777 v779
  let c0_i32_637 : BitVec 32 := 0#32
  let v782 : BitVec 1 := Scalar.cmpi .slt v780 c0_i32_637
  let c0_i32_638 : BitVec 32 := 0#32
  let v783 : BitVec 1 := Scalar.cmpi .slt v779 c0_i32_638
  let v784 : BitVec 1 := Scalar.xori v782 v783
  let c0_i32_636 : BitVec 32 := 0#32
  let v781 : BitVec 1 := Scalar.cmpi .ne v780 c0_i32_636
  let v785 : BitVec 1 := Scalar.andi v784 v781
  let v786 : BitVec 32 := Scalar.addi v780 v779
  let v787 : BitVec 32 := Scalar.select v785 v786 v780
  let c1_i32_646 : BitVec 32 := 1#32
  let v790 : BitVec 32 := Scalar.muli v787 c1_i32_646
  let v791 : BitVec 32 := Scalar.addi c0_i32_647 v790
  v791.toNat
def k0_dev43 (d0 : Dev nD) : Nat :=
  let c0_i32_666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_651 : BitVec 32 := 14#32
  let v799 : BitVec 32 := Scalar.addi v2 c14_i32_651
  let c16_i32_652 : BitVec 32 := 16#32
  let c0_i32_653 : BitVec 32 := 0#32
  let v800 : BitVec 1 := Scalar.cmpi .eq c16_i32_652 c0_i32_653
  let c1_i32_654 : BitVec 32 := 1#32
  let v801 : BitVec 32 := Scalar.select v800 c1_i32_654 c16_i32_652
  let v802 : BitVec 32 := Scalar.remsi v799 v801
  let c0_i32_656 : BitVec 32 := 0#32
  let v804 : BitVec 1 := Scalar.cmpi .slt v802 c0_i32_656
  let c0_i32_657 : BitVec 32 := 0#32
  let v805 : BitVec 1 := Scalar.cmpi .slt v801 c0_i32_657
  let v806 : BitVec 1 := Scalar.xori v804 v805
  let c0_i32_655 : BitVec 32 := 0#32
  let v803 : BitVec 1 := Scalar.cmpi .ne v802 c0_i32_655
  let v807 : BitVec 1 := Scalar.andi v806 v803
  let v808 : BitVec 32 := Scalar.addi v802 v801
  let v809 : BitVec 32 := Scalar.select v807 v808 v802
  let c1_i32_665 : BitVec 32 := 1#32
  let v812 : BitVec 32 := Scalar.muli v809 c1_i32_665
  let v813 : BitVec 32 := Scalar.addi c0_i32_666 v812
  v813.toNat
def k0_dev44 (d0 : Dev nD) : Nat :=
  let c0_i32_685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_670 : BitVec 32 := 1#32
  let v821 : BitVec 32 := Scalar.addi v2 c1_i32_670
  let c16_i32_671 : BitVec 32 := 16#32
  let c0_i32_672 : BitVec 32 := 0#32
  let v822 : BitVec 1 := Scalar.cmpi .eq c16_i32_671 c0_i32_672
  let c1_i32_673 : BitVec 32 := 1#32
  let v823 : BitVec 32 := Scalar.select v822 c1_i32_673 c16_i32_671
  let v824 : BitVec 32 := Scalar.remsi v821 v823
  let c0_i32_675 : BitVec 32 := 0#32
  let v826 : BitVec 1 := Scalar.cmpi .slt v824 c0_i32_675
  let c0_i32_676 : BitVec 32 := 0#32
  let v827 : BitVec 1 := Scalar.cmpi .slt v823 c0_i32_676
  let v828 : BitVec 1 := Scalar.xori v826 v827
  let c0_i32_674 : BitVec 32 := 0#32
  let v825 : BitVec 1 := Scalar.cmpi .ne v824 c0_i32_674
  let v829 : BitVec 1 := Scalar.andi v828 v825
  let v830 : BitVec 32 := Scalar.addi v824 v823
  let v831 : BitVec 32 := Scalar.select v829 v830 v824
  let c1_i32_684 : BitVec 32 := 1#32
  let v834 : BitVec 32 := Scalar.muli v831 c1_i32_684
  let v835 : BitVec 32 := Scalar.addi c0_i32_685 v834
  v835.toNat
def k0_dev45 (d0 : Dev nD) : Nat :=
  let c0_i32_704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_689 : BitVec 32 := 15#32
  let v843 : BitVec 32 := Scalar.addi v2 c15_i32_689
  let c16_i32_690 : BitVec 32 := 16#32
  let c0_i32_691 : BitVec 32 := 0#32
  let v844 : BitVec 1 := Scalar.cmpi .eq c16_i32_690 c0_i32_691
  let c1_i32_692 : BitVec 32 := 1#32
  let v845 : BitVec 32 := Scalar.select v844 c1_i32_692 c16_i32_690
  let v846 : BitVec 32 := Scalar.remsi v843 v845
  let c0_i32_694 : BitVec 32 := 0#32
  let v848 : BitVec 1 := Scalar.cmpi .slt v846 c0_i32_694
  let c0_i32_695 : BitVec 32 := 0#32
  let v849 : BitVec 1 := Scalar.cmpi .slt v845 c0_i32_695
  let v850 : BitVec 1 := Scalar.xori v848 v849
  let c0_i32_693 : BitVec 32 := 0#32
  let v847 : BitVec 1 := Scalar.cmpi .ne v846 c0_i32_693
  let v851 : BitVec 1 := Scalar.andi v850 v847
  let v852 : BitVec 32 := Scalar.addi v846 v845
  let v853 : BitVec 32 := Scalar.select v851 v852 v846
  let c1_i32_703 : BitVec 32 := 1#32
  let v856 : BitVec 32 := Scalar.muli v853 c1_i32_703
  let v857 : BitVec 32 := Scalar.addi c0_i32_704 v856
  v857.toNat
def k0_off4 (d0 : Dev nD) (c0_i32_709 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_708 : BitVec 32 := 32#32
  let v865 : BitVec 32 := Scalar.muli v2 c32_i32_708
  let v866 : BitVec 32 := Scalar.addi v865 c0_i32_709
  let v867 : Index := Scalar.indexCast v866
  let c0_710 : Index := 0#32
  ![v867.toNat, 0]
def k0_off5 (d0 : Dev nD) (c1_i32_711 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v870 : BitVec 32 := Scalar.subi v2 c1_i32_711
  let c16_i32_712 : BitVec 32 := 16#32
  let c0_i32_713 : BitVec 32 := 0#32
  let v871 : BitVec 1 := Scalar.cmpi .eq c16_i32_712 c0_i32_713
  let c1_i32_714 : BitVec 32 := 1#32
  let v872 : BitVec 32 := Scalar.select v871 c1_i32_714 c16_i32_712
  let v873 : BitVec 32 := Scalar.remsi v870 v872
  let c0_i32_716 : BitVec 32 := 0#32
  let v875 : BitVec 1 := Scalar.cmpi .slt v873 c0_i32_716
  let c0_i32_717 : BitVec 32 := 0#32
  let v876 : BitVec 1 := Scalar.cmpi .slt v872 c0_i32_717
  let v877 : BitVec 1 := Scalar.xori v875 v876
  let c0_i32_715 : BitVec 32 := 0#32
  let v874 : BitVec 1 := Scalar.cmpi .ne v873 c0_i32_715
  let v878 : BitVec 1 := Scalar.andi v877 v874
  let v879 : BitVec 32 := Scalar.addi v873 v872
  let v880 : BitVec 32 := Scalar.select v878 v879 v873
  let c0_i32_719 : BitVec 32 := 0#32
  let c0_i32_726 : BitVec 32 := 0#32
  let c0_i32_727 : BitVec 32 := 0#32
  ![v880.toNat, 0, 0, 0]
def k0_off6 (d0 : Dev nD) (c1_i32_711 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v870 : BitVec 32 := Scalar.subi v2 c1_i32_711
  let c16_i32_712 : BitVec 32 := 16#32
  let c0_i32_713 : BitVec 32 := 0#32
  let v871 : BitVec 1 := Scalar.cmpi .eq c16_i32_712 c0_i32_713
  let c1_i32_714 : BitVec 32 := 1#32
  let v872 : BitVec 32 := Scalar.select v871 c1_i32_714 c16_i32_712
  let v873 : BitVec 32 := Scalar.remsi v870 v872
  let c0_i32_716 : BitVec 32 := 0#32
  let v875 : BitVec 1 := Scalar.cmpi .slt v873 c0_i32_716
  let c0_i32_717 : BitVec 32 := 0#32
  let v876 : BitVec 1 := Scalar.cmpi .slt v872 c0_i32_717
  let v877 : BitVec 1 := Scalar.xori v875 v876
  let c0_i32_715 : BitVec 32 := 0#32
  let v874 : BitVec 1 := Scalar.cmpi .ne v873 c0_i32_715
  let v878 : BitVec 1 := Scalar.andi v877 v874
  let v879 : BitVec 32 := Scalar.addi v873 v872
  let v880 : BitVec 32 := Scalar.select v878 v879 v873
  let v889 : Index := Scalar.indexCast v880
  let c0_730 : Index := 0#32
  let c0_731 : Index := 0#32
  let c0_732 : Index := 0#32
  ![v889.toNat, 0, 0, 0]
def k0_off7 (d0 : Dev nD) (c0_i32_1042 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1041 : BitVec 32 := 32#32
  let v1230 : BitVec 32 := Scalar.muli v2 c32_i32_1041
  let v1231 : BitVec 32 := Scalar.addi v1230 c0_i32_1042
  let c0_i32_1057 : BitVec 32 := 0#32
  ![v1231.toNat, 0]
def k0_dev46 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1044 : BitVec 32 := 8#32
  let v1235 : BitVec 32 := Scalar.addi v2 c8_i32_1044
  let c16_i32_1045 : BitVec 32 := 16#32
  let c0_i32_1046 : BitVec 32 := 0#32
  let v1236 : BitVec 1 := Scalar.cmpi .eq c16_i32_1045 c0_i32_1046
  let c1_i32_1047 : BitVec 32 := 1#32
  let v1237 : BitVec 32 := Scalar.select v1236 c1_i32_1047 c16_i32_1045
  let v1238 : BitVec 32 := Scalar.remsi v1235 v1237
  let c0_i32_1049 : BitVec 32 := 0#32
  let v1240 : BitVec 1 := Scalar.cmpi .slt v1238 c0_i32_1049
  let c0_i32_1050 : BitVec 32 := 0#32
  let v1241 : BitVec 1 := Scalar.cmpi .slt v1237 c0_i32_1050
  let v1242 : BitVec 1 := Scalar.xori v1240 v1241
  let c0_i32_1048 : BitVec 32 := 0#32
  let v1239 : BitVec 1 := Scalar.cmpi .ne v1238 c0_i32_1048
  let v1243 : BitVec 1 := Scalar.andi v1242 v1239
  let v1244 : BitVec 32 := Scalar.addi v1238 v1237
  let v1245 : BitVec 32 := Scalar.select v1243 v1244 v1238
  let c1_i32_1055 : BitVec 32 := 1#32
  let v1246 : BitVec 32 := Scalar.muli v1245 c1_i32_1055
  let v1247 : BitVec 32 := Scalar.addi c0_i32_1056 v1246
  v1247.toNat
def k0_dev47 (d0 : Dev nD) : Nat :=
  let c0_i32_1071 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1059 : BitVec 32 := 7#32
  let v1254 : BitVec 32 := Scalar.addi v2 c7_i32_1059
  let c16_i32_1060 : BitVec 32 := 16#32
  let c0_i32_1061 : BitVec 32 := 0#32
  let v1255 : BitVec 1 := Scalar.cmpi .eq c16_i32_1060 c0_i32_1061
  let c1_i32_1062 : BitVec 32 := 1#32
  let v1256 : BitVec 32 := Scalar.select v1255 c1_i32_1062 c16_i32_1060
  let v1257 : BitVec 32 := Scalar.remsi v1254 v1256
  let c0_i32_1064 : BitVec 32 := 0#32
  let v1259 : BitVec 1 := Scalar.cmpi .slt v1257 c0_i32_1064
  let c0_i32_1065 : BitVec 32 := 0#32
  let v1260 : BitVec 1 := Scalar.cmpi .slt v1256 c0_i32_1065
  let v1261 : BitVec 1 := Scalar.xori v1259 v1260
  let c0_i32_1063 : BitVec 32 := 0#32
  let v1258 : BitVec 1 := Scalar.cmpi .ne v1257 c0_i32_1063
  let v1262 : BitVec 1 := Scalar.andi v1261 v1258
  let v1263 : BitVec 32 := Scalar.addi v1257 v1256
  let v1264 : BitVec 32 := Scalar.select v1262 v1263 v1257
  let c1_i32_1070 : BitVec 32 := 1#32
  let v1265 : BitVec 32 := Scalar.muli v1264 c1_i32_1070
  let v1266 : BitVec 32 := Scalar.addi c0_i32_1071 v1265
  v1266.toNat
def k0_dev48 (d0 : Dev nD) : Nat :=
  let c0_i32_1086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1074 : BitVec 32 := 9#32
  let v1273 : BitVec 32 := Scalar.addi v2 c9_i32_1074
  let c16_i32_1075 : BitVec 32 := 16#32
  let c0_i32_1076 : BitVec 32 := 0#32
  let v1274 : BitVec 1 := Scalar.cmpi .eq c16_i32_1075 c0_i32_1076
  let c1_i32_1077 : BitVec 32 := 1#32
  let v1275 : BitVec 32 := Scalar.select v1274 c1_i32_1077 c16_i32_1075
  let v1276 : BitVec 32 := Scalar.remsi v1273 v1275
  let c0_i32_1079 : BitVec 32 := 0#32
  let v1278 : BitVec 1 := Scalar.cmpi .slt v1276 c0_i32_1079
  let c0_i32_1080 : BitVec 32 := 0#32
  let v1279 : BitVec 1 := Scalar.cmpi .slt v1275 c0_i32_1080
  let v1280 : BitVec 1 := Scalar.xori v1278 v1279
  let c0_i32_1078 : BitVec 32 := 0#32
  let v1277 : BitVec 1 := Scalar.cmpi .ne v1276 c0_i32_1078
  let v1281 : BitVec 1 := Scalar.andi v1280 v1277
  let v1282 : BitVec 32 := Scalar.addi v1276 v1275
  let v1283 : BitVec 32 := Scalar.select v1281 v1282 v1276
  let c1_i32_1085 : BitVec 32 := 1#32
  let v1284 : BitVec 32 := Scalar.muli v1283 c1_i32_1085
  let v1285 : BitVec 32 := Scalar.addi c0_i32_1086 v1284
  v1285.toNat
def k0_dev49 (d0 : Dev nD) : Nat :=
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1089 : BitVec 32 := 6#32
  let v1292 : BitVec 32 := Scalar.addi v2 c6_i32_1089
  let c16_i32_1090 : BitVec 32 := 16#32
  let c0_i32_1091 : BitVec 32 := 0#32
  let v1293 : BitVec 1 := Scalar.cmpi .eq c16_i32_1090 c0_i32_1091
  let c1_i32_1092 : BitVec 32 := 1#32
  let v1294 : BitVec 32 := Scalar.select v1293 c1_i32_1092 c16_i32_1090
  let v1295 : BitVec 32 := Scalar.remsi v1292 v1294
  let c0_i32_1094 : BitVec 32 := 0#32
  let v1297 : BitVec 1 := Scalar.cmpi .slt v1295 c0_i32_1094
  let c0_i32_1095 : BitVec 32 := 0#32
  let v1298 : BitVec 1 := Scalar.cmpi .slt v1294 c0_i32_1095
  let v1299 : BitVec 1 := Scalar.xori v1297 v1298
  let c0_i32_1093 : BitVec 32 := 0#32
  let v1296 : BitVec 1 := Scalar.cmpi .ne v1295 c0_i32_1093
  let v1300 : BitVec 1 := Scalar.andi v1299 v1296
  let v1301 : BitVec 32 := Scalar.addi v1295 v1294
  let v1302 : BitVec 32 := Scalar.select v1300 v1301 v1295
  let c1_i32_1100 : BitVec 32 := 1#32
  let v1303 : BitVec 32 := Scalar.muli v1302 c1_i32_1100
  let v1304 : BitVec 32 := Scalar.addi c0_i32_1101 v1303
  v1304.toNat
def k0_dev50 (d0 : Dev nD) : Nat :=
  let c0_i32_1116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1104 : BitVec 32 := 10#32
  let v1311 : BitVec 32 := Scalar.addi v2 c10_i32_1104
  let c16_i32_1105 : BitVec 32 := 16#32
  let c0_i32_1106 : BitVec 32 := 0#32
  let v1312 : BitVec 1 := Scalar.cmpi .eq c16_i32_1105 c0_i32_1106
  let c1_i32_1107 : BitVec 32 := 1#32
  let v1313 : BitVec 32 := Scalar.select v1312 c1_i32_1107 c16_i32_1105
  let v1314 : BitVec 32 := Scalar.remsi v1311 v1313
  let c0_i32_1109 : BitVec 32 := 0#32
  let v1316 : BitVec 1 := Scalar.cmpi .slt v1314 c0_i32_1109
  let c0_i32_1110 : BitVec 32 := 0#32
  let v1317 : BitVec 1 := Scalar.cmpi .slt v1313 c0_i32_1110
  let v1318 : BitVec 1 := Scalar.xori v1316 v1317
  let c0_i32_1108 : BitVec 32 := 0#32
  let v1315 : BitVec 1 := Scalar.cmpi .ne v1314 c0_i32_1108
  let v1319 : BitVec 1 := Scalar.andi v1318 v1315
  let v1320 : BitVec 32 := Scalar.addi v1314 v1313
  let v1321 : BitVec 32 := Scalar.select v1319 v1320 v1314
  let c1_i32_1115 : BitVec 32 := 1#32
  let v1322 : BitVec 32 := Scalar.muli v1321 c1_i32_1115
  let v1323 : BitVec 32 := Scalar.addi c0_i32_1116 v1322
  v1323.toNat
def k0_dev51 (d0 : Dev nD) : Nat :=
  let c0_i32_1131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1119 : BitVec 32 := 5#32
  let v1330 : BitVec 32 := Scalar.addi v2 c5_i32_1119
  let c16_i32_1120 : BitVec 32 := 16#32
  let c0_i32_1121 : BitVec 32 := 0#32
  let v1331 : BitVec 1 := Scalar.cmpi .eq c16_i32_1120 c0_i32_1121
  let c1_i32_1122 : BitVec 32 := 1#32
  let v1332 : BitVec 32 := Scalar.select v1331 c1_i32_1122 c16_i32_1120
  let v1333 : BitVec 32 := Scalar.remsi v1330 v1332
  let c0_i32_1124 : BitVec 32 := 0#32
  let v1335 : BitVec 1 := Scalar.cmpi .slt v1333 c0_i32_1124
  let c0_i32_1125 : BitVec 32 := 0#32
  let v1336 : BitVec 1 := Scalar.cmpi .slt v1332 c0_i32_1125
  let v1337 : BitVec 1 := Scalar.xori v1335 v1336
  let c0_i32_1123 : BitVec 32 := 0#32
  let v1334 : BitVec 1 := Scalar.cmpi .ne v1333 c0_i32_1123
  let v1338 : BitVec 1 := Scalar.andi v1337 v1334
  let v1339 : BitVec 32 := Scalar.addi v1333 v1332
  let v1340 : BitVec 32 := Scalar.select v1338 v1339 v1333
  let c1_i32_1130 : BitVec 32 := 1#32
  let v1341 : BitVec 32 := Scalar.muli v1340 c1_i32_1130
  let v1342 : BitVec 32 := Scalar.addi c0_i32_1131 v1341
  v1342.toNat
def k0_dev52 (d0 : Dev nD) : Nat :=
  let c0_i32_1146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1134 : BitVec 32 := 11#32
  let v1349 : BitVec 32 := Scalar.addi v2 c11_i32_1134
  let c16_i32_1135 : BitVec 32 := 16#32
  let c0_i32_1136 : BitVec 32 := 0#32
  let v1350 : BitVec 1 := Scalar.cmpi .eq c16_i32_1135 c0_i32_1136
  let c1_i32_1137 : BitVec 32 := 1#32
  let v1351 : BitVec 32 := Scalar.select v1350 c1_i32_1137 c16_i32_1135
  let v1352 : BitVec 32 := Scalar.remsi v1349 v1351
  let c0_i32_1139 : BitVec 32 := 0#32
  let v1354 : BitVec 1 := Scalar.cmpi .slt v1352 c0_i32_1139
  let c0_i32_1140 : BitVec 32 := 0#32
  let v1355 : BitVec 1 := Scalar.cmpi .slt v1351 c0_i32_1140
  let v1356 : BitVec 1 := Scalar.xori v1354 v1355
  let c0_i32_1138 : BitVec 32 := 0#32
  let v1353 : BitVec 1 := Scalar.cmpi .ne v1352 c0_i32_1138
  let v1357 : BitVec 1 := Scalar.andi v1356 v1353
  let v1358 : BitVec 32 := Scalar.addi v1352 v1351
  let v1359 : BitVec 32 := Scalar.select v1357 v1358 v1352
  let c1_i32_1145 : BitVec 32 := 1#32
  let v1360 : BitVec 32 := Scalar.muli v1359 c1_i32_1145
  let v1361 : BitVec 32 := Scalar.addi c0_i32_1146 v1360
  v1361.toNat
def k0_dev53 (d0 : Dev nD) : Nat :=
  let c0_i32_1161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1149 : BitVec 32 := 4#32
  let v1368 : BitVec 32 := Scalar.addi v2 c4_i32_1149
  let c16_i32_1150 : BitVec 32 := 16#32
  let c0_i32_1151 : BitVec 32 := 0#32
  let v1369 : BitVec 1 := Scalar.cmpi .eq c16_i32_1150 c0_i32_1151
  let c1_i32_1152 : BitVec 32 := 1#32
  let v1370 : BitVec 32 := Scalar.select v1369 c1_i32_1152 c16_i32_1150
  let v1371 : BitVec 32 := Scalar.remsi v1368 v1370
  let c0_i32_1154 : BitVec 32 := 0#32
  let v1373 : BitVec 1 := Scalar.cmpi .slt v1371 c0_i32_1154
  let c0_i32_1155 : BitVec 32 := 0#32
  let v1374 : BitVec 1 := Scalar.cmpi .slt v1370 c0_i32_1155
  let v1375 : BitVec 1 := Scalar.xori v1373 v1374
  let c0_i32_1153 : BitVec 32 := 0#32
  let v1372 : BitVec 1 := Scalar.cmpi .ne v1371 c0_i32_1153
  let v1376 : BitVec 1 := Scalar.andi v1375 v1372
  let v1377 : BitVec 32 := Scalar.addi v1371 v1370
  let v1378 : BitVec 32 := Scalar.select v1376 v1377 v1371
  let c1_i32_1160 : BitVec 32 := 1#32
  let v1379 : BitVec 32 := Scalar.muli v1378 c1_i32_1160
  let v1380 : BitVec 32 := Scalar.addi c0_i32_1161 v1379
  v1380.toNat
def k0_dev54 (d0 : Dev nD) : Nat :=
  let c0_i32_1176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1164 : BitVec 32 := 12#32
  let v1387 : BitVec 32 := Scalar.addi v2 c12_i32_1164
  let c16_i32_1165 : BitVec 32 := 16#32
  let c0_i32_1166 : BitVec 32 := 0#32
  let v1388 : BitVec 1 := Scalar.cmpi .eq c16_i32_1165 c0_i32_1166
  let c1_i32_1167 : BitVec 32 := 1#32
  let v1389 : BitVec 32 := Scalar.select v1388 c1_i32_1167 c16_i32_1165
  let v1390 : BitVec 32 := Scalar.remsi v1387 v1389
  let c0_i32_1169 : BitVec 32 := 0#32
  let v1392 : BitVec 1 := Scalar.cmpi .slt v1390 c0_i32_1169
  let c0_i32_1170 : BitVec 32 := 0#32
  let v1393 : BitVec 1 := Scalar.cmpi .slt v1389 c0_i32_1170
  let v1394 : BitVec 1 := Scalar.xori v1392 v1393
  let c0_i32_1168 : BitVec 32 := 0#32
  let v1391 : BitVec 1 := Scalar.cmpi .ne v1390 c0_i32_1168
  let v1395 : BitVec 1 := Scalar.andi v1394 v1391
  let v1396 : BitVec 32 := Scalar.addi v1390 v1389
  let v1397 : BitVec 32 := Scalar.select v1395 v1396 v1390
  let c1_i32_1175 : BitVec 32 := 1#32
  let v1398 : BitVec 32 := Scalar.muli v1397 c1_i32_1175
  let v1399 : BitVec 32 := Scalar.addi c0_i32_1176 v1398
  v1399.toNat
def k0_dev55 (d0 : Dev nD) : Nat :=
  let c0_i32_1191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1179 : BitVec 32 := 3#32
  let v1406 : BitVec 32 := Scalar.addi v2 c3_i32_1179
  let c16_i32_1180 : BitVec 32 := 16#32
  let c0_i32_1181 : BitVec 32 := 0#32
  let v1407 : BitVec 1 := Scalar.cmpi .eq c16_i32_1180 c0_i32_1181
  let c1_i32_1182 : BitVec 32 := 1#32
  let v1408 : BitVec 32 := Scalar.select v1407 c1_i32_1182 c16_i32_1180
  let v1409 : BitVec 32 := Scalar.remsi v1406 v1408
  let c0_i32_1184 : BitVec 32 := 0#32
  let v1411 : BitVec 1 := Scalar.cmpi .slt v1409 c0_i32_1184
  let c0_i32_1185 : BitVec 32 := 0#32
  let v1412 : BitVec 1 := Scalar.cmpi .slt v1408 c0_i32_1185
  let v1413 : BitVec 1 := Scalar.xori v1411 v1412
  let c0_i32_1183 : BitVec 32 := 0#32
  let v1410 : BitVec 1 := Scalar.cmpi .ne v1409 c0_i32_1183
  let v1414 : BitVec 1 := Scalar.andi v1413 v1410
  let v1415 : BitVec 32 := Scalar.addi v1409 v1408
  let v1416 : BitVec 32 := Scalar.select v1414 v1415 v1409
  let c1_i32_1190 : BitVec 32 := 1#32
  let v1417 : BitVec 32 := Scalar.muli v1416 c1_i32_1190
  let v1418 : BitVec 32 := Scalar.addi c0_i32_1191 v1417
  v1418.toNat
def k0_dev56 (d0 : Dev nD) : Nat :=
  let c0_i32_1206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1194 : BitVec 32 := 13#32
  let v1425 : BitVec 32 := Scalar.addi v2 c13_i32_1194
  let c16_i32_1195 : BitVec 32 := 16#32
  let c0_i32_1196 : BitVec 32 := 0#32
  let v1426 : BitVec 1 := Scalar.cmpi .eq c16_i32_1195 c0_i32_1196
  let c1_i32_1197 : BitVec 32 := 1#32
  let v1427 : BitVec 32 := Scalar.select v1426 c1_i32_1197 c16_i32_1195
  let v1428 : BitVec 32 := Scalar.remsi v1425 v1427
  let c0_i32_1199 : BitVec 32 := 0#32
  let v1430 : BitVec 1 := Scalar.cmpi .slt v1428 c0_i32_1199
  let c0_i32_1200 : BitVec 32 := 0#32
  let v1431 : BitVec 1 := Scalar.cmpi .slt v1427 c0_i32_1200
  let v1432 : BitVec 1 := Scalar.xori v1430 v1431
  let c0_i32_1198 : BitVec 32 := 0#32
  let v1429 : BitVec 1 := Scalar.cmpi .ne v1428 c0_i32_1198
  let v1433 : BitVec 1 := Scalar.andi v1432 v1429
  let v1434 : BitVec 32 := Scalar.addi v1428 v1427
  let v1435 : BitVec 32 := Scalar.select v1433 v1434 v1428
  let c1_i32_1205 : BitVec 32 := 1#32
  let v1436 : BitVec 32 := Scalar.muli v1435 c1_i32_1205
  let v1437 : BitVec 32 := Scalar.addi c0_i32_1206 v1436
  v1437.toNat
def k0_dev57 (d0 : Dev nD) : Nat :=
  let c0_i32_1221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1209 : BitVec 32 := 2#32
  let v1444 : BitVec 32 := Scalar.addi v2 c2_i32_1209
  let c16_i32_1210 : BitVec 32 := 16#32
  let c0_i32_1211 : BitVec 32 := 0#32
  let v1445 : BitVec 1 := Scalar.cmpi .eq c16_i32_1210 c0_i32_1211
  let c1_i32_1212 : BitVec 32 := 1#32
  let v1446 : BitVec 32 := Scalar.select v1445 c1_i32_1212 c16_i32_1210
  let v1447 : BitVec 32 := Scalar.remsi v1444 v1446
  let c0_i32_1214 : BitVec 32 := 0#32
  let v1449 : BitVec 1 := Scalar.cmpi .slt v1447 c0_i32_1214
  let c0_i32_1215 : BitVec 32 := 0#32
  let v1450 : BitVec 1 := Scalar.cmpi .slt v1446 c0_i32_1215
  let v1451 : BitVec 1 := Scalar.xori v1449 v1450
  let c0_i32_1213 : BitVec 32 := 0#32
  let v1448 : BitVec 1 := Scalar.cmpi .ne v1447 c0_i32_1213
  let v1452 : BitVec 1 := Scalar.andi v1451 v1448
  let v1453 : BitVec 32 := Scalar.addi v1447 v1446
  let v1454 : BitVec 32 := Scalar.select v1452 v1453 v1447
  let c1_i32_1220 : BitVec 32 := 1#32
  let v1455 : BitVec 32 := Scalar.muli v1454 c1_i32_1220
  let v1456 : BitVec 32 := Scalar.addi c0_i32_1221 v1455
  v1456.toNat
def k0_dev58 (d0 : Dev nD) : Nat :=
  let c0_i32_1236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1224 : BitVec 32 := 14#32
  let v1463 : BitVec 32 := Scalar.addi v2 c14_i32_1224
  let c16_i32_1225 : BitVec 32 := 16#32
  let c0_i32_1226 : BitVec 32 := 0#32
  let v1464 : BitVec 1 := Scalar.cmpi .eq c16_i32_1225 c0_i32_1226
  let c1_i32_1227 : BitVec 32 := 1#32
  let v1465 : BitVec 32 := Scalar.select v1464 c1_i32_1227 c16_i32_1225
  let v1466 : BitVec 32 := Scalar.remsi v1463 v1465
  let c0_i32_1229 : BitVec 32 := 0#32
  let v1468 : BitVec 1 := Scalar.cmpi .slt v1466 c0_i32_1229
  let c0_i32_1230 : BitVec 32 := 0#32
  let v1469 : BitVec 1 := Scalar.cmpi .slt v1465 c0_i32_1230
  let v1470 : BitVec 1 := Scalar.xori v1468 v1469
  let c0_i32_1228 : BitVec 32 := 0#32
  let v1467 : BitVec 1 := Scalar.cmpi .ne v1466 c0_i32_1228
  let v1471 : BitVec 1 := Scalar.andi v1470 v1467
  let v1472 : BitVec 32 := Scalar.addi v1466 v1465
  let v1473 : BitVec 32 := Scalar.select v1471 v1472 v1466
  let c1_i32_1235 : BitVec 32 := 1#32
  let v1474 : BitVec 32 := Scalar.muli v1473 c1_i32_1235
  let v1475 : BitVec 32 := Scalar.addi c0_i32_1236 v1474
  v1475.toNat
def k0_dev59 (d0 : Dev nD) : Nat :=
  let c0_i32_1251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1239 : BitVec 32 := 1#32
  let v1482 : BitVec 32 := Scalar.addi v2 c1_i32_1239
  let c16_i32_1240 : BitVec 32 := 16#32
  let c0_i32_1241 : BitVec 32 := 0#32
  let v1483 : BitVec 1 := Scalar.cmpi .eq c16_i32_1240 c0_i32_1241
  let c1_i32_1242 : BitVec 32 := 1#32
  let v1484 : BitVec 32 := Scalar.select v1483 c1_i32_1242 c16_i32_1240
  let v1485 : BitVec 32 := Scalar.remsi v1482 v1484
  let c0_i32_1244 : BitVec 32 := 0#32
  let v1487 : BitVec 1 := Scalar.cmpi .slt v1485 c0_i32_1244
  let c0_i32_1245 : BitVec 32 := 0#32
  let v1488 : BitVec 1 := Scalar.cmpi .slt v1484 c0_i32_1245
  let v1489 : BitVec 1 := Scalar.xori v1487 v1488
  let c0_i32_1243 : BitVec 32 := 0#32
  let v1486 : BitVec 1 := Scalar.cmpi .ne v1485 c0_i32_1243
  let v1490 : BitVec 1 := Scalar.andi v1489 v1486
  let v1491 : BitVec 32 := Scalar.addi v1485 v1484
  let v1492 : BitVec 32 := Scalar.select v1490 v1491 v1485
  let c1_i32_1250 : BitVec 32 := 1#32
  let v1493 : BitVec 32 := Scalar.muli v1492 c1_i32_1250
  let v1494 : BitVec 32 := Scalar.addi c0_i32_1251 v1493
  v1494.toNat
def k0_dev60 (d0 : Dev nD) : Nat :=
  let c0_i32_1266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1254 : BitVec 32 := 15#32
  let v1501 : BitVec 32 := Scalar.addi v2 c15_i32_1254
  let c16_i32_1255 : BitVec 32 := 16#32
  let c0_i32_1256 : BitVec 32 := 0#32
  let v1502 : BitVec 1 := Scalar.cmpi .eq c16_i32_1255 c0_i32_1256
  let c1_i32_1257 : BitVec 32 := 1#32
  let v1503 : BitVec 32 := Scalar.select v1502 c1_i32_1257 c16_i32_1255
  let v1504 : BitVec 32 := Scalar.remsi v1501 v1503
  let c0_i32_1259 : BitVec 32 := 0#32
  let v1506 : BitVec 1 := Scalar.cmpi .slt v1504 c0_i32_1259
  let c0_i32_1260 : BitVec 32 := 0#32
  let v1507 : BitVec 1 := Scalar.cmpi .slt v1503 c0_i32_1260
  let v1508 : BitVec 1 := Scalar.xori v1506 v1507
  let c0_i32_1258 : BitVec 32 := 0#32
  let v1505 : BitVec 1 := Scalar.cmpi .ne v1504 c0_i32_1258
  let v1509 : BitVec 1 := Scalar.andi v1508 v1505
  let v1510 : BitVec 32 := Scalar.addi v1504 v1503
  let v1511 : BitVec 32 := Scalar.select v1509 v1510 v1504
  let c1_i32_1265 : BitVec 32 := 1#32
  let v1512 : BitVec 32 := Scalar.muli v1511 c1_i32_1265
  let v1513 : BitVec 32 := Scalar.addi c0_i32_1266 v1512
  v1513.toNat
def k0_off8 (d0 : Dev nD) (c1_i32_1272 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1525 : BitVec 32 := Scalar.subi v2 c1_i32_1272
  let c16_i32_1273 : BitVec 32 := 16#32
  let c0_i32_1274 : BitVec 32 := 0#32
  let v1526 : BitVec 1 := Scalar.cmpi .eq c16_i32_1273 c0_i32_1274
  let c1_i32_1275 : BitVec 32 := 1#32
  let v1527 : BitVec 32 := Scalar.select v1526 c1_i32_1275 c16_i32_1273
  let v1528 : BitVec 32 := Scalar.remsi v1525 v1527
  let c0_i32_1277 : BitVec 32 := 0#32
  let v1530 : BitVec 1 := Scalar.cmpi .slt v1528 c0_i32_1277
  let c0_i32_1278 : BitVec 32 := 0#32
  let v1531 : BitVec 1 := Scalar.cmpi .slt v1527 c0_i32_1278
  let v1532 : BitVec 1 := Scalar.xori v1530 v1531
  let c0_i32_1276 : BitVec 32 := 0#32
  let v1529 : BitVec 1 := Scalar.cmpi .ne v1528 c0_i32_1276
  let v1533 : BitVec 1 := Scalar.andi v1532 v1529
  let v1534 : BitVec 32 := Scalar.addi v1528 v1527
  let v1535 : BitVec 32 := Scalar.select v1533 v1534 v1528
  let c1_i32_1280 : BitVec 32 := 1#32
  let c0_i32_1287 : BitVec 32 := 0#32
  let c0_i32_1288 : BitVec 32 := 0#32
  ![v1535.toNat, 1, 0, 0]
def k0_off9 (d0 : Dev nD) (c1_i32_1272 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1525 : BitVec 32 := Scalar.subi v2 c1_i32_1272
  let c16_i32_1273 : BitVec 32 := 16#32
  let c0_i32_1274 : BitVec 32 := 0#32
  let v1526 : BitVec 1 := Scalar.cmpi .eq c16_i32_1273 c0_i32_1274
  let c1_i32_1275 : BitVec 32 := 1#32
  let v1527 : BitVec 32 := Scalar.select v1526 c1_i32_1275 c16_i32_1273
  let v1528 : BitVec 32 := Scalar.remsi v1525 v1527
  let c0_i32_1277 : BitVec 32 := 0#32
  let v1530 : BitVec 1 := Scalar.cmpi .slt v1528 c0_i32_1277
  let c0_i32_1278 : BitVec 32 := 0#32
  let v1531 : BitVec 1 := Scalar.cmpi .slt v1527 c0_i32_1278
  let v1532 : BitVec 1 := Scalar.xori v1530 v1531
  let c0_i32_1276 : BitVec 32 := 0#32
  let v1529 : BitVec 1 := Scalar.cmpi .ne v1528 c0_i32_1276
  let v1533 : BitVec 1 := Scalar.andi v1532 v1529
  let v1534 : BitVec 32 := Scalar.addi v1528 v1527
  let v1535 : BitVec 32 := Scalar.select v1533 v1534 v1528
  let v1544 : Index := Scalar.indexCast v1535
  let c1 : Index := 1#32
  let c0_1291 : Index := 0#32
  let c0_1292 : Index := 0#32
  ![v1544.toNat, 1, 0, 0]
def k0_dev61 (d0 : Dev nD) : Nat :=
  let c0_i32_1616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1604 : BitVec 32 := 8#32
  let v1890 : BitVec 32 := Scalar.addi v2 c8_i32_1604
  let c16_i32_1605 : BitVec 32 := 16#32
  let c0_i32_1606 : BitVec 32 := 0#32
  let v1891 : BitVec 1 := Scalar.cmpi .eq c16_i32_1605 c0_i32_1606
  let c1_i32_1607 : BitVec 32 := 1#32
  let v1892 : BitVec 32 := Scalar.select v1891 c1_i32_1607 c16_i32_1605
  let v1893 : BitVec 32 := Scalar.remsi v1890 v1892
  let c0_i32_1609 : BitVec 32 := 0#32
  let v1895 : BitVec 1 := Scalar.cmpi .slt v1893 c0_i32_1609
  let c0_i32_1610 : BitVec 32 := 0#32
  let v1896 : BitVec 1 := Scalar.cmpi .slt v1892 c0_i32_1610
  let v1897 : BitVec 1 := Scalar.xori v1895 v1896
  let c0_i32_1608 : BitVec 32 := 0#32
  let v1894 : BitVec 1 := Scalar.cmpi .ne v1893 c0_i32_1608
  let v1898 : BitVec 1 := Scalar.andi v1897 v1894
  let v1899 : BitVec 32 := Scalar.addi v1893 v1892
  let v1900 : BitVec 32 := Scalar.select v1898 v1899 v1893
  let c1_i32_1615 : BitVec 32 := 1#32
  let v1901 : BitVec 32 := Scalar.muli v1900 c1_i32_1615
  let v1902 : BitVec 32 := Scalar.addi c0_i32_1616 v1901
  v1902.toNat
def k0_dev62 (d0 : Dev nD) : Nat :=
  let c0_i32_1631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1619 : BitVec 32 := 7#32
  let v1909 : BitVec 32 := Scalar.addi v2 c7_i32_1619
  let c16_i32_1620 : BitVec 32 := 16#32
  let c0_i32_1621 : BitVec 32 := 0#32
  let v1910 : BitVec 1 := Scalar.cmpi .eq c16_i32_1620 c0_i32_1621
  let c1_i32_1622 : BitVec 32 := 1#32
  let v1911 : BitVec 32 := Scalar.select v1910 c1_i32_1622 c16_i32_1620
  let v1912 : BitVec 32 := Scalar.remsi v1909 v1911
  let c0_i32_1624 : BitVec 32 := 0#32
  let v1914 : BitVec 1 := Scalar.cmpi .slt v1912 c0_i32_1624
  let c0_i32_1625 : BitVec 32 := 0#32
  let v1915 : BitVec 1 := Scalar.cmpi .slt v1911 c0_i32_1625
  let v1916 : BitVec 1 := Scalar.xori v1914 v1915
  let c0_i32_1623 : BitVec 32 := 0#32
  let v1913 : BitVec 1 := Scalar.cmpi .ne v1912 c0_i32_1623
  let v1917 : BitVec 1 := Scalar.andi v1916 v1913
  let v1918 : BitVec 32 := Scalar.addi v1912 v1911
  let v1919 : BitVec 32 := Scalar.select v1917 v1918 v1912
  let c1_i32_1630 : BitVec 32 := 1#32
  let v1920 : BitVec 32 := Scalar.muli v1919 c1_i32_1630
  let v1921 : BitVec 32 := Scalar.addi c0_i32_1631 v1920
  v1921.toNat
def k0_dev63 (d0 : Dev nD) : Nat :=
  let c0_i32_1646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1634 : BitVec 32 := 9#32
  let v1928 : BitVec 32 := Scalar.addi v2 c9_i32_1634
  let c16_i32_1635 : BitVec 32 := 16#32
  let c0_i32_1636 : BitVec 32 := 0#32
  let v1929 : BitVec 1 := Scalar.cmpi .eq c16_i32_1635 c0_i32_1636
  let c1_i32_1637 : BitVec 32 := 1#32
  let v1930 : BitVec 32 := Scalar.select v1929 c1_i32_1637 c16_i32_1635
  let v1931 : BitVec 32 := Scalar.remsi v1928 v1930
  let c0_i32_1639 : BitVec 32 := 0#32
  let v1933 : BitVec 1 := Scalar.cmpi .slt v1931 c0_i32_1639
  let c0_i32_1640 : BitVec 32 := 0#32
  let v1934 : BitVec 1 := Scalar.cmpi .slt v1930 c0_i32_1640
  let v1935 : BitVec 1 := Scalar.xori v1933 v1934
  let c0_i32_1638 : BitVec 32 := 0#32
  let v1932 : BitVec 1 := Scalar.cmpi .ne v1931 c0_i32_1638
  let v1936 : BitVec 1 := Scalar.andi v1935 v1932
  let v1937 : BitVec 32 := Scalar.addi v1931 v1930
  let v1938 : BitVec 32 := Scalar.select v1936 v1937 v1931
  let c1_i32_1645 : BitVec 32 := 1#32
  let v1939 : BitVec 32 := Scalar.muli v1938 c1_i32_1645
  let v1940 : BitVec 32 := Scalar.addi c0_i32_1646 v1939
  v1940.toNat
def k0_dev64 (d0 : Dev nD) : Nat :=
  let c0_i32_1661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1649 : BitVec 32 := 6#32
  let v1947 : BitVec 32 := Scalar.addi v2 c6_i32_1649
  let c16_i32_1650 : BitVec 32 := 16#32
  let c0_i32_1651 : BitVec 32 := 0#32
  let v1948 : BitVec 1 := Scalar.cmpi .eq c16_i32_1650 c0_i32_1651
  let c1_i32_1652 : BitVec 32 := 1#32
  let v1949 : BitVec 32 := Scalar.select v1948 c1_i32_1652 c16_i32_1650
  let v1950 : BitVec 32 := Scalar.remsi v1947 v1949
  let c0_i32_1654 : BitVec 32 := 0#32
  let v1952 : BitVec 1 := Scalar.cmpi .slt v1950 c0_i32_1654
  let c0_i32_1655 : BitVec 32 := 0#32
  let v1953 : BitVec 1 := Scalar.cmpi .slt v1949 c0_i32_1655
  let v1954 : BitVec 1 := Scalar.xori v1952 v1953
  let c0_i32_1653 : BitVec 32 := 0#32
  let v1951 : BitVec 1 := Scalar.cmpi .ne v1950 c0_i32_1653
  let v1955 : BitVec 1 := Scalar.andi v1954 v1951
  let v1956 : BitVec 32 := Scalar.addi v1950 v1949
  let v1957 : BitVec 32 := Scalar.select v1955 v1956 v1950
  let c1_i32_1660 : BitVec 32 := 1#32
  let v1958 : BitVec 32 := Scalar.muli v1957 c1_i32_1660
  let v1959 : BitVec 32 := Scalar.addi c0_i32_1661 v1958
  v1959.toNat
def k0_dev65 (d0 : Dev nD) : Nat :=
  let c0_i32_1676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1664 : BitVec 32 := 10#32
  let v1966 : BitVec 32 := Scalar.addi v2 c10_i32_1664
  let c16_i32_1665 : BitVec 32 := 16#32
  let c0_i32_1666 : BitVec 32 := 0#32
  let v1967 : BitVec 1 := Scalar.cmpi .eq c16_i32_1665 c0_i32_1666
  let c1_i32_1667 : BitVec 32 := 1#32
  let v1968 : BitVec 32 := Scalar.select v1967 c1_i32_1667 c16_i32_1665
  let v1969 : BitVec 32 := Scalar.remsi v1966 v1968
  let c0_i32_1669 : BitVec 32 := 0#32
  let v1971 : BitVec 1 := Scalar.cmpi .slt v1969 c0_i32_1669
  let c0_i32_1670 : BitVec 32 := 0#32
  let v1972 : BitVec 1 := Scalar.cmpi .slt v1968 c0_i32_1670
  let v1973 : BitVec 1 := Scalar.xori v1971 v1972
  let c0_i32_1668 : BitVec 32 := 0#32
  let v1970 : BitVec 1 := Scalar.cmpi .ne v1969 c0_i32_1668
  let v1974 : BitVec 1 := Scalar.andi v1973 v1970
  let v1975 : BitVec 32 := Scalar.addi v1969 v1968
  let v1976 : BitVec 32 := Scalar.select v1974 v1975 v1969
  let c1_i32_1675 : BitVec 32 := 1#32
  let v1977 : BitVec 32 := Scalar.muli v1976 c1_i32_1675
  let v1978 : BitVec 32 := Scalar.addi c0_i32_1676 v1977
  v1978.toNat
def k0_dev66 (d0 : Dev nD) : Nat :=
  let c0_i32_1691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1679 : BitVec 32 := 5#32
  let v1985 : BitVec 32 := Scalar.addi v2 c5_i32_1679
  let c16_i32_1680 : BitVec 32 := 16#32
  let c0_i32_1681 : BitVec 32 := 0#32
  let v1986 : BitVec 1 := Scalar.cmpi .eq c16_i32_1680 c0_i32_1681
  let c1_i32_1682 : BitVec 32 := 1#32
  let v1987 : BitVec 32 := Scalar.select v1986 c1_i32_1682 c16_i32_1680
  let v1988 : BitVec 32 := Scalar.remsi v1985 v1987
  let c0_i32_1684 : BitVec 32 := 0#32
  let v1990 : BitVec 1 := Scalar.cmpi .slt v1988 c0_i32_1684
  let c0_i32_1685 : BitVec 32 := 0#32
  let v1991 : BitVec 1 := Scalar.cmpi .slt v1987 c0_i32_1685
  let v1992 : BitVec 1 := Scalar.xori v1990 v1991
  let c0_i32_1683 : BitVec 32 := 0#32
  let v1989 : BitVec 1 := Scalar.cmpi .ne v1988 c0_i32_1683
  let v1993 : BitVec 1 := Scalar.andi v1992 v1989
  let v1994 : BitVec 32 := Scalar.addi v1988 v1987
  let v1995 : BitVec 32 := Scalar.select v1993 v1994 v1988
  let c1_i32_1690 : BitVec 32 := 1#32
  let v1996 : BitVec 32 := Scalar.muli v1995 c1_i32_1690
  let v1997 : BitVec 32 := Scalar.addi c0_i32_1691 v1996
  v1997.toNat
def k0_dev67 (d0 : Dev nD) : Nat :=
  let c0_i32_1706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1694 : BitVec 32 := 11#32
  let v2004 : BitVec 32 := Scalar.addi v2 c11_i32_1694
  let c16_i32_1695 : BitVec 32 := 16#32
  let c0_i32_1696 : BitVec 32 := 0#32
  let v2005 : BitVec 1 := Scalar.cmpi .eq c16_i32_1695 c0_i32_1696
  let c1_i32_1697 : BitVec 32 := 1#32
  let v2006 : BitVec 32 := Scalar.select v2005 c1_i32_1697 c16_i32_1695
  let v2007 : BitVec 32 := Scalar.remsi v2004 v2006
  let c0_i32_1699 : BitVec 32 := 0#32
  let v2009 : BitVec 1 := Scalar.cmpi .slt v2007 c0_i32_1699
  let c0_i32_1700 : BitVec 32 := 0#32
  let v2010 : BitVec 1 := Scalar.cmpi .slt v2006 c0_i32_1700
  let v2011 : BitVec 1 := Scalar.xori v2009 v2010
  let c0_i32_1698 : BitVec 32 := 0#32
  let v2008 : BitVec 1 := Scalar.cmpi .ne v2007 c0_i32_1698
  let v2012 : BitVec 1 := Scalar.andi v2011 v2008
  let v2013 : BitVec 32 := Scalar.addi v2007 v2006
  let v2014 : BitVec 32 := Scalar.select v2012 v2013 v2007
  let c1_i32_1705 : BitVec 32 := 1#32
  let v2015 : BitVec 32 := Scalar.muli v2014 c1_i32_1705
  let v2016 : BitVec 32 := Scalar.addi c0_i32_1706 v2015
  v2016.toNat
def k0_dev68 (d0 : Dev nD) : Nat :=
  let c0_i32_1721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1709 : BitVec 32 := 4#32
  let v2023 : BitVec 32 := Scalar.addi v2 c4_i32_1709
  let c16_i32_1710 : BitVec 32 := 16#32
  let c0_i32_1711 : BitVec 32 := 0#32
  let v2024 : BitVec 1 := Scalar.cmpi .eq c16_i32_1710 c0_i32_1711
  let c1_i32_1712 : BitVec 32 := 1#32
  let v2025 : BitVec 32 := Scalar.select v2024 c1_i32_1712 c16_i32_1710
  let v2026 : BitVec 32 := Scalar.remsi v2023 v2025
  let c0_i32_1714 : BitVec 32 := 0#32
  let v2028 : BitVec 1 := Scalar.cmpi .slt v2026 c0_i32_1714
  let c0_i32_1715 : BitVec 32 := 0#32
  let v2029 : BitVec 1 := Scalar.cmpi .slt v2025 c0_i32_1715
  let v2030 : BitVec 1 := Scalar.xori v2028 v2029
  let c0_i32_1713 : BitVec 32 := 0#32
  let v2027 : BitVec 1 := Scalar.cmpi .ne v2026 c0_i32_1713
  let v2031 : BitVec 1 := Scalar.andi v2030 v2027
  let v2032 : BitVec 32 := Scalar.addi v2026 v2025
  let v2033 : BitVec 32 := Scalar.select v2031 v2032 v2026
  let c1_i32_1720 : BitVec 32 := 1#32
  let v2034 : BitVec 32 := Scalar.muli v2033 c1_i32_1720
  let v2035 : BitVec 32 := Scalar.addi c0_i32_1721 v2034
  v2035.toNat
def k0_dev69 (d0 : Dev nD) : Nat :=
  let c0_i32_1736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1724 : BitVec 32 := 12#32
  let v2042 : BitVec 32 := Scalar.addi v2 c12_i32_1724
  let c16_i32_1725 : BitVec 32 := 16#32
  let c0_i32_1726 : BitVec 32 := 0#32
  let v2043 : BitVec 1 := Scalar.cmpi .eq c16_i32_1725 c0_i32_1726
  let c1_i32_1727 : BitVec 32 := 1#32
  let v2044 : BitVec 32 := Scalar.select v2043 c1_i32_1727 c16_i32_1725
  let v2045 : BitVec 32 := Scalar.remsi v2042 v2044
  let c0_i32_1729 : BitVec 32 := 0#32
  let v2047 : BitVec 1 := Scalar.cmpi .slt v2045 c0_i32_1729
  let c0_i32_1730 : BitVec 32 := 0#32
  let v2048 : BitVec 1 := Scalar.cmpi .slt v2044 c0_i32_1730
  let v2049 : BitVec 1 := Scalar.xori v2047 v2048
  let c0_i32_1728 : BitVec 32 := 0#32
  let v2046 : BitVec 1 := Scalar.cmpi .ne v2045 c0_i32_1728
  let v2050 : BitVec 1 := Scalar.andi v2049 v2046
  let v2051 : BitVec 32 := Scalar.addi v2045 v2044
  let v2052 : BitVec 32 := Scalar.select v2050 v2051 v2045
  let c1_i32_1735 : BitVec 32 := 1#32
  let v2053 : BitVec 32 := Scalar.muli v2052 c1_i32_1735
  let v2054 : BitVec 32 := Scalar.addi c0_i32_1736 v2053
  v2054.toNat
def k0_dev70 (d0 : Dev nD) : Nat :=
  let c0_i32_1751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1739 : BitVec 32 := 3#32
  let v2061 : BitVec 32 := Scalar.addi v2 c3_i32_1739
  let c16_i32_1740 : BitVec 32 := 16#32
  let c0_i32_1741 : BitVec 32 := 0#32
  let v2062 : BitVec 1 := Scalar.cmpi .eq c16_i32_1740 c0_i32_1741
  let c1_i32_1742 : BitVec 32 := 1#32
  let v2063 : BitVec 32 := Scalar.select v2062 c1_i32_1742 c16_i32_1740
  let v2064 : BitVec 32 := Scalar.remsi v2061 v2063
  let c0_i32_1744 : BitVec 32 := 0#32
  let v2066 : BitVec 1 := Scalar.cmpi .slt v2064 c0_i32_1744
  let c0_i32_1745 : BitVec 32 := 0#32
  let v2067 : BitVec 1 := Scalar.cmpi .slt v2063 c0_i32_1745
  let v2068 : BitVec 1 := Scalar.xori v2066 v2067
  let c0_i32_1743 : BitVec 32 := 0#32
  let v2065 : BitVec 1 := Scalar.cmpi .ne v2064 c0_i32_1743
  let v2069 : BitVec 1 := Scalar.andi v2068 v2065
  let v2070 : BitVec 32 := Scalar.addi v2064 v2063
  let v2071 : BitVec 32 := Scalar.select v2069 v2070 v2064
  let c1_i32_1750 : BitVec 32 := 1#32
  let v2072 : BitVec 32 := Scalar.muli v2071 c1_i32_1750
  let v2073 : BitVec 32 := Scalar.addi c0_i32_1751 v2072
  v2073.toNat
def k0_dev71 (d0 : Dev nD) : Nat :=
  let c0_i32_1766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1754 : BitVec 32 := 13#32
  let v2080 : BitVec 32 := Scalar.addi v2 c13_i32_1754
  let c16_i32_1755 : BitVec 32 := 16#32
  let c0_i32_1756 : BitVec 32 := 0#32
  let v2081 : BitVec 1 := Scalar.cmpi .eq c16_i32_1755 c0_i32_1756
  let c1_i32_1757 : BitVec 32 := 1#32
  let v2082 : BitVec 32 := Scalar.select v2081 c1_i32_1757 c16_i32_1755
  let v2083 : BitVec 32 := Scalar.remsi v2080 v2082
  let c0_i32_1759 : BitVec 32 := 0#32
  let v2085 : BitVec 1 := Scalar.cmpi .slt v2083 c0_i32_1759
  let c0_i32_1760 : BitVec 32 := 0#32
  let v2086 : BitVec 1 := Scalar.cmpi .slt v2082 c0_i32_1760
  let v2087 : BitVec 1 := Scalar.xori v2085 v2086
  let c0_i32_1758 : BitVec 32 := 0#32
  let v2084 : BitVec 1 := Scalar.cmpi .ne v2083 c0_i32_1758
  let v2088 : BitVec 1 := Scalar.andi v2087 v2084
  let v2089 : BitVec 32 := Scalar.addi v2083 v2082
  let v2090 : BitVec 32 := Scalar.select v2088 v2089 v2083
  let c1_i32_1765 : BitVec 32 := 1#32
  let v2091 : BitVec 32 := Scalar.muli v2090 c1_i32_1765
  let v2092 : BitVec 32 := Scalar.addi c0_i32_1766 v2091
  v2092.toNat
def k0_dev72 (d0 : Dev nD) : Nat :=
  let c0_i32_1781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1769 : BitVec 32 := 2#32
  let v2099 : BitVec 32 := Scalar.addi v2 c2_i32_1769
  let c16_i32_1770 : BitVec 32 := 16#32
  let c0_i32_1771 : BitVec 32 := 0#32
  let v2100 : BitVec 1 := Scalar.cmpi .eq c16_i32_1770 c0_i32_1771
  let c1_i32_1772 : BitVec 32 := 1#32
  let v2101 : BitVec 32 := Scalar.select v2100 c1_i32_1772 c16_i32_1770
  let v2102 : BitVec 32 := Scalar.remsi v2099 v2101
  let c0_i32_1774 : BitVec 32 := 0#32
  let v2104 : BitVec 1 := Scalar.cmpi .slt v2102 c0_i32_1774
  let c0_i32_1775 : BitVec 32 := 0#32
  let v2105 : BitVec 1 := Scalar.cmpi .slt v2101 c0_i32_1775
  let v2106 : BitVec 1 := Scalar.xori v2104 v2105
  let c0_i32_1773 : BitVec 32 := 0#32
  let v2103 : BitVec 1 := Scalar.cmpi .ne v2102 c0_i32_1773
  let v2107 : BitVec 1 := Scalar.andi v2106 v2103
  let v2108 : BitVec 32 := Scalar.addi v2102 v2101
  let v2109 : BitVec 32 := Scalar.select v2107 v2108 v2102
  let c1_i32_1780 : BitVec 32 := 1#32
  let v2110 : BitVec 32 := Scalar.muli v2109 c1_i32_1780
  let v2111 : BitVec 32 := Scalar.addi c0_i32_1781 v2110
  v2111.toNat
def k0_dev73 (d0 : Dev nD) : Nat :=
  let c0_i32_1796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1784 : BitVec 32 := 14#32
  let v2118 : BitVec 32 := Scalar.addi v2 c14_i32_1784
  let c16_i32_1785 : BitVec 32 := 16#32
  let c0_i32_1786 : BitVec 32 := 0#32
  let v2119 : BitVec 1 := Scalar.cmpi .eq c16_i32_1785 c0_i32_1786
  let c1_i32_1787 : BitVec 32 := 1#32
  let v2120 : BitVec 32 := Scalar.select v2119 c1_i32_1787 c16_i32_1785
  let v2121 : BitVec 32 := Scalar.remsi v2118 v2120
  let c0_i32_1789 : BitVec 32 := 0#32
  let v2123 : BitVec 1 := Scalar.cmpi .slt v2121 c0_i32_1789
  let c0_i32_1790 : BitVec 32 := 0#32
  let v2124 : BitVec 1 := Scalar.cmpi .slt v2120 c0_i32_1790
  let v2125 : BitVec 1 := Scalar.xori v2123 v2124
  let c0_i32_1788 : BitVec 32 := 0#32
  let v2122 : BitVec 1 := Scalar.cmpi .ne v2121 c0_i32_1788
  let v2126 : BitVec 1 := Scalar.andi v2125 v2122
  let v2127 : BitVec 32 := Scalar.addi v2121 v2120
  let v2128 : BitVec 32 := Scalar.select v2126 v2127 v2121
  let c1_i32_1795 : BitVec 32 := 1#32
  let v2129 : BitVec 32 := Scalar.muli v2128 c1_i32_1795
  let v2130 : BitVec 32 := Scalar.addi c0_i32_1796 v2129
  v2130.toNat
def k0_dev74 (d0 : Dev nD) : Nat :=
  let c0_i32_1811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1799 : BitVec 32 := 1#32
  let v2137 : BitVec 32 := Scalar.addi v2 c1_i32_1799
  let c16_i32_1800 : BitVec 32 := 16#32
  let c0_i32_1801 : BitVec 32 := 0#32
  let v2138 : BitVec 1 := Scalar.cmpi .eq c16_i32_1800 c0_i32_1801
  let c1_i32_1802 : BitVec 32 := 1#32
  let v2139 : BitVec 32 := Scalar.select v2138 c1_i32_1802 c16_i32_1800
  let v2140 : BitVec 32 := Scalar.remsi v2137 v2139
  let c0_i32_1804 : BitVec 32 := 0#32
  let v2142 : BitVec 1 := Scalar.cmpi .slt v2140 c0_i32_1804
  let c0_i32_1805 : BitVec 32 := 0#32
  let v2143 : BitVec 1 := Scalar.cmpi .slt v2139 c0_i32_1805
  let v2144 : BitVec 1 := Scalar.xori v2142 v2143
  let c0_i32_1803 : BitVec 32 := 0#32
  let v2141 : BitVec 1 := Scalar.cmpi .ne v2140 c0_i32_1803
  let v2145 : BitVec 1 := Scalar.andi v2144 v2141
  let v2146 : BitVec 32 := Scalar.addi v2140 v2139
  let v2147 : BitVec 32 := Scalar.select v2145 v2146 v2140
  let c1_i32_1810 : BitVec 32 := 1#32
  let v2148 : BitVec 32 := Scalar.muli v2147 c1_i32_1810
  let v2149 : BitVec 32 := Scalar.addi c0_i32_1811 v2148
  v2149.toNat
def k0_dev75 (d0 : Dev nD) : Nat :=
  let c0_i32_1826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1814 : BitVec 32 := 15#32
  let v2156 : BitVec 32 := Scalar.addi v2 c15_i32_1814
  let c16_i32_1815 : BitVec 32 := 16#32
  let c0_i32_1816 : BitVec 32 := 0#32
  let v2157 : BitVec 1 := Scalar.cmpi .eq c16_i32_1815 c0_i32_1816
  let c1_i32_1817 : BitVec 32 := 1#32
  let v2158 : BitVec 32 := Scalar.select v2157 c1_i32_1817 c16_i32_1815
  let v2159 : BitVec 32 := Scalar.remsi v2156 v2158
  let c0_i32_1819 : BitVec 32 := 0#32
  let v2161 : BitVec 1 := Scalar.cmpi .slt v2159 c0_i32_1819
  let c0_i32_1820 : BitVec 32 := 0#32
  let v2162 : BitVec 1 := Scalar.cmpi .slt v2158 c0_i32_1820
  let v2163 : BitVec 1 := Scalar.xori v2161 v2162
  let c0_i32_1818 : BitVec 32 := 0#32
  let v2160 : BitVec 1 := Scalar.cmpi .ne v2159 c0_i32_1818
  let v2164 : BitVec 1 := Scalar.andi v2163 v2160
  let v2165 : BitVec 32 := Scalar.addi v2159 v2158
  let v2166 : BitVec 32 := Scalar.select v2164 v2165 v2159
  let c1_i32_1825 : BitVec 32 := 1#32
  let v2167 : BitVec 32 := Scalar.muli v2166 c1_i32_1825
  let v2168 : BitVec 32 := Scalar.addi c0_i32_1826 v2167
  v2168.toNat
def k0_off10 (d0 : Dev nD) (c1_i32_1829 : BitVec 32) (c0_i32_1837 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2175 : BitVec 32 := Scalar.subi v2 c1_i32_1829
  let c16_i32_1830 : BitVec 32 := 16#32
  let c0_i32_1831 : BitVec 32 := 0#32
  let v2176 : BitVec 1 := Scalar.cmpi .eq c16_i32_1830 c0_i32_1831
  let c1_i32_1832 : BitVec 32 := 1#32
  let v2177 : BitVec 32 := Scalar.select v2176 c1_i32_1832 c16_i32_1830
  let v2178 : BitVec 32 := Scalar.remsi v2175 v2177
  let c0_i32_1834 : BitVec 32 := 0#32
  let v2180 : BitVec 1 := Scalar.cmpi .slt v2178 c0_i32_1834
  let c0_i32_1835 : BitVec 32 := 0#32
  let v2181 : BitVec 1 := Scalar.cmpi .slt v2177 c0_i32_1835
  let v2182 : BitVec 1 := Scalar.xori v2180 v2181
  let c0_i32_1833 : BitVec 32 := 0#32
  let v2179 : BitVec 1 := Scalar.cmpi .ne v2178 c0_i32_1833
  let v2183 : BitVec 1 := Scalar.andi v2182 v2179
  let v2184 : BitVec 32 := Scalar.addi v2178 v2177
  let v2185 : BitVec 32 := Scalar.select v2183 v2184 v2178
  let c32_i32_1836 : BitVec 32 := 32#32
  let v2186 : BitVec 32 := Scalar.muli v2185 c32_i32_1836
  let v2187 : BitVec 32 := Scalar.addi v2186 c0_i32_1837
  let c0_i32_1844 : BitVec 32 := 0#32
  ![v2187.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x256x512 : Shape := ⟨3, ![2, 256, 512]⟩
abbrev S512x4096 : Shape := ⟨2, ![512, 4096]⟩
abbrev S2x256x64x64 : Shape := ⟨4, ![2, 256, 64, 64]⟩
abbrev S4096x512 : Shape := ⟨2, ![4096, 512]⟩
abbrev S2x256x4096 : Shape := ⟨3, ![2, 256, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x64x256x256 : Shape := ⟨4, ![2, 64, 256, 256]⟩
abbrev S1x1x256x256 : Shape := ⟨4, ![1, 1, 256, 256]⟩
abbrev S2x64x256 : Shape := ⟨3, ![2, 64, 256]⟩
abbrev S2x64x256x1 : Shape := ⟨4, ![2, 64, 256, 1]⟩
abbrev S1x1x256x1 : Shape := ⟨4, ![1, 1, 256, 1]⟩
abbrev S2x64x64x256 : Shape := ⟨4, ![2, 64, 64, 256]⟩

abbrev nBuf : Space → Nat
  | .hbm => 73
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x4096, .bf16⟩
  | .hbm, ⟨2, _⟩ => ⟨S2x256x64x64, .bf16⟩
  | .hbm, ⟨3, _⟩ => ⟨S2x256x64x64, .bf16⟩
  | .hbm, ⟨4, _⟩ => ⟨S4096x512, .bf16⟩
  | .hbm, ⟨5, _⟩ => ⟨S2x256x4096, .f32⟩
  | .hbm, ⟨6, _⟩ => ⟨S2x256x4096, .bf16⟩
  | .hbm, ⟨7, _⟩ => ⟨S2x256x64x64, .bf16⟩
  | .hbm, ⟨8, _⟩ => ⟨S256, .i32⟩
  | .hbm, ⟨9, _⟩ => ⟨S256x1, .i32⟩
  | .hbm, ⟨10, _⟩ => ⟨S256, .i32⟩
  | .hbm, ⟨11, _⟩ => ⟨S1x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i1⟩
  | .hbm, ⟨19, _⟩ => ⟨S_, .i32⟩
  | .hbm, ⟨20, _⟩ => ⟨S1x256, .i32⟩
  | .hbm, ⟨21, _⟩ => ⟨S1x256, .i1⟩
  | .hbm, ⟨22, _⟩ => ⟨S_, .i32⟩
  | .hbm, ⟨23, _⟩ => ⟨S256x1, .i32⟩
  | .hbm, ⟨24, _⟩ => ⟨S256x1, .i1⟩
  | .hbm, ⟨25, _⟩ => ⟨S256x256, .i1⟩
  | .hbm, ⟨26, _⟩ => ⟨S256x256, .i1⟩
  | .hbm, ⟨27, _⟩ => ⟨S256x256, .i1⟩
  | .hbm, ⟨28, _⟩ => ⟨S256x256, .i1⟩
  | .hbm, ⟨29, _⟩ => ⟨S2x64x256x256, .f32⟩
  | .hbm, ⟨30, _⟩ => ⟨S2x64x256x256, .bf16⟩
  | .hbm, ⟨31, _⟩ => ⟨S2x64x256x256, .f32⟩
  | .hbm, ⟨32, _⟩ => ⟨S_, .f32⟩
  | .hbm, ⟨33, _⟩ => ⟨S2x64x256x256, .f32⟩
  | .hbm, ⟨34, _⟩ => ⟨S2x64x256x256, .f32⟩
  | .hbm, ⟨35, _⟩ => ⟨S1x1x256x256, .i1⟩
  | .hbm, ⟨36, _⟩ => ⟨S_, .f32⟩
  | .hbm, ⟨37, _⟩ => ⟨S_, .f32⟩
  | .hbm, ⟨38, _⟩ => ⟨S2x64x256x256, .i1⟩
  | .hbm, ⟨39, _⟩ => ⟨S2x64x256x256, .f32⟩
  | .hbm, ⟨40, _⟩ => ⟨S2x64x256x256, .f32⟩
  | .hbm, ⟨41, _⟩ => ⟨S_, .f32⟩
  | .hbm, ⟨42, _⟩ => ⟨S2x64x256, .f32⟩
  | .hbm, ⟨43, _⟩ => ⟨S2x64x256x1, .f32⟩
  | .hbm, ⟨44, _⟩ => ⟨S2x64x256x256, .f32⟩
  | .hbm, ⟨45, _⟩ => ⟨S2x64x256x256, .f32⟩
  | .hbm, ⟨46, _⟩ => ⟨S2x64x256x256, .f32⟩
  | .hbm, ⟨47, _⟩ => ⟨S_, .i1⟩
  | .hbm, ⟨48, _⟩ => ⟨S256, .i1⟩
  | .hbm, ⟨49, _⟩ => ⟨S1x1x256x1, .i1⟩
  | .hbm, ⟨50, _⟩ => ⟨S_, .f32⟩
  | .hbm, ⟨51, _⟩ => ⟨S2x64x256, .f32⟩
  | .hbm, ⟨52, _⟩ => ⟨S2x64x256x1, .f32⟩
  | .hbm, ⟨53, _⟩ => ⟨S_, .f32⟩
  | .hbm, ⟨54, _⟩ => ⟨S_, .f32⟩
  | .hbm, ⟨55, _⟩ => ⟨S2x64x256x1, .i1⟩
  | .hbm, ⟨56, _⟩ => ⟨S2x64x256x1, .f32⟩
  | .hbm, ⟨57, _⟩ => ⟨S2x64x256x1, .f32⟩
  | .hbm, ⟨58, _⟩ => ⟨S2x64x256x256, .f32⟩
  | .hbm, ⟨59, _⟩ => ⟨S2x64x256x256, .f32⟩
  | .hbm, ⟨60, _⟩ => ⟨S1x1x256x1, .i1⟩
  | .hbm, ⟨61, _⟩ => ⟨S_, .f32⟩
  | .hbm, ⟨62, _⟩ => ⟨S_, .f32⟩
  | .hbm, ⟨63, _⟩ => ⟨S2x64x256x256, .i1⟩
  | .hbm, ⟨64, _⟩ => ⟨S2x64x256x256, .f32⟩
  | .hbm, ⟨65, _⟩ => ⟨S2x64x256x256, .f32⟩
  | .hbm, ⟨66, _⟩ => ⟨S2x256x64x64, .f32⟩
  | .hbm, ⟨67, _⟩ => ⟨S2x64x64x256, .f32⟩
  | .hbm, ⟨68, _⟩ => ⟨S2x256x64x64, .f32⟩
  | .hbm, ⟨69, _⟩ => ⟨S2x256x4096, .f32⟩
  | .hbm, ⟨70, _⟩ => ⟨S4096x512, .f32⟩
  | .hbm, ⟨71, _⟩ => ⟨S2x256x512, .f32⟩
  | .hbm, ⟨72, _⟩ => ⟨S2x256x512, .bf16⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]
-- ==== Proof.Body.lean ====
/-
  The kernel's body as a short program. The printed body is one straight line of 217 memory operations; written with
  its loops over the fifteen distances and the two halves of a chunk it is `body` below. `body_eq` says the two are the
  same program, by definitional unfolding.

  Distances run from 1 to 15 and are indexed by `i : Fin 15` for distance `i + 1`; halves by `s : Fin 2`.
-/
module

public import proofs.«01_k».proof.Proof.Gen.KernelIdeal
public import proofs.«01_k».proof.Proof.Gen.KernelIdeal.Skeleton

@[expose] public section

noncomputable section

namespace Cert.KernelIdealProof

open Cert.KernelIdeal Cert.KernelIdeal.Gen
open Idealize.ShloMosaic Idealize.SL.Sem

variable {F : FTy → Type} [FloatOps F]

/-! ## The devices the kernel addresses, as it computes them -/

/-- The device the `i`-th barrier signal of device `c` addresses, as the kernel computes it. -/
def sigDev (c : Dev nD) : Fin 15 → Dev nD
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩
  | 6 => ⟨k0_dev7 c, k0_dev7_lt c⟩
  | 7 => ⟨k0_dev8 c, k0_dev8_lt c⟩
  | 8 => ⟨k0_dev9 c, k0_dev9_lt c⟩
  | 9 => ⟨k0_dev10 c, k0_dev10_lt c⟩
  | 10 => ⟨k0_dev11 c, k0_dev11_lt c⟩
  | 11 => ⟨k0_dev12 c, k0_dev12_lt c⟩
  | 12 => ⟨k0_dev13 c, k0_dev13_lt c⟩
  | 13 => ⟨k0_dev14 c, k0_dev14_lt c⟩
  | 14 => ⟨k0_dev15 c, k0_dev15_lt c⟩

/-- The device the copy at distance `i + 1` of the first half of the scatter addresses, as the kernel computes it. -/
def rsDev0 (c : Dev nD) : Fin 15 → Dev nD
  | 0 => ⟨k0_dev29 c, k0_dev29_lt c⟩
  | 1 => ⟨k0_dev27 c, k0_dev27_lt c⟩
  | 2 => ⟨k0_dev25 c, k0_dev25_lt c⟩
  | 3 => ⟨k0_dev23 c, k0_dev23_lt c⟩
  | 4 => ⟨k0_dev21 c, k0_dev21_lt c⟩
  | 5 => ⟨k0_dev19 c, k0_dev19_lt c⟩
  | 6 => ⟨k0_dev17 c, k0_dev17_lt c⟩
  | 7 => ⟨k0_dev16 c, k0_dev16_lt c⟩
  | 8 => ⟨k0_dev18 c, k0_dev18_lt c⟩
  | 9 => ⟨k0_dev20 c, k0_dev20_lt c⟩
  | 10 => ⟨k0_dev22 c, k0_dev22_lt c⟩
  | 11 => ⟨k0_dev24 c, k0_dev24_lt c⟩
  | 12 => ⟨k0_dev26 c, k0_dev26_lt c⟩
  | 13 => ⟨k0_dev28 c, k0_dev28_lt c⟩
  | 14 => ⟨k0_dev30 c, k0_dev30_lt c⟩

/-- The device the copy at distance `i + 1` of the second half of the scatter addresses, as the kernel computes it. -/
def rsDev1 (c : Dev nD) : Fin 15 → Dev nD
  | 0 => ⟨k0_dev44 c, k0_dev44_lt c⟩
  | 1 => ⟨k0_dev42 c, k0_dev42_lt c⟩
  | 2 => ⟨k0_dev40 c, k0_dev40_lt c⟩
  | 3 => ⟨k0_dev38 c, k0_dev38_lt c⟩
  | 4 => ⟨k0_dev36 c, k0_dev36_lt c⟩
  | 5 => ⟨k0_dev34 c, k0_dev34_lt c⟩
  | 6 => ⟨k0_dev32 c, k0_dev32_lt c⟩
  | 7 => ⟨k0_dev31 c, k0_dev31_lt c⟩
  | 8 => ⟨k0_dev33 c, k0_dev33_lt c⟩
  | 9 => ⟨k0_dev35 c, k0_dev35_lt c⟩
  | 10 => ⟨k0_dev37 c, k0_dev37_lt c⟩
  | 11 => ⟨k0_dev39 c, k0_dev39_lt c⟩
  | 12 => ⟨k0_dev41 c, k0_dev41_lt c⟩
  | 13 => ⟨k0_dev43 c, k0_dev43_lt c⟩
  | 14 => ⟨k0_dev45 c, k0_dev45_lt c⟩

/-- The device the copy at distance `i + 1` of the first half of the gather addresses, as the kernel computes it. -/
def agDev0 (c : Dev nD) : Fin 15 → Dev nD
  | 0 => ⟨k0_dev59 c, k0_dev59_lt c⟩
  | 1 => ⟨k0_dev57 c, k0_dev57_lt c⟩
  | 2 => ⟨k0_dev55 c, k0_dev55_lt c⟩
  | 3 => ⟨k0_dev53 c, k0_dev53_lt c⟩
  | 4 => ⟨k0_dev51 c, k0_dev51_lt c⟩
  | 5 => ⟨k0_dev49 c, k0_dev49_lt c⟩
  | 6 => ⟨k0_dev47 c, k0_dev47_lt c⟩
  | 7 => ⟨k0_dev46 c, k0_dev46_lt c⟩
  | 8 => ⟨k0_dev48 c, k0_dev48_lt c⟩
  | 9 => ⟨k0_dev50 c, k0_dev50_lt c⟩
  | 10 => ⟨k0_dev52 c, k0_dev52_lt c⟩
  | 11 => ⟨k0_dev54 c, k0_dev54_lt c⟩
  | 12 => ⟨k0_dev56 c, k0_dev56_lt c⟩
  | 13 => ⟨k0_dev58 c, k0_dev58_lt c⟩
  | 14 => ⟨k0_dev60 c, k0_dev60_lt c⟩

/-- The device the copy at distance `i + 1` of the second half of the gather addresses, as the kernel computes it. -/
def agDev1 (c : Dev nD) : Fin 15 → Dev nD
  | 0 => ⟨k0_dev74 c, k0_dev74_lt c⟩
  | 1 => ⟨k0_dev72 c, k0_dev72_lt c⟩
  | 2 => ⟨k0_dev70 c, k0_dev70_lt c⟩
  | 3 => ⟨k0_dev68 c, k0_dev68_lt c⟩
  | 4 => ⟨k0_dev66 c, k0_dev66_lt c⟩
  | 5 => ⟨k0_dev64 c, k0_dev64_lt c⟩
  | 6 => ⟨k0_dev62 c, k0_dev62_lt c⟩
  | 7 => ⟨k0_dev61 c, k0_dev61_lt c⟩
  | 8 => ⟨k0_dev63 c, k0_dev63_lt c⟩
  | 9 => ⟨k0_dev65 c, k0_dev65_lt c⟩
  | 10 => ⟨k0_dev67 c, k0_dev67_lt c⟩
  | 11 => ⟨k0_dev69 c, k0_dev69_lt c⟩
  | 12 => ⟨k0_dev71 c, k0_dev71_lt c⟩
  | 13 => ⟨k0_dev73 c, k0_dev73_lt c⟩
  | 14 => ⟨k0_dev75 c, k0_dev75_lt c⟩

/-- The device a scatter copy addresses. -/
def rsDev (c : Dev nD) : Fin 2 → Fin 15 → Dev nD
  | 0 => rsDev0 c
  | 1 => rsDev1 c

/-- The device a gather copy addresses. -/
def agDev (c : Dev nD) : Fin 2 → Fin 15 → Dev nD
  | 0 => agDev0 c
  | 1 => agDev1 c

/-- The order in which the kernel visits the distances when it sends: the far ones first. -/
def sendOrder : List (Fin 15) := [7, 6, 8, 5, 9, 4, 10, 3, 11, 2, 12, 1, 13, 0, 14]

/-- The order in which it visits them when it receives: increasing. -/
def recvOrder : List (Fin 15) := [0, 1, 2, 3, 4, 5, 6, 7, 8, 9, 10, 11, 12, 13, 14]

/-! ## Semaphores and slices -/

/-- A cell of a 16 × 2 semaphore array is inside it. -/
theorem inb_sem (i : Fin 15) (s : Fin 2) : ∀ a, (![i.val + 1, s.val] : Fin 2 → Nat) a + S1x1.size a ≤ S16x2.size a := by
  revert i s; decide

/-- The cell of a 16 × 2 semaphore array for distance `i + 1` and half `s`. -/
def semAt (a : DmaSems sig S16x2) (i : Fin 15) (s : Fin 2) : DmaSem sig :=
  ((a.slice (Rect.unit (s := S16x2) ![i.val + 1, s.val] S1x1.size (inb_sem i s))).squeeze S_ squeezes_S1x1_S_).sem

/-- Where device `c`'s slot for half `s` starts in a device's receive buffer. -/
def slotOff (c : Dev nD) : Fin 2 → Fin 4 → Nat
  | 0 => k0_off1 c
  | 1 => k0_off3 c

/-- The slot lies inside the receive buffer. -/
theorem slotOff_inb (c : Dev nD) : ∀ s : Fin 2, ∀ a, slotOff c s a + S1x1x16x512.size a ≤ S16x2x16x512.size a
  | 0 => k0_off1_inb c
  | 1 => k0_off3_inb c

/-- The slot covers whole words. -/
theorem slotOff_words (c : Dev nD) : ∀ s : Fin 2,
    (Rect.unit (s := S16x2x16x512) (slotOff c s) S1x1x16x512.size (slotOff_inb c s)).WholeWords (EltTy.packing .bf16)
  | 0 => k0_off1_wordsbf16 c
  | 1 => k0_off3_wordsbf16 c

/-- Where the slot of the device at distance `i + 1` behind `c` starts, as the wait names it. -/
def fromOff (c : Dev nD) (i : Fin 15) : Fin 2 → Fin 4 → Nat
  | 0 => k0_off5 c (BitVec.ofNat 32 (1 + i.val))
  | 1 => k0_off8 c (BitVec.ofNat 32 (1 + i.val))

/-- The slot that a wait names lies inside the receive buffer. -/
theorem fromOff_inb (c : Dev nD) (i : Fin 15) : ∀ s : Fin 2, ∀ a, fromOff c i s a + S1x1x16x512.size a ≤ S16x2x16x512.size a
  | 0 => k0_off5_inb c i
  | 1 => k0_off8_inb c i

/-- The slot that a wait names covers whole words. -/
theorem fromOff_words (c : Dev nD) (i : Fin 15) : ∀ s : Fin 2,
    (Rect.unit (s := S16x2x16x512) (fromOff c i s) S1x1x16x512.size (fromOff_inb c i s)).WholeWords (EltTy.packing .bf16)
  | 0 => k0_off5_wordsbf16 c i
  | 1 => k0_off8_wordsbf16 c i

/-- The same slot, as the load names it. -/
def readOff (c : Dev nD) (i : Fin 15) : Fin 2 → Fin 4 → Nat
  | 0 => k0_off6 c (BitVec.ofNat 32 (1 + i.val))
  | 1 => k0_off9 c (BitVec.ofNat 32 (1 + i.val))

/-- The slot that a load names lies inside the receive buffer. -/
theorem readOff_inb (c : Dev nD) (i : Fin 15) : ∀ s : Fin 2, ∀ a, readOff c i s a + S1x1x16x512.size a ≤ S16x2x16x512.size a
  | 0 => k0_off6_inb c i
  | 1 => k0_off9_inb c i

/-- A slot of the receive buffer as a 16 × 512 block. -/
abbrev slotRef (a3 : Memref sig .tc .vmem S16x2x16x512 .bf16) (off : Fin 4 → Nat)
    (h : ∀ a, off a + S1x1x16x512.size a ≤ S16x2x16x512.size a) : Memref sig .tc .vmem S16x512 .bf16 :=
  (a3.slice (Rect.unit (s := S16x2x16x512) off S1x1x16x512.size h) (fun _ => rfl)).squeeze S16x512 squeezes_S1x1x16x512_S16x512

/-- The rows of the staging buffer that the copy at distance `i + 1`, half `s`, reads. -/
abbrev stageRef (a2 : Memref sig .tc .vmem S512x512 .bf16) (c : Dev nD) (i : Fin 15) (s : Fin 2) : Memref sig .tc .vmem S16x512 .bf16 :=
  a2.slice (Rect.unit (s := S512x512) (k0_off2 c (BitVec.ofNat 32 (1 + i.val)) (BitVec.ofNat 32 (16 * s.val))) S16x512.size (k0_off2_inb c i s)) (fun _ => rfl)

/-- Device `c`'s own half chunk of the output, which the gather copies. -/
abbrev ownRef (a1 : Memref sig .tc .vmem S512x512 .bf16) (c : Dev nD) (s : Fin 2) : Memref sig .tc .vmem S16x512 .bf16 :=
  a1.slice (Rect.unit (s := S512x512) (k0_off7 c (BitVec.ofNat 32 (16 * s.val))) S16x512.size (k0_off7_inb c s)) (fun _ => rfl)

/-- The half chunk of the output that the device at distance `i + 1` behind `c` sends. -/
abbrev farRef (a1 : Memref sig .tc .vmem S512x512 .bf16) (c : Dev nD) (i : Fin 15) (s : Fin 2) : Memref sig .tc .vmem S16x512 .bf16 :=
  a1.slice (Rect.unit (s := S512x512) (k0_off10 c (BitVec.ofNat 32 (1 + i.val)) (BitVec.ofNat 32 (16 * s.val))) S16x512.size (k0_off10_inb c i s)) (fun _ => rfl)

/-- The rectangle of device `c`'s own half chunk. -/
abbrev ownRect (c : Dev nD) (s : Fin 2) : Rect S512x512 :=
  Rect.unit (s := S512x512) (k0_off4 c (BitVec.ofNat 32 (16 * s.val))) S16x512.size (k0_off4_inb c s)

/-- The rectangle of the slot that a load reads. -/
abbrev readRect (c : Dev nD) (i : Fin 15) (s : Fin 2) : Rect S16x2x16x512 :=
  Rect.unit (s := S16x2x16x512) (readOff c i s) S1x1x16x512.size (readOff_inb c i s)

/-- The whole 512 × 512 array. -/
abbrev fullRect : Rect S512x512 := Rect.unit (s := S512x512) ![0, 0] S512x512.size inb_S512x512_S512x512_0_0

/-! ## The arithmetic -/

/-- The partial product rounded to bf16, as the kernel stages it. -/
def stagePay (v : Vec F S512x512 .f32) : FVec F S512x512 .bf16 := k0_pay1 v

/-- A device's own rows of its partial product, the start of the sum. -/
def accInit (v : Vec F S16x512 .f32) : FVec F S16x512 .f32 := shapeCast S16x512 v shapeCasts_S16x512_S16x512

/-- One received block added to the sum. -/
def accStep (acc : FVec F S16x512 .f32) (v : Vec F S1x1x16x512 .bf16) : FVec F S16x512 .f32 :=
  addf acc (extf .f32 (shapeCast S16x512 v shapeCasts_S1x1x16x512_S16x512 : FVec F S16x512 .bf16) bitsLt_bf16_f32)

/-- The sum rounded to bf16, as it is stored. -/
def outPay (acc : FVec F S16x512 .f32) : FVec F S16x512 .bf16 := truncf .bf16 acc bitsLt_bf16_f32

/-! ## The program -/

section prog

variable (F) in
/-- The programs of one device's kernel. -/
abbrev PR : Type 1 := Prog (TpuEff nD τ sig (Elt F) Λ₀ .tc) PUnit

variable (a0 : Memref sig .tc .vmem S512x512 .f32) (h0 : a0.IsWhole) (a1 : Memref sig .tc .vmem S512x512 .bf16) (h1 : a1.IsWhole)
variable (a2 : Memref sig .tc .vmem S512x512 .bf16) (h2 : a2.IsWhole) (a3 : Memref sig .tc .vmem S16x2x16x512 .bf16) (h3 : a3.IsWhole)
variable (a4 a5 a6 a7 : DmaSems sig S16x2)

/-- The signals to the barriers of the devices at the listed distances, then `k`. -/
def signals (c : Dev nD) (l : List (Fin 15)) (k : PR F) : PR F :=
  l.foldr (fun i k => .op (.semSignal (Dev.tc (sigDev c i)) (SemArray.scalar (sig.barrier 0 rfl) : Sems sig S_).sem (1#32).toInt) fun _ => k) k

/-- The scatter's copies at the listed distances, then `k`. -/
def scatter (c : Dev nD) (s : Fin 2) (l : List (Fin 15)) (k : PR F) : PR F :=
  l.foldr (fun i k => .op (.enqueueDma (stageRef a2 c i s)
    (.remote (Dev.tc (rsDev c s i)) (slotRef a3 (slotOff c s) (slotOff_inb c s)) (.dma (semAt a4 i s))) (.dma (semAt a5 i s))
    (h2.wordExact_slice rfl _ (k0_off2_wordsbf16 c i s)) ((h3.wordExact_slice rfl _ (slotOff_words c s)).reshape _ _)
    ⟨⟨rfl, Or.inl rfl⟩, trivial⟩) fun _ => k) k

/-- The sum over the listed distances: await the block, read it, add it; then `k` of the sum. -/
def reduce (c : Dev nD) (s : Fin 2) : List (Fin 15) → FVec F S16x512 .f32 → (FVec F S16x512 .f32 → PR F) → PR F
  | [], acc, k => k acc
  | i :: l, acc, k => .op (.waitDma2 (semAt a5 i s) (slotRef a3 (fromOff c i s) (fromOff_inb c i s)) (slotRef a3 (fromOff c i s) (fromOff_inb c i s))
      ((h3.wordExact_slice rfl _ (fromOff_words c i s)).reshape _ _) ((h3.wordExact_slice rfl _ (fromOff_words c i s)).reshape _ _)) fun _ =>
    .op (.load a3 (readRect c i s).toLoadRect (View.loadsAt_vmem h_S1x1x16x512)) fun v => reduce c s l (accStep acc v) k

/-- The gather's copies at the listed distances, then `k`. -/
def gather (c : Dev nD) (s : Fin 2) (l : List (Fin 15)) (k : PR F) : PR F :=
  l.foldr (fun i k => .op (.enqueueDma (ownRef a1 c s)
    (.remote (Dev.tc (agDev c s i)) (ownRef a1 c s) (.dma (semAt a6 i s))) (.dma (semAt a7 i s))
    (h1.wordExact_slice rfl _ (k0_off7_wordsbf16 c s)) (h1.wordExact_slice rfl _ (k0_off7_wordsbf16 c s))
    ⟨⟨rfl, Or.inl rfl⟩, trivial⟩) fun _ => k) k

/-- One half chunk: the sum, its store, its copies to the other devices; then `k`. -/
def half (c : Dev nD) (s : Fin 2) (k : PR F) : PR F :=
  .op (.load a0 (ownRect c s).toLoadRect (View.loadsAt_vmem h_S16x512)) fun v =>
  reduce a3 h3 a5 c s recvOrder (accInit v) fun acc =>
  .op (.load a1 (ownRect c s).toLoadRect (View.loadsAt_vmem h_S16x512)) fun _ =>
  .op (.store a1 (ownRect c s) (outPay acc) Finset.univ
    (View.stores_vmem h_S16x512 (h1.storeExact_slice rfl _ (k0_off4_packedbf16 c s)) (fun _ => rfl)) (.inl rfl)) fun _ =>
  gather a1 h1 a6 a7 c s sendOrder k

/-- The waits for the gather's landings at the listed distances, then `k`. -/
def landed (c : Dev nD) (s : Fin 2) (l : List (Fin 15)) (k : PR F) : PR F :=
  l.foldr (fun i k => .op (.waitDma2 (semAt a7 i s) (farRef a1 c i s) (farRef a1 c i s)
    (h1.wordExact_slice rfl _ (k0_off10_wordsbf16 c i s)) (h1.wordExact_slice rfl _ (k0_off10_wordsbf16 c i s))) fun _ => k) k

/-- The waits for the scatter's own copies to have left, then `k`. -/
def scattered (c : Dev nD) (s : Fin 2) (l : List (Fin 15)) (k : PR F) : PR F :=
  l.foldr (fun i k => .op (.waitDma2 (semAt a4 i s) (slotRef a3 (slotOff c s) (slotOff_inb c s)) (stageRef a2 c i s)
    ((h3.wordExact_slice rfl _ (slotOff_words c s)).reshape _ _) (h2.wordExact_slice rfl _ (k0_off2_wordsbf16 c i s))) fun _ => k) k

/-- The waits for the gather's own copies to have left, then `k`. -/
def gathered (c : Dev nD) (s : Fin 2) (l : List (Fin 15)) (k : PR F) : PR F :=
  l.foldr (fun i k => .op (.waitDma2 (semAt a6 i s) (ownRef a1 c s) (ownRef a1 c s)
    (h1.wordExact_slice rfl _ (k0_off7_wordsbf16 c s)) (h1.wordExact_slice rfl _ (k0_off7_wordsbf16 c s))) fun _ => k) k

/-- Everything after the barrier. -/
def afterBarrier (c : Dev nD) : PR F :=
  scatter a2 h2 a3 h3 a4 a5 c 0 sendOrder <| scatter a2 h2 a3 h3 a4 a5 c 1 sendOrder <|
  half a0 a1 h1 a3 h3 a5 a6 a7 c 0 <| half a0 a1 h1 a3 h3 a5 a6 a7 c 1 <|
  landed a1 h1 a7 c 0 recvOrder <| landed a1 h1 a7 c 1 recvOrder <|
  scattered a2 h2 a3 h3 a4 c 0 sendOrder <| scattered a2 h2 a3 h3 a4 c 1 sendOrder <|
  gathered a1 h1 a6 c 0 sendOrder <| gathered a1 h1 a6 c 1 sendOrder <| .ret ⟨⟩

/-- Everything from the staging of the partial product to the barrier's wait, and what follows. -/
def afterSignals (c : Dev nD) : PR F :=
  .op (.load a0 fullRect.toLoadRect (View.loadsAt_vmem h_S512x512)) fun v =>
  .op (.load a2 fullRect.toLoadRect (View.loadsAt_vmem h_S512x512)) fun _ =>
  .op (.store a2 fullRect (stagePay v) Finset.univ
    (View.stores_vmem h_S512x512 (h2.storeExact_slice rfl _ packedbf16_S512x512_S512x512_0_0) (fun _ => rfl)) (.inl rfl)) fun _ =>
  .op (.semWait (SemArray.scalar (sig.barrier 0 rfl) : Sems sig S_).sem (15#32).toInt) fun _ =>
  afterBarrier a0 a1 h1 a2 h2 a3 h3 a4 a5 a6 a7 c

/-- The kernel's body. -/
def body : PR F :=
  .op .deviceId fun c => signals c recvOrder <| afterSignals a0 a1 h1 a2 h2 a3 h3 a4 a5 a6 a7 c

set_option maxRecDepth 65536 in
/-- The kernel's body, as printed, is `body`: the same operations in the same order. -/
theorem body_eq : cc0__allreduce_body (F := F) a0 h0 a1 h1 a2 h2 a3 h3 a4 a5 a6 a7
    = body (F := F) a0 a1 h1 a2 h2 a3 h3 a4 a5 a6 a7 := rfl

end prog

end Cert.KernelIdealProof

end
-- ==== Proof.Geometry.lean ====
/-
  Where the kernel's slices lie. The 512 rows of the staging buffer and of the output are 16 chunks of 32 rows, chunk `d` for
  device `d`, each in two halves of 16 rows; the receive buffer has a slot of 16 rows for each device and each half. The
  offsets the kernel computes are these, the devices it addresses are the ones at the distances it means, and the half
  chunks and the slots each divide their buffer.
-/
module

public import proofs.«01_k».proof.Proof.Body
public import proofs.«01_k».proof.Proof.Gen.KernelIdeal.Launch
public import Idealize.ShloMosaic.Lib.Rounds
public import Idealize.ShloMosaic.Lib.Ring

@[expose] public section

noncomputable section

namespace Cert.KernelIdealProof

open Cert.KernelIdeal Cert.KernelIdeal.Gen
open Idealize.ShloMosaic Idealize.SL.Sem

variable {F : FTy → Type} [FloatOps F]

/-! ## Devices -/

/-- The `i`-th barrier signal goes to the device at distance `i + 1`. -/
theorem sigDev_eq (c : Dev nD) (i : Fin 15) : sigDev c i = c + i.succ := by revert c i; decide +kernel
/-- A scatter copy goes to the device at its distance. -/
theorem rsDev_eq (c : Dev nD) (s : Fin 2) (i : Fin 15) : rsDev c s i = c + i.succ := by revert c s i; decide +kernel
/-- A gather copy goes to the device at its distance. -/
theorem agDev_eq (c : Dev nD) (s : Fin 2) (i : Fin 15) : agDev c s i = c + i.succ := by revert c s i; decide +kernel

/-! ## Offsets -/

/-- Where half `s` of device `d`'s chunk of rows starts. -/
def rowO (d : Dev nD) (s : Fin 2) : Fin 2 → Nat := ![32 * d.val + 16 * s.val, 0]
/-- Where device `d`'s slot for half `s` starts. -/
def slotO (d : Dev nD) (s : Fin 2) : Fin 4 → Nat := ![d.val, s.val, 0, 0]

/-- Half a chunk of rows lies inside the array. -/
theorem rowO_inb (d : Dev nD) (s : Fin 2) : ∀ a, rowO d s a + S16x512.size a ≤ S512x512.size a := by revert d s; decide +kernel
/-- A slot lies inside the receive buffer. -/
theorem slotO_inb (d : Dev nD) (s : Fin 2) : ∀ a, slotO d s a + S1x1x16x512.size a ≤ S16x2x16x512.size a := by revert d s; decide +kernel

/-- The rows a scatter copy leaves from: the target's chunk. -/
theorem off2_eq (c : Dev nD) (i : Fin 15) (s : Fin 2) :
    k0_off2 c (BitVec.ofNat 32 (1 + i.val)) (BitVec.ofNat 32 (16 * s.val)) = rowO (c + i.succ) s := by
  funext a; revert c i s a; decide +kernel
/-- The rows the accumulator starts from: the device's own chunk. -/
theorem off4_eq (c : Dev nD) (s : Fin 2) : k0_off4 c (BitVec.ofNat 32 (16 * s.val)) = rowO c s := by
  funext a; revert c s a; decide +kernel
/-- The rows the sum is stored to, and a gather copy leaves from and lands in: the device's own chunk. -/
theorem off7_eq (c : Dev nD) (s : Fin 2) : k0_off7 c (BitVec.ofNat 32 (16 * s.val)) = rowO c s := by
  funext a; revert c s a; decide +kernel
/-- The rows a gather wait names: the chunk of the device at that distance behind. -/
theorem off10_eq (c : Dev nD) (i : Fin 15) (s : Fin 2) :
    k0_off10 c (BitVec.ofNat 32 (1 + i.val)) (BitVec.ofNat 32 (16 * s.val)) = rowO (c - i.succ) s := by
  funext a; revert c i s a; decide +kernel
/-- A scatter copy lands in the sender's slot. -/
theorem slotOff_eq (c : Dev nD) (s : Fin 2) : slotOff c s = slotO c s := by
  funext a; revert c s a; decide +kernel
/-- A scatter wait names the slot of the device at that distance behind, -/
theorem fromOff_eq (c : Dev nD) (i : Fin 15) (s : Fin 2) : fromOff c i s = slotO (c - i.succ) s := by
  funext a; revert c i s a; decide +kernel
/-- and the load after it reads the same slot. -/
theorem readOff_eq (c : Dev nD) (i : Fin 15) (s : Fin 2) : readOff c i s = slotO (c - i.succ) s := by
  funext a; revert c i s a; decide +kernel

/-! ## The buffers and their parts -/

/-- The staged input: the device's partial product. -/
abbrev inM : Memref sig .tc .vmem S512x512 .f32 := Memref.whole cc0_stg0_0
/-- The staged output. -/
abbrev outM : Memref sig .tc .vmem S512x512 .bf16 := Memref.whole cc0_stg1_0
/-- The staging buffer: the partial product rounded to bf16. -/
abbrev stM : Memref sig .tc .vmem S512x512 .bf16 := Memref.whole cc0_scratch0
/-- The receive buffer. -/
abbrev cmM : Memref sig .tc .vmem S16x2x16x512 .bf16 := Memref.whole cc0_scratch1

/-- The rectangle of half `s` of chunk `d`. -/
abbrev rowR (d : Dev nD) (s : Fin 2) : Rect S512x512 := Rect.unit (s := S512x512) (rowO d s) S16x512.size (rowO_inb d s)
/-- The rectangle of device `d`'s slot for half `s`. -/
abbrev slotR (d : Dev nD) (s : Fin 2) : Rect S16x2x16x512 :=
  Rect.unit (s := S16x2x16x512) (slotO d s) S1x1x16x512.size (slotO_inb d s)

/-- Half `s` of chunk `d` of a 512 × 512 buffer. -/
abbrev rowsV {e : EltTy} (a : Memref sig .tc .vmem S512x512 e) (d : Dev nD) (s : Fin 2) : Memref sig .tc .vmem S16x512 e :=
  a.slice (rowR d s) (fun _ => rfl)
/-- Device `d`'s slot for half `s`. -/
abbrev slotV (d : Dev nD) (s : Fin 2) : Memref sig .tc .vmem S16x512 .bf16 := slotRef cmM (slotO d s) (slotO_inb d s)

/-- Slices at equal offsets are equal. -/
theorem slice_congr {e : EltTy} (a : Memref sig .tc .vmem S512x512 e) {o o' : Fin 2 → Nat} (h : o = o')
    (i : ∀ k, o k + S16x512.size k ≤ S512x512.size k) (i' : ∀ k, o' k + S16x512.size k ≤ S512x512.size k) (u u') :
    a.slice (Rect.unit (s := S512x512) o S16x512.size i) u = a.slice (Rect.unit (s := S512x512) o' S16x512.size i') u' := by
  subst h; rfl

/-- The source of a scatter copy, in closed form. -/
theorem stageRef_eq (a : Memref sig .tc .vmem S512x512 .bf16) (c : Dev nD) (i : Fin 15) (s : Fin 2) :
    stageRef a c i s = rowsV a (c + i.succ) s := slice_congr a (off2_eq c i s) _ _ _ _
/-- The source of a gather copy, in closed form. -/
theorem ownRef_eq (a : Memref sig .tc .vmem S512x512 .bf16) (c : Dev nD) (s : Fin 2) : ownRef a c s = rowsV a c s :=
  slice_congr a (off7_eq c s) _ _ _ _
/-- The target of a gather wait, in closed form. -/
theorem farRef_eq (a : Memref sig .tc .vmem S512x512 .bf16) (c : Dev nD) (i : Fin 15) (s : Fin 2) :
    farRef a c i s = rowsV a (c - i.succ) s := slice_congr a (off10_eq c i s) _ _ _ _
/-- The rectangle of a device's own rows, in closed form. -/
theorem ownRect_eq (c : Dev nD) (s : Fin 2) : ownRect c s = rowR c s := by simp only [ownRect, off4_eq]
/-- The rectangle of a slot that is read, in closed form. -/
theorem readRect_eq (c : Dev nD) (i : Fin 15) (s : Fin 2) : readRect c i s = slotR (c - i.succ) s := by
  simp only [readRect, readOff_eq]
/-- The target of a scatter copy, in closed form. -/
theorem slotRef_to (c : Dev nD) (s : Fin 2) : slotRef cmM (slotOff c s) (slotOff_inb c s) = slotV c s := by
  simp only [slotOff_eq]
/-- The slot that a scatter wait names, in closed form. -/
theorem slotRef_from (c : Dev nD) (i : Fin 15) (s : Fin 2) :
    slotRef cmM (fromOff c i s) (fromOff_inb c i s) = slotV (c - i.succ) s := by simp only [fromOff_eq]

/-! ## The semaphores -/

/-- The DMA semaphores the kernel allots: kind 0 the scatter's departures, 1 its arrivals, 2 the gather's departures, 3 its
    arrivals; one for each distance `j` and half `s`. -/
def dsem (a : Fin 4) (j : Fin 16) (s : Fin 2) : DmaSem sig := ⟨2 + 32 * a.val + 2 * j.val + s.val, by
  show 2 + 32 * a.val + 2 * j.val + s.val < 130; omega⟩

/-- The scatter's departure semaphores are those of kind 0, -/
theorem semAt_0 (i : Fin 15) (s : Fin 2) : semAt cc0_scratch2 i s = dsem 0 i.succ s := by revert i s; decide +kernel
/-- its arrival semaphores those of kind 1, -/
theorem semAt_1 (i : Fin 15) (s : Fin 2) : semAt cc0_scratch3 i s = dsem 1 i.succ s := by revert i s; decide +kernel
/-- the gather's departure semaphores those of kind 2, -/
theorem semAt_2 (i : Fin 15) (s : Fin 2) : semAt cc0_scratch4 i s = dsem 2 i.succ s := by revert i s; decide +kernel
/-- and its arrival semaphores those of kind 3. -/
theorem semAt_3 (i : Fin 15) (s : Fin 2) : semAt cc0_scratch5 i s = dsem 3 i.succ s := by revert i s; decide +kernel

/-- The kind, the distance and the half of a DMA semaphore, from its number. -/
def kindOf (n : DmaSem sig) : Fin 4 := ⟨(n.val - 2) / 32 % 4, Nat.mod_lt _ (by decide)⟩
/-- The distance of a DMA semaphore, from its number. -/
def distOf (n : DmaSem sig) : Fin 16 := ⟨(n.val - 2) % 32 / 2, by omega⟩
/-- The half of a DMA semaphore, from its number. -/
def halfOf (n : DmaSem sig) : Fin 2 := ⟨n.val % 2, Nat.mod_lt _ (by decide)⟩

/-- The kind is read back from the number, -/
theorem kindOf_dsem (a : Fin 4) (j : Fin 16) (s : Fin 2) : kindOf (dsem a j s) = a := by revert a j s; decide +kernel
/-- so is the distance, -/
theorem distOf_dsem (a : Fin 4) (j : Fin 16) (s : Fin 2) : distOf (dsem a j s) = j := by revert a j s; decide +kernel
/-- and the half. -/
theorem halfOf_dsem (a : Fin 4) (j : Fin 16) (s : Fin 2) : halfOf (dsem a j s) = s := by revert a j s; decide +kernel
/-- The first two DMA semaphores are the pipeline's. -/
theorem dsem_ge (a : Fin 4) (j : Fin 16) (s : Fin 2) : 2 ≤ (dsem a j s).val := by show 2 ≤ 2 + 32 * a.val + 2 * j.val + s.val; omega

/-- Kind, distance and half tell the kernel's semaphores apart. -/
theorem dsem_inj (k k' : Fin 4 × Fin 16 × Fin 2) (h : dsem k.1 k.2.1 k.2.2 = dsem k'.1 k'.2.1 k'.2.2) : k = k' := by
  have h1 := congrArg kindOf h; have h2 := congrArg distOf h; have h3 := congrArg halfOf h
  simp only [kindOf_dsem, distOf_dsem, halfOf_dsem] at h1 h2 h3
  exact Prod.ext h1 (Prod.ext h2 h3)

/-! ## The parts divide their buffers -/

/-- The half chunks of a 512 × 512 buffer: pairwise disjoint, -/
theorem rows_disjoint (p q : Dev nD × Fin 2) (h : p ≠ q) : Disjoint (rowR p.1 p.2).set (rowR q.1 q.2).set := by
  refine Rect.unit_disjoint (0 : Fin 2) ?_
  have hne : ¬(p.1.val = q.1.val ∧ p.2.val = q.2.val) := fun e => h (Prod.ext (Fin.ext e.1) (Fin.ext e.2))
  show 32 * p.1.val + 16 * p.2.val + 16 ≤ 32 * q.1.val + 16 * q.2.val ∨ 32 * q.1.val + 16 * q.2.val + 16 ≤ 32 * p.1.val + 16 * p.2.val
  have := p.2.isLt; have := q.2.isLt; omega
/-- and covering it. -/
theorem rows_cover : Finset.univ.biUnion (fun p : Dev nD × Fin 2 => (rowR p.1 p.2).set) = Finset.univ := by
  ext x
  simp only [Finset.mem_biUnion, Finset.mem_univ, true_and, iff_true]
  have h0 : (x 0).val < 512 := (x 0).isLt
  refine ⟨(⟨(x 0).val / 32, by show _ < 16; omega⟩, ⟨(x 0).val % 32 / 16, by omega⟩), Rect.mem_set_unit.mpr ?_⟩
  refine Fin.forall_fin_two.mpr ⟨?_, ?_⟩
  · show 32 * ((x 0).val / 32) + 16 * ((x 0).val % 32 / 16) ≤ (x 0).val ∧ (x 0).val < 32 * ((x 0).val / 32) + 16 * ((x 0).val % 32 / 16) + 16
    omega
  · have h1 : (x 1).val < 512 := (x 1).isLt
    exact ⟨Nat.zero_le _, by show (x 1).val < 0 + 512; omega⟩

/-- The slots of the receive buffer: pairwise disjoint, -/
theorem slots_disjoint (p q : Dev nD × Fin 2) (h : p ≠ q) : Disjoint (slotR p.1 p.2).set (slotR q.1 q.2).set := by
  by_cases h1 : p.1 = q.1
  · have h2 : p.2.val ≠ q.2.val := fun e => h (Prod.ext h1 (Fin.ext e))
    refine Rect.unit_disjoint (1 : Fin 4) ?_
    show p.2.val + 1 ≤ q.2.val ∨ q.2.val + 1 ≤ p.2.val
    omega
  · have h2 : p.1.val ≠ q.1.val := fun e => h1 (Fin.ext e)
    refine Rect.unit_disjoint (0 : Fin 4) ?_
    show p.1.val + 1 ≤ q.1.val ∨ q.1.val + 1 ≤ p.1.val
    omega
/-- and covering it. -/
theorem slots_cover : Finset.univ.biUnion (fun p : Dev nD × Fin 2 => (slotR p.1 p.2).set) = Finset.univ := by
  ext x
  simp only [Finset.mem_biUnion, Finset.mem_univ, true_and, iff_true]
  refine ⟨(x 0, x 1), Rect.mem_set_unit.mpr fun a => ?_⟩
  have h2 : (x 2).val < 16 := (x 2).isLt
  have h3 : (x 3).val < 512 := (x 3).isLt
  match a with
  | 0 => exact ⟨le_refl _, Nat.lt_succ_self _⟩
  | 1 => exact ⟨le_refl _, Nat.lt_succ_self _⟩
  | 2 => exact ⟨Nat.zero_le _, by show (x 2).val < 0 + 16; omega⟩
  | 3 => exact ⟨Nat.zero_le _, by show (x 3).val < 0 + 512; omega⟩

end Cert.KernelIdealProof

end
-- ==== Proof.Proto.lean ====
/-
  The protocol of the all-reduce, written as a schedule of rounds.

  Every cell lives for one round.
  · The barrier cell of device `t` is paid one unit by each other device `d`. With it `d` hands over the right to write
    what `t` will write on `d`: the two slots of `d`'s receive buffer that are `t`'s, and the two half chunks of `d`'s
    output that are `t`'s; and the fact that the arrival cells those copies credit are in their round.
  · A scatter arrival (kind 1, distance `j`, half `s`) on `t` is paid by the copy from `t - j`: its slot on `t`, holding
    that device's rounded rows of chunk `t`.
  · A gather arrival (kind 3) on `t` is paid by the copy from `t - j`: that device's half chunk of `t`'s output, holding the
    reduced rows.
  · A departure (kinds 0 and 2) gives the source back: the staged rows whole, or the share of the output's own rows that
    the copy was lent.
  The contents are those of one run on the partial products `P`, one for each device.
-/
module

public import proofs.«01_k».proof.Proof.Geometry
public import Idealize.ShloMosaic.Lib.Pipeline.Value
public import Idealize.ShloMosaic.Lib.Transfers

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra: the pipeline library's copy and the protocol's -/

/-- The protocol's duties are named by what tells the payers of a cell apart: the paying device, on a barrier. -/
abbrev UU : Type := UR sig nD τ × Rounds.URounds (GSem nD τ sig) (Fin 16)

local notation "𝕄" => MT nD τ sig Unit (Elt F) ℕ UU ℕ

/-- The pipeline library's part of the ghost state, -/
abbrev EP : Emb (UR sig nD τ) (MT nD τ sig Unit (Elt F) ℕ UU ℕ) := embL
/-- and the protocol's. -/
abbrev ER : Emb (Rounds.URounds (GSem nD τ sig) (Fin 16)) (MT nD τ sig Unit (Elt F) ℕ UU ℕ) := embR

/-! ## Cells -/

/-- The barrier semaphore. -/
abbrev barS : Sem sig := sig.barrier 0 rfl
/-- Device `c`'s barrier cell. -/
abbrev bcell (c : Dev nD) : GSem nD τ sig := ((c : Thread nD τ), .reg barS)
/-- Device `c`'s DMA cell of kind `a`, distance `j`, half `s`. -/
abbrev dcell (c : Dev nD) (a : Fin 4) (j : Fin 16) (s : Fin 2) : GSem nD τ sig := ((c : Thread nD τ), .dma (dsem a j s))

/-- What one copy credits. -/
def N : ℕ := (rowsV outM 0 0).view.dmaCredit
/-- A copy credits something. -/
theorem N_pos : 0 < N := View.dmaCredit_pos _ (by decide)

/-! ## Parts of the buffers -/

/-- Half `s` of chunk `d` of device `c`'s staging buffer. -/
abbrev stPts (c d : Dev nD) (s : Fin 2) (f : cc0_scratch0.ty.Contents (Elt F)) : sProp 𝕄 :=
  (rowsV stM d s).view.loc (c : Thread nD τ) ↦[(rowsV stM d s).view.set]{fullShare} f
/-- The slot of device `d` for half `s` in device `c`'s receive buffer. -/
abbrev slPts (c d : Dev nD) (s : Fin 2) (f : cc0_scratch1.ty.Contents (Elt F)) : sProp 𝕄 :=
  (slotV d s).view.loc (c : Thread nD τ) ↦[(slotV d s).view.set]{fullShare} f
/-- Half `s` of chunk `d` of device `c`'s output, at share `q`. -/
abbrev outPts (c d : Dev nD) (s : Fin 2) (q : PosShare TreeShare) (f : cc0_stg1_0.ty.Contents (Elt F)) : sProp 𝕄 :=
  (rowsV outM d s).view.loc (c : Thread nD τ) ↦[(rowsV outM d s).view.set]{q} f

/-- The share of its own rows a device lends the copy at distance `j`. -/
abbrev lent (j : Fin 16) : PosShare TreeShare := Transfers.dealOf fullShare (Finset.univ.erase (0 : Fin 16)) j

/-! ## Contents -/

section contents

variable [FloatOps F] (P : Dev nD → S512x512.Idx → Elt F .f32)

/-- What device `c` stages: its partial product rounded to bf16. -/
def stAll (c : Dev nD) : cc0_scratch0.ty.Contents (Elt F) := stagePay (P c)

/-- Device `d`'s rounded rows of half `s` of chunk `c`. -/
def blk (c d : Dev nD) (s : Fin 2) : Vec F S16x512 .bf16 := (rowsV stM c s).view.read (Elt F) (stAll P d)

/-- What device `c`'s receive buffer holds once all has landed: in the slot of `d` for half `s`, `d`'s rounded rows. -/
def cmAll (c : Dev nD) : cc0_scratch1.ty.Contents (Elt F) := fun x =>
  (slotV (x 0) (x 1)).view.write (Elt F) (slotV (x 0) (x 1)).view.junk (blk P c (x 0) (x 1)) Finset.univ x

/-- The sum device `c` forms for half `s` of its chunk: its own rows, then the others' rounded rows, nearest behind first. -/
def red (c : Dev nD) (s : Fin 2) : FVec F S16x512 .f32 :=
  recvOrder.foldl (fun acc i => addf acc (extf .f32 (blk P c (c - i.succ) s : FVec F S16x512 .bf16) bitsLt_bf16_f32))
    (accInit ((rowsV inM c s).view.read (Elt F) (P c)))

/-- The device whose chunk a row is in, and the half. -/
def rowDev (x : S512x512.Idx) : Dev nD := ⟨(x 0).val / 32, by have : (x 0).val < 512 := (x 0).isLt; show _ < 16; omega⟩
/-- The half of its chunk that a row is in. -/
def rowHalf (x : S512x512.Idx) : Fin 2 := ⟨(x 0).val % 32 / 16, by omega⟩

/-- The result, the same on every device: half `s` of chunk `d` is the sum device `d` formed, rounded to bf16. -/
def outAll : cc0_stg1_0.ty.Contents (Elt F) := fun x =>
  (rowsV outM (rowDev x) (rowHalf x)).view.write (Elt F) (rowsV outM (rowDev x) (rowHalf x)).view.junk
    (outPay (red P (rowDev x) (rowHalf x))) Finset.univ x

/-- The slot of `d` holds `d`'s rounded rows. -/
theorem read_cmAll (c d : Dev nD) (s : Fin 2) : (slotV d s).view.read (Elt F) (cmAll P c) = blk P c d s := by
  funext x
  have hm : (slotV d s).view.emb x ∈ (slotR d s).set := by
    have h := (slotV d s).view.emb_mem_set x
    rw [View.set_reshape] at h
    rwa [View.set_slice_whole] at h
  have hb := Rect.mem_set_unit.mp hm
  have e0 : (slotV d s).view.emb x 0 = d := by
    have : d.val ≤ ((slotV d s).view.emb x 0).val ∧ ((slotV d s).view.emb x 0).val < d.val + 1 := hb 0
    exact Fin.ext (by omega)
  have e1 : (slotV d s).view.emb x 1 = s := by
    have : s.val ≤ ((slotV d s).view.emb x 1).val ∧ ((slotV d s).view.emb x 1).val < s.val + 1 := hb 1
    exact Fin.ext (by omega)
  have hw : cmAll P c ((slotV d s).view.emb x)
      = (slotV d s).view.write (Elt F) (slotV d s).view.junk (blk P c d s) Finset.univ ((slotV d s).view.emb x) := by
    unfold cmAll; rw [e0, e1]
  rw [View.read_apply, hw, ← View.read_apply, View.read_write_univ]

/-- A half chunk of the output holds its device's rounded sum. -/
theorem read_outAll (d : Dev nD) (s : Fin 2) : (rowsV outM d s).view.read (Elt F) (outAll P) = outPay (red P d s) := by
  funext x
  have hm : (rowsV outM d s).view.emb x ∈ (rowR d s).set := by
    have h := (rowsV outM d s).view.emb_mem_set x
    rwa [View.set_slice_whole] at h
  have hb : 32 * d.val + 16 * s.val ≤ ((rowsV outM d s).view.emb x 0).val
      ∧ ((rowsV outM d s).view.emb x 0).val < 32 * d.val + 16 * s.val + 16 := Rect.mem_set_unit.mp hm 0
  have e0 : rowDev ((rowsV outM d s).view.emb x) = d := Fin.ext (by show _ / 32 = _; omega)
  have e1 : rowHalf ((rowsV outM d s).view.emb x) = s := Fin.ext (by show _ % 32 / 16 = _; omega)
  have hw : outAll P ((rowsV outM d s).view.emb x)
      = (rowsV outM d s).view.write (Elt F) (rowsV outM d s).view.junk (outPay (red P d s)) Finset.univ ((rowsV outM d s).view.emb x) := by
    unfold outAll; rw [e0, e1]
  rw [View.read_apply, hw, ← View.read_apply, View.read_write_univ]

end contents

/-- Contents that read through a view as the block written to it are, on the view's elements, what the write left. -/
theorem write_pts {sp : Space} {s : Shape} {e : EltTy} (v : View sig .tc sp s e) (c : Dev nD) (q : PosShare TreeShare)
    (fd g : v.ty.Contents (Elt F)) (w : s.Idx → Elt F e) (h : v.read (Elt F) g = w) :
    (v.loc (c : Thread nD τ) ↦[v.set]{q} v.write (Elt F) fd w Finset.univ : sProp 𝕄) = v.loc (c : Thread nD τ) ↦[v.set]{q} g := by
  refine pointsTo_congr fun i hi => ?_
  obtain ⟨x, rfl⟩ := View.exists_emb_of_mem_set v hi
  rw [View.write_emb_of_mem fd w (Finset.mem_univ x), ← h, View.read_apply, cast_cast, cast_eq]

/-! ## The schedule -/

section sched

variable [FloatOps F] (P : Dev nD → S512x512.Idx → Elt F .f32)

/-- What device `d` hands device `t` with its unit on `t`'s barrier. -/
def barPay (t d : Dev nD) : sProp 𝕄 :=
  bigSep Finset.univ fun s : Fin 2 => iprop((∃ f, slPts d t s f) ∗ (∃ f, outPts d t s fullShare f)
    ∗ reached ER (dcell d 1 (d - t) s) 0 ∗ reached ER (dcell d 3 (d - t) s) 0)

/-- What the DMA cell of kind `a`, distance `j`, half `s` on device `c` is paid. -/
def dmaPay (c : Dev nD) (a : Fin 4) (j : Fin 16) (s : Fin 2) : sProp 𝕄 := match a with
  | 0 => stPts c (c + j) s (stAll P c)
  | 1 => slPts c (c - j) s (cmAll P c)
  | 2 => outPts c c s (lent j) (outAll P)
  | 3 => outPts c (c - j) s fullShare (outAll P)

/-- Which duties a cell has in its round. -/
def dutyOf (c : Dev nD) : SemLoc sig → Finset (Fin 16)
  | .reg b => if b = barS then Finset.univ.erase c else ∅
  | .dma n => if 2 ≤ n.val ∧ distOf n ≠ 0 then {0} else ∅

/-- The schedule. -/
def talkRd : Rounds.Schedule (GSem nD τ sig) (Fin 16) 𝕄 where
  duties g r := if r = 0 ∧ g.1.2 = .tc then dutyOf g.1.1 g.2 else ∅
  unitless _ := False
  amount g _ _ := match g.2 with | .reg _ => 1 | .dma _ => N
  payload g _ d := match g.2 with | .reg _ => barPay g.1.1 d | .dma n => dmaPay P g.1.1 (kindOf n) (distOf n) (halfOf n)
  amount_pos g _ _ _ := by rcases g with ⟨t, b | n⟩; exacts [Nat.one_pos, N_pos]

/-- What a copy hands over may be kept in an invariant, -/
instance dmaPay_storable (c : Dev nD) (a : Fin 4) (j : Fin 16) (s : Fin 2) : BI.Storable (upEmb : UEmb _ 𝕄) (dmaPay P c a j s) := by
  unfold dmaPay; split <;> infer_instance

/-- so may what a barrier unit hands over, -/
instance barPay_storable (t d : Dev nD) : BI.Storable (upEmb : UEmb _ 𝕄) (barPay (F := F) t d) := by
  unfold barPay; infer_instance

/-- and so any payload of the schedule. -/
instance talkRd_payload_storable (g : GSem nD τ sig) (r : ℕ) (d : Fin 16) :
    BI.Storable (upEmb : UEmb _ 𝕄) ((talkRd P).payload g r d) := by
  rcases g with ⟨t, b | n⟩
  · exact barPay_storable t.1 d
  · exact dmaPay_storable P t.1 (kindOf n) (distOf n) (halfOf n)

/-- A barrier is paid by every other device; -/
theorem duties_bar (c : Dev nD) : (talkRd P).duties (bcell c) 0 = Finset.univ.erase c := by
  dsimp only [talkRd, dutyOf]; rw [if_pos ⟨rfl, rfl⟩, if_pos rfl]
/-- a DMA cell at a distance other than zero is paid once; -/
theorem duties_dma (c : Dev nD) (a : Fin 4) (j : Fin 16) (s : Fin 2) (hj : j ≠ 0) :
    (talkRd P).duties (dcell c a j s) 0 = {0} := by
  dsimp only [talkRd, dutyOf]; rw [if_pos ⟨rfl, rfl⟩, if_pos ⟨dsem_ge a j s, by rwa [distOf_dsem]⟩]
/-- one at distance zero never is; -/
theorem duties_idle (c : Dev nD) (a : Fin 4) (s : Fin 2) (r : ℕ) : (talkRd P).duties (dcell c a 0 s) r = ∅ := by
  dsimp only [talkRd, dutyOf]; split
  · rw [if_neg (fun h => h.2 (distOf_dsem a 0 s))]
  · rfl
/-- and after its first round no cell is. -/
theorem duties_later (g : GSem nD τ sig) : ∀ r, 1 ≤ r → (talkRd P).duties g r = ∅ := fun r hr => by
  dsimp only [talkRd]; rw [if_neg (fun h => by omega)]

/-- A barrier is paid one unit at a time, -/
theorem amount_bar (c : Dev nD) (r : ℕ) (d : Fin 16) : (talkRd P).amount (bcell c) r d = 1 := rfl
/-- a DMA cell one copy at a time. -/
theorem amount_dma (c : Dev nD) (n : DmaSem sig) (r : ℕ) (d : Fin 16) :
    (talkRd P).amount ((c : Thread nD τ), .dma n) r d = N := rfl

/-- A barrier's round comes to fifteen units, -/
theorem expect_bar (c : Dev nD) : (talkRd P).expect (bcell c) 0 = 15 := by
  unfold Schedule.expect Schedule.amountOf
  rw [duties_bar, Finset.sum_congr rfl fun d _ => amount_bar P c 0 d, Finset.sum_const, Finset.card_erase_of_mem (Finset.mem_univ _)]
  rfl
/-- a DMA cell's to one copy. -/
theorem expect_dma (c : Dev nD) (a : Fin 4) (j : Fin 16) (s : Fin 2) (hj : j ≠ 0) : (talkRd P).expect (dcell c a j s) 0 = N := by
  unfold Schedule.expect Schedule.amountOf; rw [duties_dma P c a j s hj, Finset.sum_singleton, amount_dma]

/-- What a barrier unit hands over, -/
theorem payload_bar (c : Dev nD) (r : ℕ) (d : Fin 16) : (talkRd P).payload (bcell c) r d = barPay c d := rfl
/-- and what a copy does. -/
theorem payload_dma (c : Dev nD) (a : Fin 4) (j : Fin 16) (s : Fin 2) (r : ℕ) (d : Fin 16) :
    (talkRd P).payload (dcell c a j s) r d = dmaPay P c a j s := by
  show dmaPay P c (kindOf (dsem a j s)) (distOf (dsem a j s)) (halfOf (dsem a j s)) = _
  rw [kindOf_dsem, distOf_dsem, halfOf_dsem]

/-- A wait on a barrier brings what all the others hand over, -/
theorem rest_bar (c : Dev nD) : bigSep ((talkRd P).duties (bcell c) 0 \ ∅) (fun d => (talkRd P).payload (bcell c) 0 d)
    = bigSep (Finset.univ.erase c) fun d => barPay c d := by
  rw [Finset.sdiff_empty, duties_bar]; rfl
/-- a wait on a DMA cell what the one copy does. -/
theorem rest_dma (c : Dev nD) (a : Fin 4) (j : Fin 16) (s : Fin 2) (hj : j ≠ 0) :
    bigSep ((talkRd P).duties (dcell c a j s) 0 \ ∅) (fun d => (talkRd P).payload (dcell c a j s) 0 d) = dmaPay P c a j s := by
  rw [Finset.sdiff_empty, duties_dma P c a j s hj, bigSep_singleton, payload_dma]

end sched

/-! ## What each device owes, and the levels -/

/-- What paying for the listed distances in order takes off what is owed, down to `base`. -/
def owedL (f : Fin 15 → CellTallies nD τ sig Unit) (l : List (Fin 15)) (base : CellTallies nD τ sig Unit) : CellTallies nD τ sig Unit :=
  l.foldr (fun i O => O + f i) base

/-- The unit owed to the barrier of the device at distance `i + 1`; the copy owed to an arrival cell there. -/
abbrev barOw (c : Dev nD) (i : Fin 15) : CellTallies nD τ sig Unit := tallyAt (bcell (c + i.succ)) () 1
/-- The copy owed to an arrival cell of kind `a` on the device at distance `i + 1`. -/
abbrev arrOw (a : Fin 4) (s : Fin 2) (c : Dev nD) (i : Fin 15) : CellTallies nD τ sig Unit :=
  tallyAt (dcell (c + i.succ) a i.succ s) () N

/-- What is owed before each phase, from the last back to the first. -/
def O5 (c : Dev nD) : CellTallies nD τ sig Unit := owedL (arrOw 3 1 c) sendOrder 0
/-- What is owed before the gather's first half, -/
def O4 (c : Dev nD) : CellTallies nD τ sig Unit := owedL (arrOw 3 0 c) sendOrder (O5 c)
/-- before the scatter's second half, -/
def O3 (c : Dev nD) : CellTallies nD τ sig Unit := owedL (arrOw 1 1 c) sendOrder (O4 c)
/-- and before its first. -/
def O2 (c : Dev nD) : CellTallies nD τ sig Unit := owedL (arrOw 1 0 c) sendOrder (O3 c)
/-- What a device owes at launch. -/
def O₀ (c : Dev nD) : CellTallies nD τ sig Unit := owedL (barOw c) recvOrder (O2 c)

/-- The kernel's cells have one level each, all others none. -/
def L (g : GSem nD τ sig) : Finset Unit := if g.1.2 = .tc then {()} else ∅
/-- Barriers below the scatter's arrivals, those below the gather's; all else at the bottom. -/
def lv (g : GSem nD τ sig) (_ : Unit) : ℕ := match g.2 with
  | .reg _ => 1
  | .dma n => if n.val < 2 then 0 else if kindOf n = 1 then 2 else if kindOf n = 3 then 3 else 0

/-- A cell outside the TensorCores has no level. -/
theorem L_of_ne (g : GSem nD τ sig) (h : g.1.2 ≠ .tc) : L g = ∅ := if_neg h
/-- A TensorCore's cell has one. -/
theorem L_tc (c : Dev nD) (sm : SemLoc sig) : L ((c : Thread nD τ), sm) = {()} := if_pos rfl

/-- The scatter's arrivals are at level 2, -/
theorem lv_rs (c : Dev nD) (j : Fin 16) (s : Fin 2) : lv (dcell c 1 j s) () = 2 := by
  dsimp only [lv]; rw [if_neg (Nat.not_lt.mpr (dsem_ge 1 j s)), kindOf_dsem, if_pos rfl]
/-- the gather's at level 3. -/
theorem lv_ag (c : Dev nD) (j : Fin 16) (s : Fin 2) : lv (dcell c 3 j s) () = 3 := by
  dsimp only [lv]; rw [if_neg (Nat.not_lt.mpr (dsem_ge 3 j s)), kindOf_dsem, if_neg (by decide), if_pos rfl]

/-- The level facts of all the cells. -/
@[irreducible] def levs : sProp 𝕄 := levAts L lv
instance levs_persistent : BI.Persistent (levs (F := F)) := by unfold levs; infer_instance

/-- All that is owed is owed to TensorCore cells above level `b`. -/
def Above (b : ℕ) (O : CellTallies nD τ sig Unit) : Prop := ∀ (g : GSem nD τ sig) (ι : Unit), 0 < O g ι → g.1.2 = .tc ∧ b < lv g ι

/-- Owing nothing is owing above any level. -/
theorem above_zero (b : ℕ) : Above b 0 := fun _ _ h => absurd h (Nat.lt_irrefl 0)

/-- What is owed to one cell lies above every level below the cell's. -/
theorem above_tally (b : ℕ) (c : Dev nD) (sm : SemLoc sig) (n : ℕ) (h : b < lv ((c : Thread nD τ), sm) ()) :
    Above b (tallyAt ((c : Thread nD τ), sm) () n) := fun g ι hg => by
  rw [tallyAt_apply] at hg
  by_cases e : g = ((c : Thread nD τ), sm) ∧ ι = ()
  · rw [e.1]; exact ⟨rfl, h⟩
  · rw [if_neg e] at hg; exact absurd hg (Nat.lt_irrefl 0)

/-- If each payment in a list and the rest lie above a level, so does the whole. -/
theorem above_owedL (b : ℕ) (f : Fin 15 → CellTallies nD τ sig Unit) (base : CellTallies nD τ sig Unit) (hf : ∀ i, Above b (f i))
    (hb : Above b base) : ∀ l, Above b (owedL f l base)
  | [] => hb
  | i :: l => fun g ι hg => by
    have hg' : 0 < owedL f l base g ι + f i g ι := hg
    rcases Nat.eq_zero_or_pos (f i g ι) with h | h
    · exact above_owedL b f base hf hb l g ι (by omega)
    · exact hf i g ι h

/-- In the gather's second half all that is owed lies above the scatter's arrivals, -/
theorem above_O5 : ∀ c, Above 2 (O5 c) := fun c =>
  above_owedL 2 _ _ (fun i => above_tally 2 _ _ _ (by rw [lv_ag]; decide)) (above_zero 2) _
/-- so it does in its first half, -/
theorem above_O4 : ∀ c, Above 2 (O4 c) := fun c =>
  above_owedL 2 _ _ (fun i => above_tally 2 _ _ _ (by rw [lv_ag]; decide)) (above_O5 c) _
/-- and from the scatter on all that is owed lies above the barriers. -/
theorem above_O2 : ∀ c, Above 1 (O2 c) := fun c =>
  above_owedL 1 _ _ (fun i => above_tally 1 _ _ _ (by rw [lv_rs]; decide))
    (above_owedL 1 _ _ (fun i => above_tally 1 _ _ _ (by rw [lv_rs]; decide))
      (fun g ι h => ⟨(above_O4 c g ι h).1, by have := (above_O4 c g ι h).2; omega⟩) _) _

/-- A cell at or below the level all that is owed lies above may be waited on. -/
theorem mayWait_of (b : ℕ) (O : CellTallies nD τ sig Unit) (hO : Above b O) (c : Dev nD) (sm : SemLoc sig)
    (h : lv ((c : Thread nD τ), sm) () ≤ b) : (levs : sProp 𝕄) ⊢ MayWait (c : Thread nD τ) sm () O := by
  unfold levs
  exact MayOwe.of_cut (L := L) (lev := lv) b (fun p hp => by rw [Finset.mem_singleton.mp hp, L_tc]; exact Finset.mem_singleton_self _)
    (fun g u hg => by
      have h1 := (hO g u hg).1
      show u ∈ L g
      rw [L, if_pos h1]; exact Finset.mem_singleton_self _)
    (fun p hp => by rw [Finset.mem_singleton.mp hp]; exact h)
    (fun g u hg => (hO g u hg).2)

end Cert.KernelIdealProof

end
-- ==== Proof.Steps.lean ====
/-
  The steps of the kernel's body, each against the schedule, and its loops, each by one induction over the list of distances.
-/
module

public import proofs.«01_k».proof.Proof.Proto

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop of the kernel needs a variant. -/
abbrev 𝒱₀ : Variants := Variants.none

/-- The weakest precondition of a stretch of the kernel on device `c`. -/
abbrev WP (c : Dev nD) (k : PR F) (Q : PUnit → sProp 𝕄) : sProp 𝕄 :=
  wp frame (wpE (defs₀ (F := F)) 𝒱₀ (c : Thread nD τ) none) Set.univ k Q

/-- Device `c` owes `O`, whatever waits it has recorded. -/
def owesE (c : Dev nD) (O : CellTallies nD τ sig Unit) : sProp 𝕄 := iprop(∃ W, owes (c : Thread nD τ) O W)

/-! ## Loops -/

/-- A family over a set with one more member. -/
theorem sep_insert {I : Type} [DecidableEq I] {s : Finset I} {i : I} (hi : i ∉ s) (Φ : I → sProp 𝕄) :
    bigSep (insert i s) Φ = iprop(Φ i ∗ bigSep s Φ) := BI.bigSep_insert hi
/-- A member of a family. -/
theorem sep_member {I : Type} [DecidableEq I] {s : Finset I} {i : I} (hi : i ∈ s) (Φ : I → sProp 𝕄) : bigSep s Φ ⊢ Φ i :=
  BI.bigSep_elim hi

/-- A loop over a list of distances: each step takes what is held for its distance and gives back what it makes of it, while
    `J` tracks what is left to do. -/
theorem loop (c : Dev nD) (Q : PUnit → sProp 𝕄) (step : Fin 15 → PR F → PR F) (Pp : sProp 𝕄) [BI.Persistent Pp]
    (J : List (Fin 15) → sProp 𝕄) (Rin Rout : Fin 15 → sProp 𝕄)
    (hstep : ∀ i l k, iprop(Pp ∗ J (i :: l) ∗ Rin i ∗ (J l -∗ Rout i -∗ WP c k Q)) ⊢ WP c (step i k) Q) :
    ∀ (l : List (Fin 15)) (_ : l.Nodup) (k : PR F),
      iprop(Pp ∗ J l ∗ bigSep l.toFinset Rin ∗ (J [] -∗ bigSep l.toFinset Rout -∗ WP c k Q)) ⊢ WP c (l.foldr step k) Q
  | [], _, k => by
    rw [List.toFinset_nil, BI.bigSep_empty, BI.bigSep_empty]
    iintro ⟨-, HJ, -, Hk⟩
    iapply Hk $$ [HJ]
    · iexact HJ
    · iempintro
  | i :: l, hl, k => by
    have hi : i ∉ l.toFinset := fun h => (List.nodup_cons.mp hl).1 (List.mem_toFinset.mp h)
    rw [List.toFinset_cons, sep_insert hi Rin, sep_insert hi Rout]
    iintro ⟨#HP, HJ, ⟨Hi, Hl⟩, Hk⟩
    iapply (hstep i l (l.foldr step k))
    isplitr; · iexact HP
    isplitl [HJ]; · iexact HJ
    isplitl [Hi]; · iexact Hi
    iintro HJ Ho
    iapply (loop c Q step Pp J Rin Rout hstep l (List.nodup_cons.mp hl).2 k)
    isplitr; · iexact HP
    isplitl [HJ]; · iexact HJ
    isplitl [Hl]; · iexact Hl
    iintro HJ Hos
    iapply Hk $$ [HJ] [Ho Hos]
    · iexact HJ
    · isplitl [Ho]; · iexact Ho
      iexact Hos

/-- The order of the sends names no distance twice, -/
theorem sendOrder_nodup : sendOrder.Nodup := by decide
/-- nor does the order of the waits; -/
theorem recvOrder_nodup : recvOrder.Nodup := by decide
/-- the sends name every distance, -/
theorem sendOrder_all : sendOrder.toFinset = Finset.univ := by decide
/-- and so do the waits. -/
theorem recvOrder_all : recvOrder.toFinset = Finset.univ := by decide

/-! ## What a device carries through the body -/

variable (P : Dev nD → S512x512.Idx → Elt F .f32) (K : GSem nD τ sig → ℕ)

/-- The invariants of all the cells, -/
def invs : sProp 𝕄 :=
  iprop((bigSep Finset.univ fun t : Dev nD => cellInv ER (talkRd P) (K (bcell t)) (bcell t))
    ∗ bigSep Finset.univ fun p : Dev nD × Fin 4 × Fin 16 × Fin 2 =>
      cellInv ER (talkRd P) (K (dcell p.1 p.2.1 p.2.2.1 p.2.2.2)) (dcell p.1 p.2.1 p.2.2.1 p.2.2.2))
/-- the barriers in their round, device `c`'s DMA cells in theirs, and the levels. -/
def facts (c : Dev nD) : sProp 𝕄 :=
  iprop(invs P K ∗ (bigSep Finset.univ fun t : Dev nD => reached ER (bcell t) 0)
    ∗ (bigSep Finset.univ fun q : Fin 4 × Fin 16 × Fin 2 => reached ER (dcell c q.1 q.2.1 q.2.2) 0) ∗ levs)

/-- The invariants may be copied, -/
instance invs_persistent : BI.Persistent (invs P K) := by unfold invs; infer_instance
/-- and so may all the facts. -/
instance facts_persistent (c : Dev nD) : BI.Persistent (facts P K c) := by unfold facts; infer_instance

/-- Of the facts, the invariants; -/
theorem facts_inv (c : Dev nD) : facts P K c ⊢ invs P K := by unfold facts; iintro ⟨H, -⟩; iexact H
/-- one barrier's invariant and round; -/
theorem facts_bar (c t : Dev nD) : facts P K c ⊢ iprop(cellInv ER (talkRd P) (K (bcell t)) (bcell t) ∗ reached ER (bcell t) 0) := by
  unfold facts invs
  iintro ⟨⟨H, -⟩, H', -⟩
  isplitl [H]
  · iapply (sep_member (Finset.mem_univ t) _) $$ H
  · iapply (sep_member (Finset.mem_univ t) _) $$ H'
/-- one DMA cell's invariant; -/
theorem facts_dma (c t : Dev nD) (a : Fin 4) (j : Fin 16) (s : Fin 2) :
    facts P K c ⊢ cellInv ER (talkRd P) (K (dcell t a j s)) (dcell t a j s) := by
  unfold facts invs
  iintro ⟨⟨-, H⟩, -⟩
  ihave H' := (sep_member (Finset.mem_univ ((t, a, j, s) : Dev nD × Fin 4 × Fin 16 × Fin 2)) _) $$ H
  iexact H'
/-- the round of one of the device's own DMA cells; -/
theorem facts_own (c : Dev nD) (a : Fin 4) (j : Fin 16) (s : Fin 2) : facts P K c ⊢ reached ER (dcell c a j s) 0 := by
  unfold facts
  iintro ⟨-, -, H, -⟩
  ihave H' := (sep_member (Finset.mem_univ ((a, j, s) : Fin 4 × Fin 16 × Fin 2)) _) $$ H
  iexact H'
/-- the levels. -/
theorem facts_lev (c : Dev nD) : facts P K c ⊢ (levs : sProp 𝕄) := by unfold facts; iintro ⟨-, -, -, H⟩; iexact H

/-- A distance is not zero. -/
theorem succ_ne (i : Fin 15) : (i.succ : Fin 16) ≠ 0 := Fin.succ_ne_zero i
/-- No device is at a distance from itself. -/
theorem ne_self (c : Dev nD) (i : Fin 15) : c ≠ c + i.succ := by revert c i; decide
/-- Going a distance on and back. -/
theorem add_sub_self (c : Dev nD) (j : Fin 16) : (c + j) - j = c := by revert c j; decide
/-- The distance to the device at a distance. -/
theorem add_sub_left (c : Dev nD) (j : Fin 16) : (c + j) - c = j := by revert c j; decide
/-- Going a distance back and on. -/
theorem sub_add_self (c : Dev nD) (j : Fin 16) : (c - j) + j = c := by revert c j; decide

/-! ## Single steps -/

/-- The `i`-th barrier signal. -/
theorem signal_step (c : Dev nD) (Q : PUnit → sProp 𝕄) (i : Fin 15) (O : CellTallies nD τ sig Unit) (k : PR F) :
    iprop(facts P K c ∗ owesE c (O + barOw c i) ∗ (dutyTok ER (bcell (c + i.succ)) 0 c ∗ barPay (c + i.succ) c) ∗ (owesE c O -∗ emp -∗ WP c k Q))
      ⊢ WP c (.op (.semSignal (Dev.tc (sigDev c i)) (SemArray.scalar (sig.barrier 0 rfl) : Sems sig S_).sem (1#32).toInt) fun _ => k) Q := by
  rw [sigDev_eq]
  unfold owesE
  iintro ⟨#HF, ⟨%W, HO⟩, ⟨Ht, Hp⟩, Hk⟩
  ihave #Hb := (facts_bar P K c (c + i.succ)) $$ HF
  icases Hb with ⟨#HI, #HR⟩
  iapply (Rounds.wp_signal 𝒱₀ ER (talkRd P) (c : Thread nD τ) none (dst := ((c + i.succ : Dev nD) : Thread nD τ)) (sem := barS) (r := 0) (d := c)
      (κ := K (bcell (c + i.succ))) (by rw [duties_bar]; exact Finset.mem_erase.mpr ⟨ne_self c i, Finset.mem_univ _⟩)
      (amount_bar P (c + i.succ) 0 c) () O rfl) $$ [HO Ht Hp]
  · isplitr; · iexact HI
    isplitl [HO]; · iexact HO
    isplitl [Ht]; · iexact Ht
    isplitl [Hp]; · rw [payload_bar]; iexact Hp
    iexact HR
  iintro HO
  iapply Hk $$ [HO]
  · iexists W; iexact HO
  · iempintro

/-- A scatter copy: half `s` of the rows of the device at distance `i + 1` goes to this device's slot there. -/
theorem scatter_step (c : Dev nD) (s : Fin 2) (Q : PUnit → sProp 𝕄) (i : Fin 15) (O : CellTallies nD τ sig Unit) (k : PR F)
    {src dst : Memref sig .tc .vmem S16x512 .bf16} {t : Dev nD} {sS sR : DmaSem sig}
    (hs : src = rowsV stM (c + i.succ) s) (hd : dst = slotV c s) (ht : t = c + i.succ) (hS : sS = dsem 0 i.succ s) (hR : sR = dsem 1 i.succ s)
    {hsrc : src.view.WordExact} {hdst : dst.view.WordExact} {hsem} :
    iprop(facts P K c ∗ owesE c (O + arrOw 1 s c i)
        ∗ (stPts c (c + i.succ) s (stAll P c) ∗ (∃ f, slPts (c + i.succ) c s f) ∗ reached ER (dcell (c + i.succ) 1 i.succ s) 0
          ∗ dutyTok ER (dcell c 0 i.succ s) 0 0 ∗ dutyTok ER (dcell (c + i.succ) 1 i.succ s) 0 0)
        ∗ (owesE c O -∗ cred (tallyAt (dcell c 0 i.succ s) () N) -∗ WP c k Q))
      ⊢ WP c (.op (.enqueueDma src (.remote (Dev.tc t) dst (.dma sS)) (.dma sR) hsrc hdst hsem) fun _ => k) Q := by
  subst hs hd ht hS hR
  unfold owesE
  iintro ⟨#HF, ⟨%W, HO⟩, ⟨Hs, ⟨%fd, Hd⟩, #HR, Ht, Ht'⟩, Hk⟩
  ihave #HIs := (facts_dma P K c c 0 i.succ s) $$ HF
  ihave #HIr := (facts_dma P K c (c + i.succ) 1 i.succ s) $$ HF
  ihave #HRs := (facts_own P K c 0 i.succ s) $$ HF
  iapply (Rounds.wp_send_pointsTo 𝒱₀ ER (talkRd P) (c : Thread nD τ) none (c' := ((c + i.succ : Dev nD) : Thread nD τ))
      (src := rowsV stM (c + i.succ) s) (dst := slotV c s)
      (sS := .dma (dsem 0 i.succ s)) (sem := .dma (dsem 1 i.succ s)) (q := fullShare) (fs := stAll P c)
      (κ₁ := K (dcell c 0 i.succ s)) (κ₂ := K (dcell (c + i.succ) 1 i.succ s))
      (r₁ := 0) (r₂ := 0) (d₁ := 0) (d₂ := 0) (fd := fd)
      (by rw [duties_dma P c 0 i.succ s (succ_ne i)]; exact Finset.mem_singleton_self _)
      (by rw [duties_dma P (c + i.succ) 1 i.succ s (succ_ne i)]; exact Finset.mem_singleton_self _)
      () () N rfl (amount_dma P c _ 0 0) (amount_dma P (c + i.succ) _ 0 0) O rfl (W := W)
      (by rw [payload_dma]; exact BI.Entails.refl _)
      (by
        rw [payload_dma, write_pts (slotV c s).view (c + i.succ) fullShare fd (cmAll P (c + i.succ)) ((rowsV stM (c + i.succ) s).view.read (Elt F) (stAll P c)) (read_cmAll P (c + i.succ) c s)]
        show _ ⊢ slPts (c + i.succ) (c + i.succ - i.succ) s (cmAll P (c + i.succ))
        rw [add_sub_self])) $$ [Hs Hd HO Ht Ht']
  · isplitr; · iexact HIs
    isplitr; · iexact HIr
    isplitl [Hs]; · iexact Hs
    isplitl [Hd]; · iexact Hd
    isplitl [HO]; · iexact HO
    isplitl [Ht]; · iexact Ht
    isplitr; · iexact HRs
    isplitl [Ht']; · iexact Ht'
    iexact HR
  iintro ⟨Hc, HO⟩
  iapply Hk $$ [HO] [Hc]
  · iexists W; iexact HO
  · iexact Hc

/-- A gather copy: this device's half chunk of the output goes to the same rows of the device at distance `i + 1`. -/
theorem gather_step (c : Dev nD) (s : Fin 2) (Q : PUnit → sProp 𝕄) (i : Fin 15) (O : CellTallies nD τ sig Unit) (k : PR F)
    {src dst : Memref sig .tc .vmem S16x512 .bf16} {t : Dev nD} {sS sR : DmaSem sig}
    (hs : src = rowsV outM c s) (hd : dst = rowsV outM c s) (ht : t = c + i.succ) (hS : sS = dsem 2 i.succ s) (hR : sR = dsem 3 i.succ s)
    {hsrc : src.view.WordExact} {hdst : dst.view.WordExact} {hsem} :
    iprop(facts P K c ∗ owesE c (O + arrOw 3 s c i)
        ∗ (outPts c c s (lent i.succ) (outAll P) ∗ (∃ f, outPts (c + i.succ) c s fullShare f) ∗ reached ER (dcell (c + i.succ) 3 i.succ s) 0
          ∗ dutyTok ER (dcell c 2 i.succ s) 0 0 ∗ dutyTok ER (dcell (c + i.succ) 3 i.succ s) 0 0)
        ∗ (owesE c O -∗ cred (tallyAt (dcell c 2 i.succ s) () N) -∗ WP c k Q))
      ⊢ WP c (.op (.enqueueDma src (.remote (Dev.tc t) dst (.dma sS)) (.dma sR) hsrc hdst hsem) fun _ => k) Q := by
  subst hs hd ht hS hR
  unfold owesE
  iintro ⟨#HF, ⟨%W, HO⟩, ⟨Hs, ⟨%fd, Hd⟩, #HR, Ht, Ht'⟩, Hk⟩
  ihave #HIs := (facts_dma P K c c 2 i.succ s) $$ HF
  ihave #HIr := (facts_dma P K c (c + i.succ) 3 i.succ s) $$ HF
  ihave #HRs := (facts_own P K c 2 i.succ s) $$ HF
  iapply (Rounds.wp_send_pointsTo 𝒱₀ ER (talkRd P) (c : Thread nD τ) none (c' := ((c + i.succ : Dev nD) : Thread nD τ))
      (src := rowsV outM c s) (dst := rowsV outM c s)
      (sS := .dma (dsem 2 i.succ s)) (sem := .dma (dsem 3 i.succ s)) (q := lent i.succ) (fs := outAll P)
      (κ₁ := K (dcell c 2 i.succ s)) (κ₂ := K (dcell (c + i.succ) 3 i.succ s))
      (r₁ := 0) (r₂ := 0) (d₁ := 0) (d₂ := 0) (fd := fd)
      (by rw [duties_dma P c 2 i.succ s (succ_ne i)]; exact Finset.mem_singleton_self _)
      (by rw [duties_dma P (c + i.succ) 3 i.succ s (succ_ne i)]; exact Finset.mem_singleton_self _)
      () () N rfl (amount_dma P c _ 0 0) (amount_dma P (c + i.succ) _ 0 0) O rfl (W := W)
      (by rw [payload_dma]; exact BI.Entails.refl _)
      (by
        rw [payload_dma, write_pts (rowsV outM c s).view (c + i.succ) fullShare fd (outAll P) _ rfl]
        show _ ⊢ outPts (c + i.succ) (c + i.succ - i.succ) s fullShare (outAll P)
        rw [add_sub_self])) $$ [Hs Hd HO Ht Ht']
  · isplitr; · iexact HIs
    isplitr; · iexact HIr
    isplitl [Hs]; · iexact Hs
    isplitl [Hd]; · iexact Hd
    isplitl [HO]; · iexact HO
    isplitl [Ht]; · iexact Ht
    isplitr; · iexact HRs
    isplitl [Ht']; · iexact Ht'
    iexact HR
  iintro ⟨Hc, HO⟩
  iapply Hk $$ [HO] [Hc]
  · iexists W; iexact HO
  · iexact Hc

/-- A wait for a copy on one of the device's own cells, while what is owed lies above it: the cell's payload comes out. -/
theorem wait_step (c : Dev nD) (a : Fin 4) (i : Fin 15) (s : Fin 2) (Q : PUnit → sProp 𝕄) (O : CellTallies nD τ sig Unit) (k : PR F)
    (b : ℕ) (hb : lv (dcell c a i.succ s) () ≤ b) (hO : Above b O)
    {src dst : Memref sig .tc .vmem S16x512 .bf16} {sem : DmaSem sig} (hS : sem = dsem a i.succ s) (hN : dst.view.dmaCredit = N)
    {hsrc : src.view.WordExact} {hdst : dst.view.WordExact} :
    iprop(facts P K c ∗ owesE c O ∗ (cred (tallyAt (dcell c a i.succ s) () N) ∗ atPos ER (dcell c a i.succ s) 0 ∅ 0)
        ∗ (owesE c O -∗ (atPos ER (dcell c a i.succ s) 1 ∅ 0 ∗ dmaPay P c a i.succ s) -∗ WP c k Q))
      ⊢ WP c (.op (.waitDma2 sem src dst hsrc hdst) fun _ => k) Q := by
  subst hS
  unfold owesE
  iintro ⟨#HF, ⟨%W, HO⟩, ⟨Hc, Hat⟩, Hk⟩
  ihave #HI := (facts_dma P K c c a i.succ s) $$ HF
  iapply (Rounds.wp_wait_rest_token 𝒱₀ ER (talkRd P) (c : Thread nD τ) none (κ := K (dcell c a i.succ s))
      (wpE_waitDma2_eq (src := src) (dst := dst) 𝒱₀ (c : Thread nD τ) none Set.univ) (Set.mem_univ _) () (O := O) (W := W) (R := 0) (m := 0) (T := ∅)
      ((Nat.zero_add _).trans (hN.trans (expect_dma P c a i.succ s (succ_ne i)).symm))) $$ [Hc HO Hat]
  · isplitr; · iexact HI
    isplitl [Hc]
    · iapply (Entails.of_eq (congrArg (fun n => (cred (tallyAt (dcell c a i.succ s) () n) : sProp 𝕄)) hN.symm)); iexact Hc
    isplitl [HO]; · iexact HO
    isplitr; · iapply ((facts_lev P K c).trans (mayWait_of b O hO c _ hb)); iexact HF
    iexact Hat
  iintro ⟨HO, Hat, -, Hp⟩
  ihave Hp' := (Entails.of_eq (rest_dma P c a i.succ s (succ_ne i))) $$ Hp
  iapply Hk $$ [HO] [Hat Hp']
  · iexists _; iexact HO
  · isplitl [Hat]; · iexact Hat
    iexact Hp'

end Cert.KernelIdealProof

end
-- ==== Proof.Loops.lean ====
/-
  The loops of the kernel's body against the schedule: each takes what all its distances need and gives back what they leave.
-/
module

public import proofs.«01_k».proof.Proof.Steps

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → S512x512.Idx → Elt F .f32) (K : GSem nD τ sig → ℕ)

/-- One thing for each distance. -/
abbrev each (Φ : Fin 15 → sProp 𝕄) : sProp 𝕄 := bigSep Finset.univ Φ

/-- A family of pairs is a pair of families. -/
theorem each_sep (Φ Ψ : Fin 15 → sProp 𝕄) : each (fun i => iprop(Φ i ∗ Ψ i)) = iprop(each Φ ∗ each Ψ) := bigSep_sep' _ _ _

variable (h1 : outM.IsWhole) (h2 : stM.IsWhole) (h3 : cmM.IsWhole)

/-- The signals. -/
theorem signals_run (c : Dev nD) (Q : PUnit → sProp 𝕄) (O : CellTallies nD τ sig Unit) (k : PR F) :
    iprop(facts P K c ∗ owesE c (owedL (barOw c) recvOrder O) ∗ (each fun i => dutyTok ER (bcell (c + i.succ)) 0 c)
        ∗ (each fun i => barPay (c + i.succ) c) ∗ (owesE c O -∗ WP c k Q))
      ⊢ WP c (signals c recvOrder k) Q := by
  have h := loop c Q (fun i k => .op (.semSignal (Dev.tc (sigDev c i)) (SemArray.scalar (sig.barrier 0 rfl) : Sems sig S_).sem (1#32).toInt) fun _ => k)
    (facts P K c) (fun l => owesE c (owedL (barOw c) l O)) (fun i => iprop(dutyTok ER (bcell (c + i.succ)) 0 c ∗ barPay (c + i.succ) c))
    (fun _ => iprop(emp)) (fun i l k => signal_step P K c Q i (owedL (barOw c) l O) k) recvOrder recvOrder_nodup k
  rw [recvOrder_all, bigSep_sep'] at h
  refine BIBase.Entails.trans ?_ h
  iintro ⟨HF, HO, Ht, Hp, Hk⟩
  isplitl [HF]; · iexact HF
  isplitl [HO]; · iexact HO
  isplitl [Ht Hp]
  · isplitl [Ht]; · iexact Ht
    iexact Hp
  iintro HO -
  iapply Hk; iexact HO

/-- The scatter's copies of one half. -/
theorem scatter_run (c : Dev nD) (s : Fin 2) (Q : PUnit → sProp 𝕄) (O : CellTallies nD τ sig Unit) (k : PR F) :
    iprop(facts P K c ∗ owesE c (owedL (arrOw 1 s c) sendOrder O) ∗ (each fun i => stPts c (c + i.succ) s (stAll P c))
        ∗ (each fun i => iprop(∃ f, slPts (c + i.succ) c s f)) ∗ (each fun i => reached ER (dcell (c + i.succ) 1 i.succ s) 0)
        ∗ (each fun i => dutyTok ER (dcell c 0 i.succ s) 0 0) ∗ (each fun i => dutyTok ER (dcell (c + i.succ) 1 i.succ s) 0 0)
        ∗ (owesE c O -∗ (each fun i => cred (tallyAt (dcell c 0 i.succ s) () N)) -∗ WP c k Q))
      ⊢ WP c (scatter stM h2 cmM h3 cc0_scratch2 cc0_scratch3 c s sendOrder k) Q := by
  have h := loop c Q (fun i k => .op (.enqueueDma (stageRef stM c i s)
      (.remote (Dev.tc (rsDev c s i)) (slotRef cmM (slotOff c s) (slotOff_inb c s)) (.dma (semAt cc0_scratch2 i s))) (.dma (semAt cc0_scratch3 i s))
      (h2.wordExact_slice rfl _ (k0_off2_wordsbf16 c i s)) ((h3.wordExact_slice rfl _ (slotOff_words c s)).reshape _ _)
      ⟨⟨rfl, Or.inl rfl⟩, trivial⟩) fun _ => k)
    (facts P K c) (fun l => owesE c (owedL (arrOw 1 s c) l O))
    (fun i => iprop(stPts c (c + i.succ) s (stAll P c) ∗ (∃ f, slPts (c + i.succ) c s f) ∗ reached ER (dcell (c + i.succ) 1 i.succ s) 0
          ∗ dutyTok ER (dcell c 0 i.succ s) 0 0 ∗ dutyTok ER (dcell (c + i.succ) 1 i.succ s) 0 0))
    (fun i => cred (tallyAt (dcell c 0 i.succ s) () N))
    (fun i l k => scatter_step P K c s Q i (owedL (arrOw 1 s c) l O) k (stageRef_eq stM c i s) (slotRef_to c s) (rsDev_eq c s i)
      (semAt_0 i s) (semAt_1 i s)) sendOrder sendOrder_nodup k
  rw [sendOrder_all, bigSep_sep', bigSep_sep', bigSep_sep', bigSep_sep'] at h
  refine BIBase.Entails.trans ?_ h
  iintro ⟨HF, HO, H1, H2, H3, H4, H5, Hk⟩
  isplitl [HF]; · iexact HF
  isplitl [HO]; · iexact HO
  isplitl [H1 H2 H3 H4 H5]
  · isplitl [H1]; · iexact H1
    isplitl [H2]; · iexact H2
    isplitl [H3]; · iexact H3
    isplitl [H4]; · iexact H4
    iexact H5
  iexact Hk

/-- The gather's copies of one half. -/
theorem gather_run (c : Dev nD) (s : Fin 2) (Q : PUnit → sProp 𝕄) (O : CellTallies nD τ sig Unit) (k : PR F) :
    iprop(facts P K c ∗ owesE c (owedL (arrOw 3 s c) sendOrder O) ∗ (each fun i => outPts c c s (lent i.succ) (outAll P))
        ∗ (each fun i => iprop(∃ f, outPts (c + i.succ) c s fullShare f)) ∗ (each fun i => reached ER (dcell (c + i.succ) 3 i.succ s) 0)
        ∗ (each fun i => dutyTok ER (dcell c 2 i.succ s) 0 0) ∗ (each fun i => dutyTok ER (dcell (c + i.succ) 3 i.succ s) 0 0)
        ∗ (owesE c O -∗ (each fun i => cred (tallyAt (dcell c 2 i.succ s) () N)) -∗ WP c k Q))
      ⊢ WP c (gather outM h1 cc0_scratch4 cc0_scratch5 c s sendOrder k) Q := by
  have h := loop c Q (fun i k => .op (.enqueueDma (ownRef outM c s)
      (.remote (Dev.tc (agDev c s i)) (ownRef outM c s) (.dma (semAt cc0_scratch4 i s))) (.dma (semAt cc0_scratch5 i s))
      (h1.wordExact_slice rfl _ (k0_off7_wordsbf16 c s)) (h1.wordExact_slice rfl _ (k0_off7_wordsbf16 c s))
      ⟨⟨rfl, Or.inl rfl⟩, trivial⟩) fun _ => k)
    (facts P K c) (fun l => owesE c (owedL (arrOw 3 s c) l O))
    (fun i => iprop(outPts c c s (lent i.succ) (outAll P) ∗ (∃ f, outPts (c + i.succ) c s fullShare f) ∗ reached ER (dcell (c + i.succ) 3 i.succ s) 0
          ∗ dutyTok ER (dcell c 2 i.succ s) 0 0 ∗ dutyTok ER (dcell (c + i.succ) 3 i.succ s) 0 0))
    (fun i => cred (tallyAt (dcell c 2 i.succ s) () N))
    (fun i l k => gather_step P K c s Q i (owedL (arrOw 3 s c) l O) k (ownRef_eq outM c s) (ownRef_eq outM c s) (agDev_eq c s i)
      (semAt_2 i s) (semAt_3 i s)) sendOrder sendOrder_nodup k
  rw [sendOrder_all, bigSep_sep', bigSep_sep', bigSep_sep', bigSep_sep'] at h
  refine BIBase.Entails.trans ?_ h
  iintro ⟨HF, HO, H1, H2, H3, H4, H5, Hk⟩
  isplitl [HF]; · iexact HF
  isplitl [HO]; · iexact HO
  isplitl [H1 H2 H3 H4 H5]
  · isplitl [H1]; · iexact H1
    isplitl [H2]; · iexact H2
    isplitl [H3]; · iexact H3
    isplitl [H4]; · iexact H4
    iexact H5
  iexact Hk

/-- A loop of waits when nothing is owed any more: every cell goes to its end, and its payload comes out. -/
theorem waits_run (c : Dev nD) (a : Fin 4) (s : Fin 2) (Q : PUnit → sProp 𝕄) (l : List (Fin 15)) (hl : l.Nodup) (hall : l.toFinset = Finset.univ)
    (k : PR F) (step : Fin 15 → PR F → PR F)
    (hstep : ∀ i k, iprop(facts P K c ∗ owesE c 0 ∗ (cred (tallyAt (dcell c a i.succ s) () N) ∗ atPos ER (dcell c a i.succ s) 0 ∅ 0)
        ∗ (owesE c 0 -∗ (atPos ER (dcell c a i.succ s) 1 ∅ 0 ∗ dmaPay P c a i.succ s) -∗ WP c k Q)) ⊢ WP c (step i k) Q) :
    iprop(facts P K c ∗ owesE c 0 ∗ (each fun i => cred (tallyAt (dcell c a i.succ s) () N)) ∗ (each fun i => atPos ER (dcell c a i.succ s) 0 ∅ 0)
        ∗ (owesE c 0 -∗ (each fun i => atPos ER (dcell c a i.succ s) 1 ∅ 0) -∗ (each fun i => dmaPay P c a i.succ s) -∗ WP c k Q))
      ⊢ WP c (l.foldr step k) Q := by
  have h := loop c Q step (facts P K c) (fun _ => owesE c 0)
    (fun i => iprop(cred (tallyAt (dcell c a i.succ s) () N) ∗ atPos ER (dcell c a i.succ s) 0 ∅ 0))
    (fun i => iprop(atPos ER (dcell c a i.succ s) 1 ∅ 0 ∗ dmaPay P c a i.succ s)) (fun i _ k => hstep i k) l hl k
  rw [hall, bigSep_sep', bigSep_sep'] at h
  refine BIBase.Entails.trans ?_ h
  iintro ⟨HF, HO, H1, H2, Hk⟩
  isplitl [HF]; · iexact HF
  isplitl [HO]; · iexact HO
  isplitl [H1 H2]
  · isplitl [H1]; · iexact H1
    iexact H2
  iintro HO ⟨H1, H2⟩
  iapply Hk $$ [HO] [H1] [H2]
  · iexact HO
  · iexact H1
  · iexact H2

/-- Every cell may be waited on at its own level. -/
theorem wait0_step (c : Dev nD) (a : Fin 4) (i : Fin 15) (s : Fin 2) (Q : PUnit → sProp 𝕄) (k : PR F)
    {src dst : Memref sig .tc .vmem S16x512 .bf16} {sem : DmaSem sig} (hS : sem = dsem a i.succ s) (hN : dst.view.dmaCredit = N)
    {hsrc : src.view.WordExact} {hdst : dst.view.WordExact} :
    iprop(facts P K c ∗ owesE c 0 ∗ (cred (tallyAt (dcell c a i.succ s) () N) ∗ atPos ER (dcell c a i.succ s) 0 ∅ 0)
        ∗ (owesE c 0 -∗ (atPos ER (dcell c a i.succ s) 1 ∅ 0 ∗ dmaPay P c a i.succ s) -∗ WP c k Q))
      ⊢ WP c (.op (.waitDma2 sem src dst hsrc hdst) fun _ => k) Q :=
  wait_step P K c a i s Q 0 k _ (le_refl _) (above_zero _) hS hN

/-- The waits for the gather's landings. -/
theorem landed_run (c : Dev nD) (s : Fin 2) (Q : PUnit → sProp 𝕄) (k : PR F) :
    iprop(facts P K c ∗ owesE c 0 ∗ (each fun i => cred (tallyAt (dcell c 3 i.succ s) () N)) ∗ (each fun i => atPos ER (dcell c 3 i.succ s) 0 ∅ 0)
        ∗ (owesE c 0 -∗ (each fun i => atPos ER (dcell c 3 i.succ s) 1 ∅ 0) -∗ (each fun i => outPts c (c - i.succ) s fullShare (outAll P)) -∗ WP c k Q))
      ⊢ WP c (landed outM h1 cc0_scratch5 c s recvOrder k) Q :=
  waits_run P K c 3 s Q recvOrder recvOrder_nodup recvOrder_all k (fun i k =>
      .op (.waitDma2 (semAt cc0_scratch5 i s) (farRef outM c i s) (farRef outM c i s)
        (h1.wordExact_slice rfl _ (k0_off10_wordsbf16 c i s)) (h1.wordExact_slice rfl _ (k0_off10_wordsbf16 c i s))) fun _ => k) fun i k =>
    wait0_step P K c 3 i s Q k (src := farRef outM c i s) (dst := farRef outM c i s) (sem := semAt cc0_scratch5 i s) (semAt_3 i s) rfl

/-- The waits for the scatter's departures. -/
theorem scattered_run (c : Dev nD) (s : Fin 2) (Q : PUnit → sProp 𝕄) (k : PR F) :
    iprop(facts P K c ∗ owesE c 0 ∗ (each fun i => cred (tallyAt (dcell c 0 i.succ s) () N)) ∗ (each fun i => atPos ER (dcell c 0 i.succ s) 0 ∅ 0)
        ∗ (owesE c 0 -∗ (each fun i => atPos ER (dcell c 0 i.succ s) 1 ∅ 0) -∗ (each fun i => stPts c (c + i.succ) s (stAll P c)) -∗ WP c k Q))
      ⊢ WP c (scattered stM h2 cmM h3 cc0_scratch2 c s sendOrder k) Q :=
  waits_run P K c 0 s Q sendOrder sendOrder_nodup sendOrder_all k (fun i k =>
      .op (.waitDma2 (semAt cc0_scratch2 i s) (slotRef cmM (slotOff c s) (slotOff_inb c s)) (stageRef stM c i s)
        ((h3.wordExact_slice rfl _ (slotOff_words c s)).reshape _ _) (h2.wordExact_slice rfl _ (k0_off2_wordsbf16 c i s))) fun _ => k) fun i k =>
    wait0_step P K c 0 i s Q k (src := slotRef cmM (slotOff c s) (slotOff_inb c s)) (dst := stageRef stM c i s) (sem := semAt cc0_scratch2 i s) (semAt_0 i s) rfl

/-- The waits for the gather's departures. -/
theorem gathered_run (c : Dev nD) (s : Fin 2) (Q : PUnit → sProp 𝕄) (k : PR F) :
    iprop(facts P K c ∗ owesE c 0 ∗ (each fun i => cred (tallyAt (dcell c 2 i.succ s) () N)) ∗ (each fun i => atPos ER (dcell c 2 i.succ s) 0 ∅ 0)
        ∗ (owesE c 0 -∗ (each fun i => atPos ER (dcell c 2 i.succ s) 1 ∅ 0) -∗ (each fun i => outPts c c s (lent i.succ) (outAll P)) -∗ WP c k Q))
      ⊢ WP c (gathered outM h1 cc0_scratch4 c s sendOrder k) Q :=
  waits_run P K c 2 s Q sendOrder sendOrder_nodup sendOrder_all k (fun i k =>
      .op (.waitDma2 (semAt cc0_scratch4 i s) (ownRef outM c s) (ownRef outM c s)
        (h1.wordExact_slice rfl _ (k0_off7_wordsbf16 c s)) (h1.wordExact_slice rfl _ (k0_off7_wordsbf16 c s))) fun _ => k) fun i k =>
    wait0_step P K c 2 i s Q k (src := ownRef outM c s) (dst := ownRef outM c s) (sem := semAt cc0_scratch4 i s) (semAt_2 i s) rfl

/-! ## The reduction -/

/-- A scatter departure returns the staged rows; -/
theorem dmaPay_0 (c : Dev nD) (j : Fin 16) (s : Fin 2) : dmaPay P c 0 j s = stPts c (c + j) s (stAll P c) := rfl
/-- a scatter arrival brings the sender's slot, filled; -/
theorem dmaPay_1 (c : Dev nD) (j : Fin 16) (s : Fin 2) : dmaPay P c 1 j s = slPts c (c - j) s (cmAll P c) := rfl
/-- a gather departure returns the lent share of the device's own rows; -/
theorem dmaPay_2 (c : Dev nD) (j : Fin 16) (s : Fin 2) : dmaPay P c 2 j s = outPts c c s (lent j) (outAll P) := rfl
/-- a gather arrival brings the sender's rows of the output, filled. -/
theorem dmaPay_3 (c : Dev nD) (j : Fin 16) (s : Fin 2) : dmaPay P c 3 j s = outPts c (c - j) s fullShare (outAll P) := rfl

/-- What the load of a slot reads, as a block. -/
theorem read_slot (d : Dev nD) (s : Fin 2) {o : Fin 4 → Nat} (ho : o = slotO d s) (inb) (c : Dev nD) :
    shapeCast S16x512 ((cmM.access (Rect.unit (s := S16x2x16x512) o S1x1x16x512.size inb)).read (Elt F) (cmAll P c) : Vec F S1x1x16x512 .bf16)
      shapeCasts_S1x1x16x512_S16x512 = blk P c d s := by
  subst ho
  exact read_cmAll P c d s

/-- One slot, held, covers the load of it. -/
theorem slot_load (c d : Dev nD) (s : Fin 2) (Q : PUnit → sProp 𝕄) {o : Fin 4 → Nat} (ho : o = slotO d s) {inb} {hl}
    (k : (S1x1x16x512.Idx → Elt F .bf16) → PR F) (f : cc0_scratch1.ty.Contents (Elt F)) :
    iprop(slPts c d s f ∗ (slPts c d s f -∗ WP c (k ((cmM.access (Rect.unit (s := S16x2x16x512) o S1x1x16x512.size inb)).read (Elt F) f)) Q))
      ⊢ WP c (.op (.load cmM (Rect.unit (s := S16x2x16x512) o S1x1x16x512.size inb).toLoadRect hl) k) Q := by
  subst ho
  iintro ⟨Hs, Hk⟩
  iapply (wp_load_rect 𝒱₀ (c : Thread nD τ) none Set.univ (m := cmM) (r := slotR d s) (S := (slotV d s).view.set) (q := fullShare) (f := f)
    (by rw [View.set_reshape])) $$ [Hs]
  · iexact Hs
  iintro Hs
  iapply Hk; iexact Hs

/-- One block added. -/
def addBlk (c : Dev nD) (s : Fin 2) (acc : FVec F S16x512 .f32) (i : Fin 15) : FVec F S16x512 .f32 :=
  addf acc (extf .f32 (blk P c (c - i.succ) s : FVec F S16x512 .bf16) bitsLt_bf16_f32)

/-- What the kernel adds after the load of a slot. -/
theorem accStep_slot (c : Dev nD) (s : Fin 2) (acc : FVec F S16x512 .f32) (i : Fin 15) :
    accStep acc ((cmM.access (readRect c i s)).read (Elt F) (cmAll P c)) = addBlk P c s acc i := by
  unfold accStep addBlk
  exact congrArg (fun v : FVec F S16x512 .bf16 => addf acc (extf .f32 v bitsLt_bf16_f32)) (read_slot P (c - i.succ) s (readOff_eq c i s) _ c)

/-- One distance of the reduction: the wait, then the load. -/
theorem reduce_step (c : Dev nD) (s : Fin 2) (Q : PUnit → sProp 𝕄) (O : CellTallies nD τ sig Unit) (hO : Above 2 O) (k : FVec F S16x512 .f32 → PR F)
    (i : Fin 15) (l : List (Fin 15)) (acc : FVec F S16x512 .f32) :
    iprop(facts P K c ∗ owesE c O ∗ (cred (tallyAt (dcell c 1 i.succ s) () N) ∗ atPos ER (dcell c 1 i.succ s) 0 ∅ 0)
        ∗ (owesE c O -∗ (atPos ER (dcell c 1 i.succ s) 1 ∅ 0 ∗ slPts c (c - i.succ) s (cmAll P c))
          -∗ WP c (reduce cmM h3 cc0_scratch3 c s l (addBlk P c s acc i) k) Q))
      ⊢ WP c (reduce cmM h3 cc0_scratch3 c s (i :: l) acc k) Q := by
  iintro ⟨#HP, HO, Hi, Hk⟩
  iapply (wait_step P K c 1 i s Q O (.op (.load cmM (readRect c i s).toLoadRect (View.loadsAt_vmem h_S1x1x16x512))
      fun v => reduce cmM h3 cc0_scratch3 c s l (accStep acc v) k) 2 (le_of_eq (lv_rs c i.succ s)) hO (semAt_1 i s)
      (src := slotRef cmM (fromOff c i s) (fromOff_inb c i s)) (dst := slotRef cmM (fromOff c i s) (fromOff_inb c i s)) rfl)
  isplitr; · iexact HP
  isplitl [HO]; · iexact HO
  isplitl [Hi]; · iexact Hi
  rw [dmaPay_1]
  iintro HO ⟨Hat, Hs⟩
  iapply (slot_load c (c - i.succ) s Q (readOff_eq c i s) (fun v => reduce cmM h3 cc0_scratch3 c s l (accStep acc v) k) (cmAll P c))
  isplitl [Hs]; · iexact Hs
  iintro Hs
  ihave Hk' := Hk $$ [HO] [Hat Hs]
  · iexact HO
  · isplitl [Hat]; · iexact Hat
    iexact Hs
  iapply (Entails.of_eq (congrArg (fun v => WP c (reduce cmM h3 cc0_scratch3 c s l v k) Q) (accStep_slot P c s acc i).symm)) $$ Hk'

/-- The sum over the listed distances. -/
theorem reduce_run (c : Dev nD) (s : Fin 2) (Q : PUnit → sProp 𝕄) (O : CellTallies nD τ sig Unit) (hO : Above 2 O) (k : FVec F S16x512 .f32 → PR F)
    (l : List (Fin 15)) (hl : l.Nodup) : ∀ acc : FVec F S16x512 .f32,
    iprop(facts P K c ∗ owesE c O
        ∗ bigSep l.toFinset (fun i => iprop(cred (tallyAt (dcell c 1 i.succ s) () N) ∗ atPos ER (dcell c 1 i.succ s) 0 ∅ 0))
        ∗ (owesE c O -∗ bigSep l.toFinset (fun i => iprop(atPos ER (dcell c 1 i.succ s) 1 ∅ 0 ∗ slPts c (c - i.succ) s (cmAll P c)))
          -∗ WP c (k (l.foldl (addBlk P c s) acc)) Q))
      ⊢ WP c (reduce cmM h3 cc0_scratch3 c s l acc k) Q := by
  induction l with
  | nil =>
    intro acc
    rw [List.toFinset_nil, BI.bigSep_empty, BI.bigSep_empty]
    iintro ⟨-, HJ, -, Hk⟩
    iapply Hk $$ [HJ]
    · iexact HJ
    · iempintro
  | cons i l ih =>
    intro acc
    have hi : i ∉ l.toFinset := fun h => (List.nodup_cons.mp hl).1 (List.mem_toFinset.mp h)
    rw [List.toFinset_cons, sep_insert hi, sep_insert hi]
    iintro ⟨#HP, HO, ⟨Hi, Hl⟩, Hk⟩
    iapply (reduce_step P K h3 c s Q O hO k i l acc)
    isplitr; · iexact HP
    isplitl [HO]; · iexact HO
    isplitl [Hi]; · iexact Hi
    iintro HO Ho
    iapply (ih (List.nodup_cons.mp hl).2 _)
    isplitr; · iexact HP
    isplitl [HO]; · iexact HO
    isplitl [Hl]; · iexact Hl
    iintro HO Hos
    iapply Hk $$ [HO] [Ho Hos]
    · iexact HO
    · isplitl [Ho]; · iexact Ho
      iexact Hos

/-- Own rows of the output, held, cover the store to them; they then hold the reduced rows. -/
theorem own_store (c : Dev nD) (s : Fin 2) (Q : PUnit → sProp 𝕄) {o : Fin 2 → Nat} (ho : o = rowO c s) {inb} {hx} {hm}
    (k : PR F) (f : cc0_stg1_0.ty.Contents (Elt F)) :
    iprop(outPts c c s fullShare f ∗ (outPts c c s fullShare (outAll P) -∗ WP c k Q))
      ⊢ WP c (.op (.store outM (Rect.unit (s := S512x512) o S16x512.size inb) (outPay (red P c s)) Finset.univ hx hm) fun _ => k) Q := by
  subst ho
  iintro ⟨Hs, Hk⟩
  iapply (wp_store 𝒱₀ (c : Thread nD τ) none Set.univ (m := outM) (r := rowR c s) (S := (rowsV outM c s).view.set) (f := f)
    (Finset.Subset.refl _)) $$ [Hs]
  · iexact Hs
  iintro Hs
  ihave Hs' := (Entails.of_eq (write_pts (rowsV outM c s).view c fullShare f (outAll P) (outPay (red P c s)) (read_outAll P c s))) $$ Hs
  iapply Hk; iexact Hs'

/-- and the load of them, whose result is not used. -/
theorem own_load (c : Dev nD) (s : Fin 2) (Q : PUnit → sProp 𝕄) {o : Fin 2 → Nat} (ho : o = rowO c s) {inb} {hl}
    (k : PR F) (f : cc0_stg1_0.ty.Contents (Elt F)) :
    iprop(outPts c c s fullShare f ∗ (outPts c c s fullShare f -∗ WP c k Q))
      ⊢ WP c (.op (.load outM (Rect.unit (s := S512x512) o S16x512.size inb).toLoadRect hl) fun _ => k) Q := by
  subst ho
  iintro ⟨Hs, Hk⟩
  iapply (wp_load_rect 𝒱₀ (c : Thread nD τ) none Set.univ (m := outM) (r := rowR c s) (S := (rowsV outM c s).view.set) (q := fullShare) (f := f)
    (Finset.Subset.refl _)) $$ [Hs]
  · iexact Hs
  iintro Hs
  iapply Hk; iexact Hs

/-- The partial product, held whole, covers the load of a device's own rows of it. -/
theorem in_load (c : Dev nD) (s : Fin 2) (Q : PUnit → sProp 𝕄) {o : Fin 2 → Nat} (ho : o = rowO c s) {inb} {hl}
    (k : (S16x512.Idx → Elt F .f32) → PR F) (f : cc0_stg0_0.ty.Contents (Elt F)) :
    iprop((inM.view.loc (c : Thread nD τ) ↦{fullShare} f) ∗ ((inM.view.loc (c : Thread nD τ) ↦{fullShare} f)
        -∗ WP c (k ((rowsV inM c s).view.read (Elt F) f)) Q))
      ⊢ WP c (.op (.load inM (Rect.unit (s := S512x512) o S16x512.size inb).toLoadRect hl) k) Q := by
  subst ho
  iintro ⟨Hs, Hk⟩
  iapply (wp_load_rect 𝒱₀ (c : Thread nD τ) none Set.univ (m := inM) (r := rowR c s) (S := Finset.univ) (q := fullShare) (f := f)
    (Finset.subset_univ _)) $$ [Hs]
  · iexact Hs
  iintro Hs
  iapply Hk; iexact Hs

end Cert.KernelIdealProof

end
-- ==== Proof.Run.lean ====
/-
  The body of the kernel, run: what a device holds on entry, what it holds on return, and the run from the one to the other.
-/
module

public import proofs.«01_k».proof.Proof.Loops

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the devices, by distance -/

/-- The other devices are those at the fifteen distances after `c`, -/
theorem erase_add (c : Dev nD) : (Finset.univ.erase c : Finset (Dev nD))
    = Finset.univ.map ⟨fun i : Fin 15 => c + i.succ, fun i j h => by revert h; revert i j; revert c; decide⟩ := by
  revert c; decide
/-- and those at the fifteen distances before it; -/
theorem erase_sub (c : Dev nD) : (Finset.univ.erase c : Finset (Dev nD))
    = Finset.univ.map ⟨fun i : Fin 15 => c - i.succ, fun i j h => by revert h; revert i j; revert c; decide⟩ := by
  revert c; decide
/-- the distances other than zero are the fifteen successors. -/
theorem erase_zero : (Finset.univ.erase 0 : Finset (Fin 16)) = Finset.univ.map ⟨fun i : Fin 15 => i.succ, fun i j h => by revert h; revert i j; decide⟩ := by
  decide

/-- The other devices, by their distance after `c`, -/
theorem others_add (c : Dev nD) (Φ : Dev nD → sProp 𝕄) : bigSep (Finset.univ.erase c) Φ = each fun i => Φ (c + i.succ) := by
  rw [erase_add, BI.bigSep_map]; rfl
/-- and before it; -/
theorem others_sub (c : Dev nD) (Φ : Dev nD → sProp 𝕄) : bigSep (Finset.univ.erase c) Φ = each fun i => Φ (c - i.succ) := by
  rw [erase_sub, BI.bigSep_map]; rfl
/-- and the distances other than zero. -/
theorem nonzero (Φ : Fin 16 → sProp 𝕄) : bigSep (Finset.univ.erase 0) Φ = each fun i => Φ i.succ := by
  rw [erase_zero, BI.bigSep_map]; rfl

/-- A family over the devices is device `c`'s member and the others'. -/
theorem self_and (c : Dev nD) (Φ : Dev nD → sProp 𝕄) : bigSep Finset.univ Φ = iprop(Φ c ∗ bigSep (Finset.univ.erase c) Φ) :=
  BI.bigSep_erase (Finset.mem_univ c)

/-- A family over the DMA cells of one device, by kind, half and distance. -/
theorem cells_split (Φ : Fin 4 × Fin 16 × Fin 2 → sProp 𝕄) : bigSep Finset.univ Φ
    = bigSep Finset.univ fun a : Fin 4 => iprop((Φ (a, 0, 0) ∗ Φ (a, 0, 1)) ∗ (each fun i => Φ (a, i.succ, 0)) ∗ each fun i => Φ (a, i.succ, 1)) := by
  rw [bigSep_univ_prod]
  refine bigSep_congr fun a _ => ?_
  rw [bigSep_univ_prod, BI.bigSep_erase (Finset.mem_univ (0 : Fin 16)), nonzero, ← each_sep, bigSep_fin_two]
  exact congrArg (fun Ψ => iprop((Φ (a, 0, 0) ∗ Φ (a, 0, 1)) ∗ each Ψ)) (funext fun i => bigSep_fin_two _)

/-- A family of four, written out. -/
theorem four (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) by decide, sep_insert (by decide), sep_insert (by decide),
    sep_insert (by decide), bigSep_singleton]

/-! ## The buffers, cut up -/

/-- Two half chunks of rows are disjoint, -/
theorem rows_dis (p q : Fin 2 × Dev nD) (h : p ≠ q) : Disjoint (rowR p.2 p.1).set (rowR q.2 q.1).set :=
  rows_disjoint (p.2, p.1) (q.2, q.1) fun e => h (Prod.ext (congrArg Prod.snd e) (congrArg Prod.fst e))
/-- and together they are the whole array; -/
theorem rows_cov : Finset.univ.biUnion (fun p : Fin 2 × Dev nD => (rowR p.2 p.1).set) = Finset.univ := by
  refine Finset.eq_univ_of_forall fun x => ?_
  obtain ⟨p, -, hp⟩ := Finset.mem_biUnion.mp (rows_cover ▸ Finset.mem_univ x)
  exact Finset.mem_biUnion.mpr ⟨(p.2, p.1), Finset.mem_univ _, hp⟩
/-- two slots are disjoint, -/
theorem slots_dis (p q : Fin 2 × Dev nD) (h : p ≠ q) : Disjoint (slotR p.2 p.1).set (slotR q.2 q.1).set :=
  slots_disjoint (p.2, p.1) (q.2, q.1) fun e => h (Prod.ext (congrArg Prod.snd e) (congrArg Prod.fst e))
/-- and together they are the whole receive buffer. -/
theorem slots_cov : Finset.univ.biUnion (fun p : Fin 2 × Dev nD => (slotR p.2 p.1).set) = Finset.univ := by
  refine Finset.eq_univ_of_forall fun x => ?_
  obtain ⟨p, -, hp⟩ := Finset.mem_biUnion.mp (slots_cover ▸ Finset.mem_univ x)
  exact Finset.mem_biUnion.mpr ⟨(p.2, p.1), Finset.mem_univ _, hp⟩

/-- Half a chunk of the output is its rectangle of rows, -/
theorem out_set (d : Dev nD) (s : Fin 2) : (rowsV outM d s).view.set = (rowR d s).set := View.set_slice_whole _ _
/-- half a chunk of the staging buffer too, -/
theorem st_set (d : Dev nD) (s : Fin 2) : (rowsV stM d s).view.set = (rowR d s).set := View.set_slice_whole _ _
/-- and a slot is its rectangle of the receive buffer. -/
theorem sl_set (d : Dev nD) (s : Fin 2) : (slotV d s).view.set = (slotR d s).set := (View.set_reshape _ _).trans (View.set_slice_whole _ _)

/-- The output buffer is its rows, by half and device; -/
theorem out_split (c : Dev nD) (f : cc0_stg1_0.ty.Contents (Elt F)) : (outM.view.loc (c : Thread nD τ) ↦{fullShare} f : sProp 𝕄)
    = iprop((bigSep Finset.univ fun d : Dev nD => outPts c d 0 fullShare f) ∗ bigSep Finset.univ fun d : Dev nD => outPts c d 1 fullShare f) := by
  refine (Ring.pointsTo_blocks (ℓ := outM.view.loc (c : Thread nD τ)) (fun p : Fin 2 × Dev nD => (rowR p.2 p.1).set) rows_dis rows_cov f).trans ?_
  rw [bigSep_univ_prod, bigSep_fin_two]
  exact congrArg₂ (fun a b => iprop(a ∗ b)) (bigSep_congr fun d _ => by rw [← out_set]) (bigSep_congr fun d _ => by rw [← out_set])
/-- the stage is its rows; -/
theorem st_split (c : Dev nD) (f : cc0_scratch0.ty.Contents (Elt F)) : (stM.view.loc (c : Thread nD τ) ↦{fullShare} f : sProp 𝕄)
    = iprop((bigSep Finset.univ fun d : Dev nD => stPts c d 0 f) ∗ bigSep Finset.univ fun d : Dev nD => stPts c d 1 f) := by
  refine (Ring.pointsTo_blocks (ℓ := stM.view.loc (c : Thread nD τ)) (fun p : Fin 2 × Dev nD => (rowR p.2 p.1).set) rows_dis rows_cov f).trans ?_
  rw [bigSep_univ_prod, bigSep_fin_two]
  exact congrArg₂ (fun a b => iprop(a ∗ b)) (bigSep_congr fun d _ => by rw [← st_set]) (bigSep_congr fun d _ => by rw [← st_set])
/-- the receive buffer is its slots, -/
theorem sl_split (c : Dev nD) (f : cc0_scratch1.ty.Contents (Elt F)) : (cmM.view.loc (c : Thread nD τ) ↦{fullShare} f : sProp 𝕄)
    = iprop((bigSep Finset.univ fun d : Dev nD => slPts c d 0 f) ∗ bigSep Finset.univ fun d : Dev nD => slPts c d 1 f) := by
  refine (Ring.pointsTo_blocks (ℓ := cmM.view.loc (c : Thread nD τ)) (fun p : Fin 2 × Dev nD => (slotR p.2 p.1).set) slots_dis slots_cov f).trans ?_
  rw [bigSep_univ_prod, bigSep_fin_two]
  exact congrArg₂ (fun a b => iprop(a ∗ b)) (bigSep_congr fun d _ => by rw [← sl_set]) (bigSep_congr fun d _ => by rw [← sl_set])
/-- and slots of any contents make it up. -/
theorem sl_join (c : Dev nD) : iprop((bigSep Finset.univ fun d : Dev nD => iprop(∃ f, slPts (F := F) c d 0 f))
      ∗ bigSep Finset.univ fun d : Dev nD => iprop(∃ f, slPts (F := F) c d 1 f))
    ⊢ iprop(∃ f, cmM.view.loc (c : Thread nD τ) ↦{fullShare} f) := by
  refine BIBase.Entails.trans (Entails.of_eq ?_) (Ring.pointsTo_blocks_join_exists (ℓ := cmM.view.loc (c : Thread nD τ)) (fun p : Fin 2 × Dev nD => (slotR p.2 p.1).set) slots_dis slots_cov
    cmM.view.junk)
  rw [bigSep_univ_prod, bigSep_fin_two]
  exact congrArg₂ (fun a b => iprop(a ∗ b)) (bigSep_congr fun d _ => by rw [← sl_set]) (bigSep_congr fun d _ => by rw [← sl_set])

/-- A device's own rows of the output, held in full, are the shares it lends its copies. -/
theorem out_deal (c : Dev nD) (s : Fin 2) (f : cc0_stg1_0.ty.Contents (Elt F)) :
    (outPts c c s fullShare f : sProp 𝕄) = each fun i => outPts c c s (lent i.succ) f := by
  rw [← nonzero (fun j => outPts c c s (lent j) f)]
  exact Transfers.pointsTo_deal _ ⟨1, by decide⟩ _

/-! ## The phases -/

variable (P : Dev nD → S512x512.Idx → Elt F .f32) (K : GSem nD τ sig → ℕ)

/-- The partial product, in its buffer. -/
abbrev inPts (c : Dev nD) : sProp 𝕄 := inM.view.loc (c : Thread nD τ) ↦{fullShare} P c
/-- The tokens of one half: of the scatter's departures and arrivals and of the gather's. -/
def toks (c : Dev nD) (s : Fin 2) : sProp 𝕄 :=
  iprop((each fun i => dutyTok ER (dcell c 0 i.succ s) 0 0) ∗ (each fun i => dutyTok ER (dcell (c + i.succ) 1 i.succ s) 0 0)
    ∗ (each fun i => dutyTok ER (dcell c 2 i.succ s) 0 0) ∗ (each fun i => dutyTok ER (dcell (c + i.succ) 3 i.succ s) 0 0))
/-- The credit of one half: against the scatter's arrivals and the gather's. -/
def creds (c : Dev nD) (s : Fin 2) : sProp 𝕄 :=
  iprop((each fun i => cred (tallyAt (dcell c 1 i.succ s) () N)) ∗ (each fun i => cred (tallyAt (dcell c 3 i.succ s) () N)))
/-- The cells of one half, all at round `r`. -/
def ats (c : Dev nD) (s : Fin 2) (r : ℕ) : sProp 𝕄 :=
  iprop((each fun i => atPos ER (dcell c 0 i.succ s) r ∅ 0) ∗ (each fun i => atPos ER (dcell c 1 i.succ s) r ∅ 0)
    ∗ (each fun i => atPos ER (dcell c 2 i.succ s) r ∅ 0) ∗ (each fun i => atPos ER (dcell c 3 i.succ s) r ∅ 0))
/-- What the barrier gives for one half: on every other device, this device's slot there and its rows of the output there,
    with the arrival cells there in their round. -/
def give (c : Dev nD) (s : Fin 2) : sProp 𝕄 :=
  iprop((each fun i => iprop(∃ f, slPts (c + i.succ) c s f)) ∗ (each fun i => iprop(∃ f, outPts (c + i.succ) c s fullShare f))
    ∗ (each fun i => reached ER (dcell (c + i.succ) 1 i.succ s) 0) ∗ (each fun i => reached ER (dcell (c + i.succ) 3 i.succ s) 0))
/-- What one half leaves. -/
def done (c : Dev nD) (s : Fin 2) : sProp 𝕄 :=
  iprop(ats c s 1 ∗ (each fun i => stPts c (c + i.succ) s (stAll P c)) ∗ (each fun i => slPts c (c - i.succ) s (cmAll P c))
    ∗ outPts c c s fullShare (outAll P) ∗ each fun i => outPts c (c - i.succ) s fullShare (outAll P))

variable (h1 : outM.IsWhole) (h2 : stM.IsWhole) (h3 : cmM.IsWhole)

/-- Adding the received blocks in the order of the waits gives the device's sum. -/
theorem red_eq (c : Dev nD) (s : Fin 2) :
    recvOrder.foldl (addBlk P c s) (accInit ((rowsV inM c s).view.read (Elt F) (P c))) = red P c s := rfl

/-- One half: the sum, its store and its copies. -/
theorem half_run (c : Dev nD) (s : Fin 2) (Q : PUnit → sProp 𝕄) (O : CellTallies nD τ sig Unit) (k : PR F)
    (hO : Above 2 (owedL (arrOw 3 s c) sendOrder O)) :
    iprop(facts P K c ∗ owesE c (owedL (arrOw 3 s c) sendOrder O) ∗ inPts P c
        ∗ ((each fun i => cred (tallyAt (dcell c 1 i.succ s) () N)) ∗ (each fun i => atPos ER (dcell c 1 i.succ s) 0 ∅ 0))
        ∗ (∃ f, outPts c c s fullShare f)
        ∗ ((each fun i => iprop(∃ f, outPts (c + i.succ) c s fullShare f)) ∗ (each fun i => reached ER (dcell (c + i.succ) 3 i.succ s) 0)
          ∗ (each fun i => dutyTok ER (dcell c 2 i.succ s) 0 0) ∗ (each fun i => dutyTok ER (dcell (c + i.succ) 3 i.succ s) 0 0))
        ∗ (owesE c O -∗ inPts P c -∗ (each fun i => atPos ER (dcell c 1 i.succ s) 1 ∅ 0) -∗ (each fun i => slPts c (c - i.succ) s (cmAll P c))
            -∗ (each fun i => cred (tallyAt (dcell c 2 i.succ s) () N)) -∗ WP c k Q))
      ⊢ WP c (half inM outM h1 cmM h3 cc0_scratch3 cc0_scratch4 cc0_scratch5 c s k) Q := by
  have hr := reduce_run P K h3 c s Q (owedL (arrOw 3 s c) sendOrder O) hO
    (fun acc => .op (.load outM (ownRect c s).toLoadRect (View.loadsAt_vmem h_S16x512)) fun _ =>
      .op (.store outM (ownRect c s) (outPay acc) Finset.univ
        (View.stores_vmem h_S16x512 (h1.storeExact_slice rfl _ (k0_off4_packedbf16 c s)) (fun _ => rfl)) (.inl rfl)) fun _ =>
      gather outM h1 cc0_scratch4 cc0_scratch5 c s sendOrder k) recvOrder recvOrder_nodup (accInit ((rowsV inM c s).view.read (Elt F) (P c)))
  rw [recvOrder_all, bigSep_sep', bigSep_sep', red_eq] at hr
  unfold half
  iintro ⟨#HF, HO, Hin, ⟨Hc, Ha⟩, ⟨%f, Hown⟩, ⟨Hd, Hr, Ht2, Ht3⟩, Hk⟩
  iapply (in_load c s Q (off4_eq c s) (fun v => reduce cmM h3 cc0_scratch3 c s recvOrder (accInit v) fun acc =>
    .op (.load outM (ownRect c s).toLoadRect (View.loadsAt_vmem h_S16x512)) fun _ =>
      .op (.store outM (ownRect c s) (outPay acc) Finset.univ
        (View.stores_vmem h_S16x512 (h1.storeExact_slice rfl _ (k0_off4_packedbf16 c s)) (fun _ => rfl)) (.inl rfl)) fun _ =>
      gather outM h1 cc0_scratch4 cc0_scratch5 c s sendOrder k) (P c))
  isplitl [Hin]; · iexact Hin
  iintro Hin
  iapply hr
  isplitr; · iexact HF
  isplitl [HO]; · iexact HO
  isplitl [Hc Ha]
  · isplitl [Hc]; · iexact Hc
    iexact Ha
  iintro HO ⟨Ha, Hs⟩
  iapply (own_load c s Q (off4_eq c s) (.op (.store outM (ownRect c s) (outPay (red P c s)) Finset.univ
        (View.stores_vmem h_S16x512 (h1.storeExact_slice rfl _ (k0_off4_packedbf16 c s)) (fun _ => rfl)) (.inl rfl)) fun _ =>
      gather outM h1 cc0_scratch4 cc0_scratch5 c s sendOrder k) f)
  isplitl [Hown]; · iexact Hown
  iintro Hown
  iapply (own_store P c s Q (off4_eq c s) (gather outM h1 cc0_scratch4 cc0_scratch5 c s sendOrder k) f)
  isplitl [Hown]; · iexact Hown
  iintro Hown
  ihave Hown := (Entails.of_eq (out_deal c s (outAll P))) $$ Hown
  iapply (gather_run P K h1 c s Q O k)
  isplitr; · iexact HF
  isplitl [HO]; · iexact HO
  isplitl [Hown]; · iexact Hown
  isplitl [Hd]; · iexact Hd
  isplitl [Hr]; · iexact Hr
  isplitl [Ht2]; · iexact Ht2
  isplitl [Ht3]; · iexact Ht3
  iintro HO Hc2
  iapply Hk $$ [HO] [Hin] [Ha] [Hs] [Hc2]
  · iexact HO
  · iexact Hin
  · iexact Ha
  · iexact Hs
  · iexact Hc2

/-- The return. -/
theorem ret_run (c : Dev nD) (Q : PUnit → sProp 𝕄) : iprop(|={Set.univ}=> Q ⟨⟩) ⊢ WP c (.ret ⟨⟩) Q :=
  Entails.of_eq rfl

/-- Everything after the barrier. -/
theorem afterBarrier_run (c : Dev nD) (Q : PUnit → sProp 𝕄) :
    iprop(facts P K c ∗ owesE c (O2 c) ∗ inPts P c
        ∗ ((each fun i => stPts c (c + i.succ) 0 (stAll P c)) ∗ (each fun i => stPts c (c + i.succ) 1 (stAll P c)))
        ∗ ((∃ f, outPts c c 0 fullShare f) ∗ (∃ f, outPts c c 1 fullShare f))
        ∗ (give c 0 ∗ give c 1) ∗ (toks c 0 ∗ toks c 1) ∗ (creds c 0 ∗ creds c 1) ∗ (ats c 0 0 ∗ ats c 1 0)
        ∗ (owesE c 0 -∗ inPts P c -∗ done P c 0 -∗ done P c 1 -∗ |={Set.univ}=> Q ⟨⟩))
      ⊢ WP c (afterBarrier inM outM h1 stM h2 cmM h3 cc0_scratch2 cc0_scratch3 cc0_scratch4 cc0_scratch5 c) Q := by
  unfold give toks creds ats
  iintro ⟨#HF, HO, Hin, ⟨Hst0, Hst1⟩, ⟨Hown0, Hown1⟩, ⟨⟨Hs0, Ho0, Hr0, Hq0⟩, ⟨Hs1, Ho1, Hr1, Hq1⟩⟩,
    ⟨⟨Ta0, Tb0, Tc0, Td0⟩, ⟨Ta1, Tb1, Tc1, Td1⟩⟩, ⟨⟨Ca0, Cb0⟩, ⟨Ca1, Cb1⟩⟩, ⟨⟨Aa0, Ab0, Ac0, Ad0⟩, ⟨Aa1, Ab1, Ac1, Ad1⟩⟩, Hk⟩
  iapply (scatter_run P K h2 h3 c 0 Q (O3 c) _)
  isplitr; · iexact HF
  isplitl [HO]; · iexact HO
  isplitl [Hst0]; · iexact Hst0
  isplitl [Hs0]; · iexact Hs0
  isplitl [Hr0]; · iexact Hr0
  isplitl [Ta0]; · iexact Ta0
  isplitl [Tb0]; · iexact Tb0
  iintro HO Ce0
  iapply (scatter_run P K h2 h3 c 1 Q (O4 c) _)
  isplitr; · iexact HF
  isplitl [HO]; · iexact HO
  isplitl [Hst1]; · iexact Hst1
  isplitl [Hs1]; · iexact Hs1
  isplitl [Hr1]; · iexact Hr1
  isplitl [Ta1]; · iexact Ta1
  isplitl [Tb1]; · iexact Tb1
  iintro HO Ce1
  iapply (half_run P K h1 h3 c 0 Q (O5 c) _ (above_O4 c))
  isplitr; · iexact HF
  isplitl [HO]; · iexact HO
  isplitl [Hin]; · iexact Hin
  isplitl [Ca0 Ab0]
  · isplitl [Ca0]; · iexact Ca0
    iexact Ab0
  isplitl [Hown0]; · iexact Hown0
  isplitl [Ho0 Hq0 Tc0 Td0]
  · isplitl [Ho0]; · iexact Ho0
    isplitl [Hq0]; · iexact Hq0
    isplitl [Tc0]; · iexact Tc0
    iexact Td0
  iintro HO Hin Ab0 Hs0 Cf0
  iapply (half_run P K h1 h3 c 1 Q 0 _ (above_O5 c))
  isplitr; · iexact HF
  isplitl [HO]; · iexact HO
  isplitl [Hin]; · iexact Hin
  isplitl [Ca1 Ab1]
  · isplitl [Ca1]; · iexact Ca1
    iexact Ab1
  isplitl [Hown1]; · iexact Hown1
  isplitl [Ho1 Hq1 Tc1 Td1]
  · isplitl [Ho1]; · iexact Ho1
    isplitl [Hq1]; · iexact Hq1
    isplitl [Tc1]; · iexact Tc1
    iexact Td1
  iintro HO Hin Ab1 Hs1 Cf1
  iapply (landed_run P K h1 c 0 Q _)
  isplitr; · iexact HF
  isplitl [HO]; · iexact HO
  isplitl [Cb0]; · iexact Cb0
  isplitl [Ad0]; · iexact Ad0
  iintro HO Ad0 Ho0
  iapply (landed_run P K h1 c 1 Q _)
  isplitr; · iexact HF
  isplitl [HO]; · iexact HO
  isplitl [Cb1]; · iexact Cb1
  isplitl [Ad1]; · iexact Ad1
  iintro HO Ad1 Ho1
  iapply (scattered_run P K h2 h3 c 0 Q _)
  isplitr; · iexact HF
  isplitl [HO]; · iexact HO
  isplitl [Ce0]; · iexact Ce0
  isplitl [Aa0]; · iexact Aa0
  iintro HO Aa0 Hst0
  iapply (scattered_run P K h2 h3 c 1 Q _)
  isplitr; · iexact HF
  isplitl [HO]; · iexact HO
  isplitl [Ce1]; · iexact Ce1
  isplitl [Aa1]; · iexact Aa1
  iintro HO Aa1 Hst1
  iapply (gathered_run P K h1 c 0 Q _)
  isplitr; · iexact HF
  isplitl [HO]; · iexact HO
  isplitl [Cf0]; · iexact Cf0
  isplitl [Ac0]; · iexact Ac0
  iintro HO Ac0 Hown0
  iapply (gathered_run P K h1 c 1 Q _)
  isplitr; · iexact HF
  isplitl [HO]; · iexact HO
  isplitl [Cf1]; · iexact Cf1
  isplitl [Ac1]; · iexact Ac1
  iintro HO Ac1 Hown1
  ihave Hown0 := (Entails.of_eq (out_deal c 0 (outAll P)).symm) $$ Hown0
  ihave Hown1 := (Entails.of_eq (out_deal c 1 (outAll P)).symm) $$ Hown1
  iapply (ret_run c Q)
  iapply Hk $$ [HO] [Hin] [Aa0 Ab0 Ac0 Ad0 Hst0 Hs0 Hown0 Ho0] [Aa1 Ab1 Ac1 Ad1 Hst1 Hs1 Hown1 Ho1]
  · iexact HO
  · iexact Hin
  · unfold done ats
    isplitl [Aa0 Ab0 Ac0 Ad0]
    · isplitl [Aa0]; · iexact Aa0
      isplitl [Ab0]; · iexact Ab0
      isplitl [Ac0]; · iexact Ac0
      iexact Ad0
    isplitl [Hst0]; · iexact Hst0
    isplitl [Hs0]; · iexact Hs0
    isplitl [Hown0]; · iexact Hown0
    iexact Ho0
  · unfold done ats
    isplitl [Aa1 Ab1 Ac1 Ad1]
    · isplitl [Aa1]; · iexact Aa1
      isplitl [Ab1]; · iexact Ab1
      isplitl [Ac1]; · iexact Ac1
      iexact Ad1
    isplitl [Hst1]; · iexact Hst1
    isplitl [Hs1]; · iexact Hs1
    isplitl [Hown1]; · iexact Hown1
    iexact Ho1

end Cert.KernelIdealProof

end
-- ==== Proof.Whole.lean ====
/-
  The whole body of the kernel, run: from the buffers held whole to the buffers held whole, with every cell at its start on entry
  and every counter back at zero on return.
-/
module

public import proofs.«01_k».proof.Proof.Run
public import Idealize.ShloMosaic.Lib.Rounds.Family

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → S512x512.Idx → Elt F .f32) (K : GSem nD τ sig → ℕ)

/-- What a barrier unit hands over, by half. -/
theorem barPay_eq (t c : Dev nD) : (barPay t c : sProp 𝕄)
    = iprop(((∃ f, slPts c t 0 f) ∗ (∃ f, outPts c t 0 fullShare f) ∗ reached ER (dcell c 1 (c - t) 0) 0 ∗ reached ER (dcell c 3 (c - t) 0) 0)
      ∗ ((∃ f, slPts c t 1 f) ∗ (∃ f, outPts c t 1 fullShare f) ∗ reached ER (dcell c 1 (c - t) 1) 0 ∗ reached ER (dcell c 3 (c - t) 1) 0)) := by
  unfold barPay; exact bigSep_fin_two _

/-- What the others' signals bring, sorted by half. -/
theorem barrier_out (c : Dev nD) : bigSep (Finset.univ.erase c) (fun d => barPay c d) ⊢ iprop(give (F := F) c 0 ∗ give c 1) := by
  refine Entails.of_eq ?_
  rw [others_add c (fun d => barPay c d)]
  unfold give
  refine (bigSep_congr fun i _ => barPay_eq c (c + i.succ)).trans ?_
  simp only [add_sub_left]
  rw [bigSep_sep', bigSep_sep', bigSep_sep', bigSep_sep', bigSep_sep', bigSep_sep', bigSep_sep']

/-- What a device hands over with its signals: its slots and its rows for the others. -/
theorem barrier_in (c : Dev nD) :
    iprop(facts P K c ∗ (each fun i => iprop(∃ f, slPts c (c + i.succ) 0 f)) ∗ (each fun i => iprop(∃ f, slPts c (c + i.succ) 1 f))
        ∗ (each fun i => iprop(∃ f, outPts c (c + i.succ) 0 fullShare f)) ∗ (each fun i => iprop(∃ f, outPts c (c + i.succ) 1 fullShare f)))
      ⊢ each fun i => barPay (c + i.succ) c := by
  rw [← bigSep_sep', ← bigSep_sep', ← bigSep_sep']
  refine bigSep_with_persistent fun i _ => ?_
  rw [barPay_eq]
  iintro ⟨#HF, H1, H2, H3, H4⟩
  isplitl [H1 H3]
  · isplitl [H1]; · iexact H1
    isplitl [H3]; · iexact H3
    isplitl
    · iapply (facts_own P K c 1 (c - (c + i.succ)) 0); iexact HF
    · iapply (facts_own P K c 3 (c - (c + i.succ)) 0); iexact HF
  · isplitl [H2]; · iexact H2
    isplitl [H4]; · iexact H4
    isplitl
    · iapply (facts_own P K c 1 (c - (c + i.succ)) 1); iexact HF
    · iapply (facts_own P K c 3 (c - (c + i.succ)) 1); iexact HF

/-- The wait on the barrier, all of whose units come from the other devices. -/
theorem barrier_run (c : Dev nD) (Q : PUnit → sProp 𝕄) (k : PR F) :
    iprop(facts P K c ∗ owesE c (O2 c) ∗ cred (tallyAt (bcell c) () 15) ∗ atPos ER (bcell c) 0 ∅ 0
        ∗ (owesE c (O2 c) -∗ atPos ER (bcell c) 1 ∅ 0 -∗ give c 0 -∗ give c 1 -∗ WP c k Q))
      ⊢ WP c (.op (.semWait (SemArray.scalar (sig.barrier 0 rfl) : Sems sig S_).sem (15#32).toInt) fun _ => k) Q := by
  unfold owesE
  iintro ⟨#HF, ⟨%W, HO⟩, Hc, Hat, Hk⟩
  ihave #Hb := (facts_bar P K c c) $$ HF
  icases Hb with ⟨#HI, -⟩
  iapply (Rounds.wp_wait_rest_token 𝒱₀ ER (talkRd P) (c : Thread nD τ) none (κ := K (bcell c))
      (wpE_semWait_eq 𝒱₀ (c : Thread nD τ) none Set.univ) (Set.mem_univ _) () (O := O2 c) (W := W) (R := 0) (m := 0) (T := ∅)
      ((Nat.zero_add _).trans (expect_bar P c).symm)) $$ [Hc HO Hat]
  · isplitr; · iexact HI
    isplitl [Hc]; · iexact Hc
    isplitl [HO]; · iexact HO
    isplitr; · iapply ((facts_lev P K c).trans (mayWait_of 1 (O2 c) (above_O2 c) c _ (le_refl 1))); iexact HF
    iexact Hat
  iintro ⟨HO, Hat, -, Hp⟩
  ihave Hp' := ((Entails.of_eq (rest_bar P c)).trans (barrier_out c)) $$ Hp
  icases Hp' with ⟨H0, H1⟩
  iapply Hk $$ [HO] [Hat] [H0] [H1]
  · iexists _; iexact HO
  · iexact Hat
  · iexact H0
  · iexact H1

/-- The staging: the partial product, rounded, goes to the stage. -/
theorem stage_run (c : Dev nD) (h2 : stM.IsWhole) (Q : PUnit → sProp 𝕄) (k : PR F) :
    iprop(inPts P c ∗ (∃ f, stM.view.loc (c : Thread nD τ) ↦{fullShare} f)
        ∗ (inPts P c -∗ (stM.view.loc (c : Thread nD τ) ↦{fullShare} stAll P c) -∗ WP c k Q))
      ⊢ WP c (.op (.load inM fullRect.toLoadRect (View.loadsAt_vmem h_S512x512)) fun v =>
          .op (.load stM fullRect.toLoadRect (View.loadsAt_vmem h_S512x512)) fun _ =>
          .op (.store stM fullRect (stagePay v) Finset.univ
            (View.stores_vmem h_S512x512 (h2.storeExact_slice rfl _ packedbf16_S512x512_S512x512_0_0) (fun _ => rfl)) (.inl rfl)) fun _ => k) Q := by
  iintro ⟨Hin, ⟨%f, Hst⟩, Hk⟩
  iapply (wp_load_rect 𝒱₀ (c : Thread nD τ) none Set.univ (m := inM) (r := fullRect) (S := Finset.univ) (q := fullShare) (f := P c)
    (Finset.subset_univ _)) $$ [Hin]
  · iexact Hin
  iintro Hin
  iapply (wp_load_rect 𝒱₀ (c : Thread nD τ) none Set.univ (m := stM) (r := fullRect) (S := Finset.univ) (q := fullShare) (f := f)
    (Finset.subset_univ _)) $$ [Hst]
  · iexact Hst
  iintro Hst
  iapply (wp_store 𝒱₀ (c : Thread nD τ) none Set.univ (m := stM) (r := fullRect) (S := Finset.univ) (f := f)
    (Finset.subset_univ _)) $$ [Hst]
  · iexact Hst
  iintro Hst
  iapply Hk $$ [Hin] [Hst]
  · iexact Hin
  have e : (stM.access fullRect).write (Elt F) f (stagePay ((inM.access fullRect).read (Elt F) (P c))) Finset.univ = stAll P c := by
    refine (Memref.write_access_unit_zero_univ (Elt F) cc0_scratch0 (by decide) _ f _).trans ?_
    exact congrArg stagePay (Memref.read_access_unit_zero (Elt F) cc0_stg0_0 (by decide) _ (P c))
  iapply (Entails.of_eq (congrArg (fun g => (stM.view.loc (c : Thread nD τ) ↦{fullShare} g : sProp 𝕄)) e)); iexact Hst

/-! ## Closing the cells -/

/-- The round at which a cell ends: the cells at distance zero never begin. -/
def lastR (q : Fin 4 × Fin 16 × Fin 2) : ℕ := match q.2.1.val with
  | 0 => 0
  | _ + 1 => 1

/-- Past its last round a DMA cell has no duties. -/
theorem ends (c : Dev nD) (q : Fin 4 × Fin 16 × Fin 2) (r : ℕ) (h : lastR q ≤ r) : (talkRd P).duties (dcell c q.1 q.2.1 q.2.2) r = ∅ := by
  obtain ⟨a, j, s⟩ := q
  rcases Fin.eq_zero_or_eq_succ j with rfl | ⟨i, rfl⟩
  · exact duties_idle P c a s r
  · exact duties_later P _ r h

/-- All the cells of a device, at their ends: those at distance zero where they began. -/
theorem ats_join (c : Dev nD) :
    iprop((bigSep Finset.univ fun a : Fin 4 => iprop(atPos ER (dcell c a 0 0) 0 ∅ 0 ∗ atPos ER (dcell c a 0 1) 0 ∅ 0)) ∗ ats c 0 1 ∗ ats c 1 1)
      ⊢ (bigSep Finset.univ fun q : Fin 4 × Fin 16 × Fin 2 => atPos ER (dcell c q.1 q.2.1 q.2.2) (lastR q) ∅ 0 : sProp 𝕄) := by
  rw [cells_split, four, four]
  unfold ats
  iintro ⟨⟨Z0, Z1, Z2, Z3⟩, ⟨A0, A1, A2, A3⟩, ⟨B0, B1, B2, B3⟩⟩
  isplitl [Z0 A0 B0]
  · isplitl [Z0]; · iexact Z0
    isplitl [A0]; · iexact A0
    iexact B0
  isplitl [Z1 A1 B1]
  · isplitl [Z1]; · iexact Z1
    isplitl [A1]; · iexact A1
    iexact B1
  isplitl [Z2 A2 B2]
  · isplitl [Z2]; · iexact Z2
    isplitl [A2]; · iexact A2
    iexact B2
  isplitl [Z3]; · iexact Z3
  isplitl [A3]; · iexact A3
  iexact B3

/-- and at their starts. -/
theorem ats_split (c : Dev nD) :
    (bigSep Finset.univ fun q : Fin 4 × Fin 16 × Fin 2 => atPos ER (dcell c q.1 q.2.1 q.2.2) 0 ∅ 0 : sProp 𝕄)
      ⊢ iprop((bigSep Finset.univ fun a : Fin 4 => iprop(atPos ER (dcell c a 0 0) 0 ∅ 0 ∗ atPos ER (dcell c a 0 1) 0 ∅ 0)) ∗ ats c 0 0 ∗ ats c 1 0) := by
  rw [cells_split, four, four]
  unfold ats
  iintro ⟨⟨Z0, A0, B0⟩, ⟨Z1, A1, B1⟩, ⟨Z2, A2, B2⟩, ⟨Z3, A3, B3⟩⟩
  isplitl [Z0 Z1 Z2 Z3]
  · isplitl [Z0]; · iexact Z0
    isplitl [Z1]; · iexact Z1
    isplitl [Z2]; · iexact Z2
    iexact Z3
  isplitl [A0 A1 A2 A3]
  · isplitl [A0]; · iexact A0
    isplitl [A1]; · iexact A1
    isplitl [A2]; · iexact A2
    iexact A3
  isplitl [B0]; · iexact B0
  isplitl [B1]; · iexact B1
  isplitl [B2]; · iexact B2
  iexact B3

/-- At their ends the cells give their counters back, at zero. -/
theorem cells_end (c : Dev nD) :
    iprop(facts P K c ∗ bigSep Finset.univ fun q : Fin 4 × Fin 16 × Fin 2 => atPos ER (dcell c q.1 q.2.1 q.2.2) (lastR q) ∅ 0)
      ⊢ (|={Set.univ}=> bigSep Finset.univ fun q : Fin 4 × Fin 16 × Fin 2 => semVal (dcell c q.1 q.2.1 q.2.2) 0 : sProp 𝕄) := by
  refine BIBase.Entails.trans ?_ (Rounds.cells_close ER (talkRd P) Finset.univ (fun q : Fin 4 × Fin 16 × Fin 2 => dcell c q.1 q.2.1 q.2.2)
    (fun q => K (dcell c q.1 q.2.1 q.2.2)) (fun _ _ => Set.mem_univ _) (fun _ _ => id) lastR (fun q _ => ends P c q))
  refine bigSep_with_persistent fun q _ => ?_
  iintro ⟨HF, H⟩
  isplitl [HF]
  · iapply (facts_dma P K c c q.1 q.2.1 q.2.2); iexact HF
  iexact H
/-- At its end the barrier's counter is back at zero. -/
theorem bar_end (c : Dev nD) : iprop(facts P K c ∗ atPos ER (bcell c) 1 ∅ 0) ⊢ (|={Set.univ}=> semVal (bcell c) 0 : sProp 𝕄) := by
  refine BIBase.Entails.trans ?_ (Rounds.cell_close ER (talkRd P) (Set.mem_univ (K (bcell c))) id (R := 1) (duties_later P (bcell c)))
  iintro ⟨HF, H⟩
  isplitl [HF]
  · ihave Hb := (facts_bar P K c c) $$ HF
    icases Hb with ⟨HI, -⟩
    iexact HI
  iexact H

/-! ## The buffers, before and after -/

/-- A family over the distances may be weakened member by member. -/
theorem each_mono {Φ Ψ : Fin 15 → sProp 𝕄} (h : ∀ i, Φ i ⊢ Ψ i) : each Φ ⊢ each Ψ := bigSep_mono fun i _ => h i
/-- The output's half chunks: the device's own, and for each distance the one after it, contents forgotten. -/
theorem some_rows (c : Dev nD) (s : Fin 2) (f : cc0_stg1_0.ty.Contents (Elt F)) : (bigSep Finset.univ fun d : Dev nD => outPts c d s fullShare f)
    ⊢ (iprop((∃ f, outPts c c s fullShare f) ∗ each fun i => iprop(∃ f, outPts c (c + i.succ) s fullShare f)) : sProp 𝕄) := by
  rw [self_and c, others_add c]
  iintro ⟨H, Hs⟩
  isplitl [H]; · iexists f; iexact H
  iapply (each_mono fun i => (by iintro H; iexists f; iexact H :
    (outPts c (c + i.succ) s fullShare f : sProp 𝕄) ⊢ iprop(∃ f, outPts c (c + i.succ) s fullShare f))); iexact Hs
/-- The receive buffer's slots, likewise. -/
theorem some_slots (c : Dev nD) (s : Fin 2) (f : cc0_scratch1.ty.Contents (Elt F)) : (bigSep Finset.univ fun d : Dev nD => slPts c d s f)
    ⊢ (iprop((∃ f, slPts c c s f) ∗ each fun i => iprop(∃ f, slPts c (c + i.succ) s f)) : sProp 𝕄) := by
  rw [self_and c, others_add c]
  iintro ⟨H, Hs⟩
  isplitl [H]; · iexists f; iexact H
  iapply (each_mono fun i => (by iintro H; iexists f; iexact H :
    (slPts c (c + i.succ) s f : sProp 𝕄) ⊢ iprop(∃ f, slPts c (c + i.succ) s f))); iexact Hs
/-- The slots, come back by distance before the device, are all the slots. -/
theorem slots_back (c : Dev nD) (s : Fin 2) (g : cc0_scratch1.ty.Contents (Elt F)) :
    iprop((∃ f, slPts c c s f) ∗ each fun i => slPts c (c - i.succ) s g)
      ⊢ (bigSep Finset.univ fun d : Dev nD => iprop(∃ f, slPts c d s f) : sProp 𝕄) := by
  rw [self_and c, others_sub c]
  iintro ⟨H, Hs⟩
  isplitl [H]; · iexact H
  iapply (each_mono fun i => (by iintro H; iexists g; iexact H :
    (slPts c (c - i.succ) s g : sProp 𝕄) ⊢ iprop(∃ f, slPts c (c - i.succ) s f))); iexact Hs
/-- The output's half chunks, come back filled, are all of them. -/
theorem rows_back (c : Dev nD) (s : Fin 2) (g : cc0_stg1_0.ty.Contents (Elt F)) :
    iprop(outPts c c s fullShare g ∗ each fun i => outPts c (c - i.succ) s fullShare g)
      ⊢ (bigSep Finset.univ fun d : Dev nD => outPts c d s fullShare g : sProp 𝕄) := by
  rw [self_and c, others_sub c]
/-- The staging buffer's half chunks: the device's own, and for each distance the one after it. -/
theorem st_take (c : Dev nD) (s : Fin 2) (g : cc0_scratch0.ty.Contents (Elt F)) : (bigSep Finset.univ fun d : Dev nD => stPts c d s g)
    = (iprop(stPts c c s g ∗ each fun i => stPts c (c + i.succ) s g) : sProp 𝕄) := by
  rw [self_and c, others_add c]

/-! ## The body -/

/-- What a device carries in besides the buffers: what it owes, the tokens, the credit, and the cells at their starts. -/
def carry (c : Dev nD) : sProp 𝕄 :=
  iprop(owesE c (O₀ c) ∗ (each fun i => dutyTok ER (bcell (c + i.succ)) 0 c) ∗ (toks c 0 ∗ toks c 1)
    ∗ cred (tallyAt (bcell c) () 15) ∗ (creds c 0 ∗ creds c 1)
    ∗ atPos ER (bcell c) 0 ∅ 0 ∗ bigSep Finset.univ fun q : Fin 4 × Fin 16 × Fin 2 => atPos ER (dcell c q.1 q.2.1 q.2.2) 0 ∅ 0)
/-- What it carries out: nothing owed and every counter at zero. -/
def carryOut (c : Dev nD) : sProp 𝕄 :=
  iprop(owesE c 0 ∗ semVal (bcell c) 0 ∗ bigSep Finset.univ fun q : Fin 4 × Fin 16 × Fin 2 => semVal (dcell c q.1 q.2.1 q.2.2) 0)

/-- The device's own number. -/
theorem wp_deviceId_run (c : Dev nD) (Q : PUnit → sProp 𝕄) (k : Dev nD → PR F) : WP c (k c) Q ⊢ WP c (.op .deviceId k) Q := by
  simp only [wp_deviceId]; exact BIBase.Entails.rfl

/-- The body: the partial product in, the sum of all out, in every row. -/
theorem body_run (c : Dev nD) (Q : PUnit → sProp 𝕄) (h1 : outM.IsWhole) (h2 : stM.IsWhole) (h3 : cmM.IsWhole) :
    iprop(facts P K c ∗ carry c ∗ inPts P c ∗ (∃ f, outM.view.loc (c : Thread nD τ) ↦{fullShare} f)
        ∗ (∃ f, stM.view.loc (c : Thread nD τ) ↦{fullShare} f) ∗ (∃ f, cmM.view.loc (c : Thread nD τ) ↦{fullShare} f)
        ∗ (carryOut c -∗ inPts P c -∗ (outM.view.loc (c : Thread nD τ) ↦{fullShare} outAll P)
          -∗ (∃ f, stM.view.loc (c : Thread nD τ) ↦{fullShare} f) -∗ (∃ f, cmM.view.loc (c : Thread nD τ) ↦{fullShare} f) -∗ Q ⟨⟩))
      ⊢ WP c (body inM outM h1 stM h2 cmM h3 cc0_scratch2 cc0_scratch3 cc0_scratch4 cc0_scratch5) Q := by
  unfold carry
  iintro ⟨#HF, ⟨HO, Htb, Ht, Hcb, Hc, Hab, Hat⟩, Hin, ⟨%fo, Hout⟩, Hst, ⟨%fc, Hcm⟩, Hk⟩
  ihave Hout := (Entails.of_eq (out_split c fo)) $$ Hout
  icases Hout with ⟨Ho0, Ho1⟩
  ihave Ho0 := (some_rows c 0 fo) $$ Ho0
  ihave Ho1 := (some_rows c 1 fo) $$ Ho1
  icases Ho0 with ⟨Hown0, Ho0⟩
  icases Ho1 with ⟨Hown1, Ho1⟩
  ihave Hcm := (Entails.of_eq (sl_split c fc)) $$ Hcm
  icases Hcm with ⟨Hs0, Hs1⟩
  ihave Hs0 := (some_slots c 0 fc) $$ Hs0
  ihave Hs1 := (some_slots c 1 fc) $$ Hs1
  icases Hs0 with ⟨Hsl0, Hs0⟩
  icases Hs1 with ⟨Hsl1, Hs1⟩
  ihave Hat := (ats_split c) $$ Hat
  icases Hat with ⟨Hidle, Hat⟩
  ihave Hpay := (barrier_in P K c) $$ [Hs0 Hs1 Ho0 Ho1]
  · isplitr; · iexact HF
    isplitl [Hs0]; · iexact Hs0
    isplitl [Hs1]; · iexact Hs1
    isplitl [Ho0]; · iexact Ho0
    iexact Ho1
  unfold body
  iapply (wp_deviceId_run c Q _)
  iapply (signals_run P K c Q (O2 c) _)
  isplitr; · iexact HF
  isplitl [HO]; · iexact HO
  isplitl [Htb]; · iexact Htb
  isplitl [Hpay]; · iexact Hpay
  iintro HO
  unfold afterSignals
  iapply (stage_run P c h2 Q _)
  isplitl [Hin]; · iexact Hin
  isplitl [Hst]; · iexact Hst
  iintro Hin Hst
  iapply (barrier_run P K c Q _)
  isplitr; · iexact HF
  isplitl [HO]; · iexact HO
  isplitl [Hcb]; · iexact Hcb
  isplitl [Hab]; · iexact Hab
  iintro HO Hab Hg0 Hg1
  ihave Hst := (Entails.of_eq ((st_split c (stAll P c)).trans (congrArg₂ (fun a b => iprop(a ∗ b)) (st_take c 0 (stAll P c)) (st_take c 1 (stAll P c))))) $$ Hst
  icases Hst with ⟨⟨Hso0, Hst0⟩, ⟨Hso1, Hst1⟩⟩
  iapply (afterBarrier_run P K h1 h2 h3 c Q)
  isplitr; · iexact HF
  isplitl [HO]; · iexact HO
  isplitl [Hin]; · iexact Hin
  isplitl [Hst0 Hst1]
  · isplitl [Hst0]; · iexact Hst0
    iexact Hst1
  isplitl [Hown0 Hown1]
  · isplitl [Hown0]; · iexact Hown0
    iexact Hown1
  isplitl [Hg0 Hg1]
  · isplitl [Hg0]; · iexact Hg0
    iexact Hg1
  isplitl [Ht]; · iexact Ht
  isplitl [Hc]; · iexact Hc
  isplitl [Hat]; · iexact Hat
  unfold done
  iintro HO Hin ⟨Ha0, Hst0, Hs0, Hown0, Ho0⟩ ⟨Ha1, Hst1, Hs1, Hown1, Ho1⟩
  ihave Hat := (ats_join c) $$ [Hidle Ha0 Ha1]
  · isplitl [Hidle]; · iexact Hidle
    isplitl [Ha0]; · iexact Ha0
    iexact Ha1
  imod (cells_end P K c) $$ [Hat] with Hz
  · isplitr; · iexact HF
    iexact Hat
  imod (bar_end P K c) $$ [Hab] with Hb
  · isplitr; · iexact HF
    iexact Hab
  imodintro
  iapply Hk $$ [HO Hb Hz] [Hin] [Hown0 Ho0 Hown1 Ho1] [Hso0 Hst0 Hso1 Hst1] [Hsl0 Hs0 Hsl1 Hs1]
  · unfold carryOut
    isplitl [HO]; · iexact HO
    isplitl [Hb]; · iexact Hb
    iexact Hz
  · iexact Hin
  · iapply (Entails.of_eq (out_split c (outAll P)).symm)
    isplitl [Hown0 Ho0]
    · iapply (rows_back c 0 (outAll P))
      isplitl [Hown0]; · iexact Hown0
      iexact Ho0
    · iapply (rows_back c 1 (outAll P))
      isplitl [Hown1]; · iexact Hown1
      iexact Ho1
  · iexists stAll P c
    iapply (Entails.of_eq ((st_split c (stAll P c)).trans (congrArg₂ (fun a b => iprop(a ∗ b)) (st_take c 0 (stAll P c)) (st_take c 1 (stAll P c)))).symm)
    isplitl [Hso0 Hst0]
    · isplitl [Hso0]; · iexact Hso0
      iexact Hst0
    · isplitl [Hso1]; · iexact Hso1
      iexact Hst1
  · iapply (sl_join c)
    isplitl [Hsl0 Hs0]
    · iapply (slots_back c 0 (cmAll P c))
      isplitl [Hsl0]; · iexact Hsl0
      iexact Hs0
    · iapply (slots_back c 1 (cmAll P c))
      isplitl [Hsl1]; · iexact Hsl1
      iexact Hs1

end Cert.KernelIdealProof

end
-- ==== Proof.Region.lean ====
/-
  The kernel's region of the host program: what the pipeline stages in, runs and writes back, around the body's run. Every
  device enters holding its partial product and the protocol's resources, and leaves with the sum of all.
-/
module

public import proofs.«01_k».proof.Proof.Whole
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit
public import Idealize.ShloMosaic.Lib.Tactic

@[expose] public section

noncomputable section

namespace Cert.KernelIdealProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

-- what each device's buffers hold when its region is entered
variable (V : Dev nD → Valuation τ sig (Elt F))

/-- The partial products on entry. -/
def parts (c : Dev nD) : S512x512.Idx → Elt F .f32 := V c (Proc.devRef .tc main_v52)

/-- The kernel's own counters. -/
abbrev osem (q : Fin 4 × Fin 16 × Fin 2) : SemLoc sig := .dma (dsem q.1 q.2.1 q.2.2)

/-- The kernel's own counters are distinct, and none is the pipeline's. -/
theorem osem_facts : Pipeline.OwnSemFacts spec0 osem where
  isScoped := by decide +kernel
  inj := fun k k' h => dsem_inj k k' (SemLoc.dma.inj h)
  disj := fun k w s h => by
    have h1 := SemLoc.dma.inj h
    have h2 : ∀ (w : Fin 2) (s : Fin (spec0 w).nbuf), ((spec0 w).sem s).val < 2 := by decide
    have h3 := h2 w s
    rw [← h1] at h3
    exact absurd h3 (Nat.not_lt.mpr (dsem_ge _ _ _))

/-- What a device carries into the body beside what it owes: tokens, credit and positions. -/
def hold (c : Dev nD) : sProp 𝕄 :=
  iprop((each fun i => dutyTok ER (bcell (c + i.succ)) 0 c) ∗ (toks c 0 ∗ toks c 1)
    ∗ cred (tallyAt (bcell c) () 15) ∗ (creds c 0 ∗ creds c 1)
    ∗ atPos ER (bcell c) 0 ∅ 0 ∗ bigSep Finset.univ fun q : Fin 4 × Fin 16 × Fin 2 => atPos ER (dcell c q.1 q.2.1 q.2.2) 0 ∅ 0)

/-- The same before the device's own cells are opened: in place of their positions, the rights to open them. -/
def Tk (c : Dev nD) : sProp 𝕄 :=
  iprop(∃ K, (invs (parts V) K ∗ bigSep Finset.univ fun t : Dev nD => reached ER (bcell t) 0)
    ∗ (each fun i => dutyTok ER (bcell (c + i.succ)) 0 c) ∗ (toks c 0 ∗ toks c 1)
    ∗ cred (tallyAt (bcell c) () 15) ∗ (creds c 0 ∗ creds c 1)
    ∗ atPos ER (bcell c) 0 ∅ 0 ∗ bigSep Finset.univ fun q : Fin 4 × Fin 16 × Fin 2 => openTok ER (dcell c q.1 q.2.1 q.2.2))
/-- What enters the body. -/
def Xk (c : Dev nD) : sProp 𝕄 := iprop(∃ K, facts (parts V) K c ∗ hold c)

/-- The two buffers no window stages, at contents not chosen. -/
def scratch (c : Dev nD) : sProp 𝕄 :=
  iprop((∃ f, stM.view.loc (c : Thread nD τ) ↦{fullShare} f) ∗ (∃ f, cmM.view.loc (c : Thread nD τ) ↦{fullShare} f))

/-- What is owed before and after the one grid point, -/
def owedAt (c : Dev nD) (t : ℕ) : CellTallies nD τ sig Unit := if t = 0 then O₀ c else 0
/-- and what is held. -/
def heldAt (c : Dev nD) (t : ℕ) : sProp 𝕄 := if t = 0 then iprop(Xk V c ∗ scratch c ∗ ∃ r, prngReg c r)
  else iprop(semVal (bcell c) 0 ∗ Pipeline.ownSems0 osem c ∗ scratch c ∗ ∃ r, prngReg c r)

/-- The region's proof data: the partial product staged in, the sum of all staged out. -/
def dat (c : Dev nD) : Dat τ (Elt F) Unit ℕ UU ℕ cfg0 c where
  A w := V c (Proc.devRef .tc (Pipeline.arrRef spec0 w))
  after w _ := match w with
    | ⟨0, _⟩ => parts V c
    | ⟨1, _⟩ => outAll (parts V)
  Φ t := heldAt V c t.val
  q _ := fullShare
  owed t := owedAt c t.val

/-- The proof data of the program's one region. -/
abbrev pdats : (p : Fin 1) → (c : Dev nD) → Dat τ (Elt F) Unit ℕ UU ℕ (cfgs p) c := fun _ c => dat V c

/-- On entry what is owed at launch is owed, -/
theorem owedAt_zero (c : Dev nD) : owedAt c 0 = O₀ c := if_pos rfl
/-- and on return nothing. -/
theorem owedAt_one (c : Dev nD) : owedAt c 1 = 0 := if_neg Nat.one_ne_zero
/-- What is held on entry, -/
theorem heldAt_zero (c : Dev nD) : heldAt V c 0 = iprop(Xk V c ∗ scratch c ∗ ∃ r, prngReg c r) := if_pos rfl
/-- and on return. -/
theorem heldAt_one (c : Dev nD) : heldAt V c 1
    = iprop(semVal (bcell c) 0 ∗ Pipeline.ownSems0 osem c ∗ scratch c ∗ ∃ r, prngReg c r) := if_neg Nat.one_ne_zero
/-- The grid has one point. -/
theorem last_val : (Fin.last cfg0.N).val = 1 := by decide +kernel
/-- The region starts owing what is owed at launch, -/
theorem owed_zero (c : Dev nD) : (dat V c).owed 0 = O₀ c := owedAt_zero c
/-- ends owing nothing, -/
theorem owed_last (c : Dev nD) : (dat V c).owed (Fin.last _) = 0 := by
  show owedAt c (Fin.last cfg0.N).val = 0; rw [last_val, owedAt_one]
/-- and ends holding what the body returns. -/
theorem inv_last (c : Dev nD) : (dat V c).Φ (Fin.last _)
    = iprop(semVal (bcell c) 0 ∗ Pipeline.ownSems0 osem c ∗ scratch c ∗ ∃ r, prngReg c r) := by
  show heldAt V c (Fin.last cfg0.N).val = _; rw [last_val, heldAt_one]

/-- What is owed, as the pipeline states it, -/
theorem owes_intro (c : Dev nD) (t : Fin (cfg0.N + 1)) (O : CellTallies nD τ sig Unit) (h : (dat V c).owed t = O) :
    (owesE c O : sProp 𝕄) ⊢ ((dat V c).owesAt () t : sProp 𝕄) := by
  unfold owesE Dat.owesAt Pipeline.owesWithin Dat.bound
  rw [h, show (dat V c).recorded t = Set.univ from rfl]
  iintro ⟨%W, HO⟩
  iexists W
  isplitr; · ipureintro; exact fun _ _ => Or.inl trivial
  iexact HO
/-- and back. -/
theorem owes_elim (c : Dev nD) (t : Fin (cfg0.N + 1)) (O : CellTallies nD τ sig Unit) (h : (dat V c).owed t = O) :
    ((dat V c).owesAt () t : sProp 𝕄) ⊢ owesE c O := by
  unfold owesE Dat.owesAt Pipeline.owesWithin
  rw [h]
  iintro ⟨%W, -, HO⟩
  iexists W
  iexact HO

/-! ## The windows: each is its whole array -/

/-- Both windows' blocks start at the origin. -/
theorem index_zero : ∀ t : Fin cfg0.N, win0_0.index t = ![0, 0] ∧ win0_1.index t = ![0, 0] :=
  (by decide +kernel : ∀ t : Fin grid0.N, _)

/-- The input's block is the whole partial product. -/
theorem read_in (c : Dev nD) : ((cfg0.win 0).blk t0_0).view.read (Elt F) (V c (Proc.devRef .tc main_v52)) = parts V c := by
  blk_ext! [parts, index_zero t0_0]

/-- What is staged in is the partial product. -/
theorem before_in (c : Dev nD) (d : (cfg0.win 0).block.Idx → Elt F (cfg0.win 0).elt) : (dat V c).before 0 t0_0 d = parts V c := by
  refine Eq.trans ?_ (read_in V c)
  unfold Dat.before; rw [if_pos (by decide)]; rfl

/-- The output array ends at the sum of all. -/
theorem final_out (c : Dev nD) : (dat V c).arrAt 1 cfg0.N = outAll (parts V) := by
  refine (dat V c).arrAt_eq_of_after_last 1 t0_0 (by decide +kernel) _ fun j => ?_
  blk_simp
  rfl

/-! ## The body, as the pipeline runs it -/

/-- From what the pipeline hands the body at its one point to what it takes back. -/
theorem body_oblig (c : Dev nD) : BodyObligation (dat V c) defs₀ 𝒱₀ () Set.univ := fun t => by
  obtain rfl := fin_N0 t
  rw [bigSep_W0, bigSep_W0]
  simp only [owns_whole_eq]
  rw [show (dat V c).Φ t0_0.castSucc = heldAt V c 0 from rfl, show (dat V c).Φ t0_0.succ = heldAt V c 1 from rfl,
    heldAt_zero, heldAt_one]
  unfold Xk hold scratch
  iintro ⟨⟨⟨%K, HF, HX⟩, ⟨Hst, Hcm⟩, Hp⟩, HO, ⟨%d0, %f0, %hf0, H0⟩, ⟨%d1, %f1, -, H1⟩⟩
  rw [before_in] at hf0
  subst hf0
  ihave HO := (owes_elim V c t0_0.castSucc (O₀ c) (owedAt_zero c)) $$ HO
  iapply (body_run (parts V) K c _ (Memref.isWhole_whole _) (Memref.isWhole_whole _) (Memref.isWhole_whole _))
  isplitl [HF]; · iexact HF
  isplitl [HO HX]
  · unfold carry
    isplitl [HO]; · iexact HO
    iexact HX
  isplitl [H0]; · iexact H0
  isplitl [H1]; · iexists f1; iexact H1
  isplitl [Hst]; · iexact Hst
  isplitl [Hcm]; · iexact Hcm
  unfold carryOut
  iintro ⟨HO, Hb, Hs⟩ H0 H1 Hst Hcm
  isplitl [Hb Hs Hst Hcm Hp]
  · isplitl [Hb]; · iexact Hb
    isplitl [Hs]; · unfold Pipeline.ownSems0; iexact Hs
    isplitl [Hst Hcm]; · isplitl [Hst] <;> iassumption
    iexact Hp
  isplitl [HO]; · iapply (owes_intro V c t0_0.succ 0 (owedAt_one c)); iexact HO
  isplitl [H0]
  · iexists _; isplitr; swap; (· iexact H0); ipureintro; rfl
  iexists _; isplitr; swap; (· iexact H1); ipureintro; rfl

/-! ## The region -/

/-- The launch's level facts are the protocol's. -/
theorem levs_of : (levAts L lv : sProp 𝕄) ⊢ levs := by unfold levs; exact BIBase.Entails.rfl

/-- Of a family over the devices, one device's member. -/
theorem device_part (c : Dev nD) {Φ : Dev nD → sProp 𝕄} : bigSep Finset.univ Φ ⊢ Φ c := bigSep_elim (Finset.mem_univ c)

/-- Of all the cells' invariants, those of device `c`'s own DMA cells. -/
theorem own_invs (P : Dev nD → S512x512.Idx → Elt F .f32) (K : GSem nD τ sig → ℕ) (c : Dev nD) :
    invs P K ⊢ bigSep Finset.univ fun q : Fin 4 × Fin 16 × Fin 2 => cellInv ER (talkRd P) (K (dcell c q.1 q.2.1 q.2.2)) (dcell c q.1 q.2.1 q.2.2) := by
  unfold invs
  iintro ⟨-, H⟩
  ihave H := (Entails.of_eq (bigSep_univ_prod (fun p : Dev nD × Fin 4 × Fin 16 × Fin 2 =>
    cellInv ER (talkRd P) (K (dcell p.1 p.2.1 p.2.2.1 p.2.2.2)) (dcell p.1 p.2.1 p.2.2.1 p.2.2.2)))) $$ H
  iapply (device_part c) $$ H

/-- On entry the device opens its own cells. -/
theorem opens (c : Dev nD) : iprop(Tk V c ∗ Pipeline.ownSems0 osem c ∗ levAts L lv) ⊢ (|={Set.univ}=> Xk V c : sProp 𝕄) := by
  unfold Tk Xk hold facts
  iintro ⟨⟨%K, ⟨#HI, #HR⟩, Htb, Ht, Hcb, Hc, Hab, Hop⟩, Hs, Hlev⟩
  ihave #Hlev := (levs_of (F := F)) $$ Hlev
  ihave #HI' := (own_invs (parts V) K c) $$ HI
  imod (Rounds.cells_open ER (talkRd (parts V)) Finset.univ (fun q : Fin 4 × Fin 16 × Fin 2 => dcell c q.1 q.2.1 q.2.2)
    (fun q => K (dcell c q.1 q.2.1 q.2.2)) (fun _ _ => Set.mem_univ _)) $$ [Hop Hs] with H
  · isplitl [Hop]
    · rw [bigSep_sep']
      isplitr; · iexact HI'
      iexact Hop
    unfold Pipeline.ownSems0; iexact Hs
  ihave H := (Entails.of_eq (bigSep_sep' (s := Finset.univ) (Φ := fun q : Fin 4 × Fin 16 × Fin 2 => (atPos ER (dcell c q.1 q.2.1 q.2.2) 0 ∅ 0 : sProp 𝕄))
    (Ψ := fun q : Fin 4 × Fin 16 × Fin 2 => (reached ER (dcell c q.1 q.2.1 q.2.2) 0 : sProp 𝕄)))) $$ H
  icases H with ⟨Hat, #Hr⟩
  imodintro
  iexists K
  isplitr
  · isplitr; · iexact HI
    isplitr; · iexact HR
    isplitr; · iexact Hr
    iexact Hlev
  isplitl [Htb]; · iexact Htb
  isplitl [Ht]; · iexact Ht
  isplitl [Hcb]; · iexact Hcb
  isplitl [Hc]; · iexact Hc
  isplitl [Hab]; · iexact Hab
  iexact Hat

/-- What the region is entered with is what the body needs. -/
theorem region_in (c : Dev nD) :
    iprop(Pipeline.scopedRest (Pipeline.pin (pcfgs (F := F)) adm 0).spec c ∗ (∃ r, prngReg c r) ∗ StableHlo.held (c.tc : Thread nD τ) ∅ (V c) ∗ Xk V c)
      ⊢ (dat V c).Φ 0 := by
  rw [show (dat V c).Φ 0 = heldAt V c 0 from rfl, heldAt_zero,
    show (Pipeline.scopedRest (Pipeline.pin (pcfgs (F := F)) adm 0).spec c : sProp 𝕄) = scratch c from scopedRest0_eq c]
  iintro ⟨Hs, Hp, -, HX⟩
  isplitl [HX]; · iexact HX
  isplitl [Hs] <;> iassumption

/-- What the buffers hold when the region is left: the output array at the sum of all, every other as it was. -/
def outV (c : Dev nD) : Valuation τ sig (Elt F) := Function.update (V c) (Proc.devRef .tc main_v53) (outAll (parts V))

/-- What the body returns is what the region is left with. -/
theorem region_out (c : Dev nD) : (dat V c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (outV V c)
      ∗ Pipeline.ownSems0 osem c ∗ semVal (bcell c) 0) := by
  rw [show (dat V c).Φ (Fin.last (Pipeline.pin (pcfgs (F := F)) adm 0).N) = _ from inv_last V c,
    show (Pipeline.scopedRest (Pipeline.pin (pcfgs (F := F)) adm 0).spec c : sProp 𝕄) = scratch c from scopedRest0_eq c]
  unfold StableHlo.held
  rw [bigSep_empty]
  iintro ⟨Hb, Hos, Hs, Hp⟩
  isplitl [Hs]; · iexact Hs
  isplitl [Hp]; · iexact Hp
  isplitr; · iempintro
  isplitl [Hos] <;> iassumption

/-- The facts of the launch of the one region. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- All that is owed at launch lies above the bottom level. -/
theorem above_O₀ (c : Dev nD) : Above 0 (O₀ c) :=
  above_owedL 0 _ _ (fun i => above_tally 0 (c + i.succ) (.reg barS) 1 Nat.one_pos) (fun g ι h => ⟨(above_O2 c g ι h).1, Nat.lt_of_lt_of_le Nat.one_pos (above_O2 c g ι h).2.le⟩) _

/-- What is owed in the region lies above the bottom level, on cells that have one. -/
theorem owed_cut (c : Dev nD) (t : ℕ) (g : GSem nD τ sig) (ι : Unit) (h : 0 < owedAt c t g ι) : ι ∈ L g ∧ 0 < lv g ι := by
  unfold owedAt at h
  split at h
  · obtain ⟨h1, h2⟩ := above_O₀ c g ι h
    exact ⟨by rw [L, if_pos h1]; exact Finset.mem_singleton_self _, h2⟩
  · exact absurd h (Nat.lt_irrefl 0)

/-- The other unscoped buffers, which ride along. -/
abbrev others : Finset (DevRef τ sig) := Pipeline.ucRefs τ sig \ Pipeline.arrRefs (τ := τ) spec0

/-- The output array is none of the buffers that ride along. -/
theorem out_arr : Proc.devRef (τ := τ) .tc main_v53 ∉ others := fun h =>
  (Finset.mem_sdiff.mp h).2 (Finset.mem_map_of_mem _ (Finset.mem_image.mpr ⟨1, Finset.mem_univ _, rfl⟩))
/-- The region changes no other buffer, -/
theorem outV_of (c : Dev nD) (b : DevRef τ sig) (h : b ≠ Proc.devRef .tc main_v53) : outV V c b = V c b := Function.update_of_ne h _ _
/-- and leaves the sum of all in the output array. -/
theorem outV_self (c : Dev nD) : outV V c (Proc.devRef .tc main_v53) = outAll (parts V) := Function.update_self _ _ _

/-- The staging cells are at the bottom. -/
theorem stage_level (c : Dev nD) (w : Fin 2) (s : Fin (spec0 w).nbuf) : lv ((c : Thread nD τ), .dma ((spec0 w).sem s)) () ≤ 0 := by
  have h : ((spec0 w).sem s).val < 2 := by revert w s; decide
  dsimp only [lv]
  rw [if_pos h]

set_option backward.isDefEq.respectTransparency.types false in
/-- The region. -/
def region : Pipeline.RegionSeg (pcfgs (F := F)) adm (pdats V) () defs₀ 𝒱₀ L lv 0 :=
  Pipeline.RegionSeg.ofTalk (pcfgs (F := F)) adm (pdats V) () defs₀ 𝒱₀ L lv 0 osem osem_facts
    ∅ others (Finset.empty_subset _) kit rfl (fun c => (body_oblig V c).loose)
    (fun _ => 0) O₀ (fun c => (owed_zero V c).trans (zero_add _).symm) (owed_last V) (fun _ => rfl)
    (fun c => (dat V c).share_full fun _ => rfl)
    V (outV V) (fun c b hb => outV_of V c b fun h => out_arr (h ▸ (Finset.mem_sdiff.mp hb).1))
    (Tk V) (fun c => semVal (bcell c) 0) (Xk V) (fun c => semVal (bcell c) 0) (opens V) (region_in V) (region_out V)
    (fun c => by iintro H; imodintro; iexact H)
    (fun _ => 0)
    ⟨fun c w s => by rw [L_tc]; exact Finset.mem_singleton_self _,
      fun c w s => stage_level c w s,
      fun c t g ι h => owed_cut c t.val g ι h⟩
    (fun _ => iprop(emp))
    (fun c w => rfl)
    (fun c w => by
      fin_cases w
      · exact ((dat V c).arrAt_in 0 rfl _).trans (outV_of V c _ (by decide)).symm
      · exact (final_out V c).trans (outV_self V c).symm)

/-- The region's arrays are buffers of the host program. -/
theorem arr_sub : Pipeline.arrRefs (τ := τ) spec0 ⊆ Pipeline.ucRefs τ sig := Pipeline.arrRefs_sub_ucRefs spec0 (by decide)

/-- Entered from the unscoped buffers, the protocol's resources, the generator register and what is owed; -/
theorem region_pre (c : Dev nD) :
    iprop(StableHlo.held (c : Thread nD τ) (Pipeline.ucRefs τ sig) (V c) ∗ Tk V c ∗ (∃ r, prngReg c r) ∗ owesE c (O₀ c)) ⊢ (region V).pre c := by
  show _ ⊢ iprop(StableHlo.held (c.tc : Thread nD τ) (Pipeline.arrRefs (τ := τ) spec0) (V c) ∗ (∃ r, prngReg c r)
    ∗ (StableHlo.held (c.tc : Thread nD τ) others (V c) ∗ emp) ∗ Tk V c ∗ ∃ Wd, owes (c : Thread nD τ) (0 + O₀ c) Wd)
  rw [zero_add, StableHlo.held_sub_split (c.tc : Thread nD τ) arr_sub (V c)]
  unfold owesE
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO
/-- left with them, the barrier's counter at zero and nothing owed. -/
theorem region_post (c : Dev nD) : (region V).post c
    ⊢ iprop(StableHlo.held (c : Thread nD τ) (Pipeline.ucRefs τ sig) (outV V c) ∗ semVal (bcell c) 0 ∗ owesE c 0) := by
  show iprop(StableHlo.held (c.tc : Thread nD τ) (Pipeline.arrRefs (τ := τ) spec0) (outV V c) ∗ (∃ r, prngReg c r)
    ∗ (StableHlo.held (c.tc : Thread nD τ) others (outV V c) ∗ emp) ∗ semVal (bcell c) 0 ∗ ∃ Wd, owes (c : Thread nD τ) 0 Wd) ⊢ _
  rw [StableHlo.held_sub_split (c.tc : Thread nD τ) arr_sub (outV V c)]
  unfold owesE
  iintro ⟨Ha, -, ⟨Hr, -⟩, Hb, HO⟩
  isplitl [Ha Hr]; · isplitl [Ha] <;> iassumption
  isplitl [Hb] <;> iassumption

end Cert.KernelIdealProof

end
-- ==== Proof.Deal.lean ====
/-
  What the launch makes and deals: the cells of every device, the tokens of the duties each device pays, and the credit for
  what each waits for.
-/
module

public import proofs.«01_k».proof.Proof.Region

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens -/

/-- DMA cells differ when the device, the kind, the distance or the half does. -/
theorem dcell_inj {c d : Dev nD} {a b : Fin 4} {i j : Fin 16} {s t : Fin 2} (h : dcell c a i s = dcell d b j t) : c = d ∧ a = b ∧ i = j ∧ s = t := by
  have h1 : c = d := congrArg (fun g : GSem nD τ sig => g.1.1) h
  have h2 := dsem_inj (a, i, s) (b, j, t) (SemLoc.dma.inj (congrArg Prod.snd h))
  exact ⟨h1, congrArg Prod.fst h2, congrArg (fun q => q.2.1) h2, congrArg (fun q => q.2.2) h2⟩
/-- The barrier cells of two devices differ. -/
theorem bcell_inj {c d : Dev nD} (h : bcell c = bcell d) : c = d := congrArg (fun g : GSem nD τ sig => g.1.1) h
/-- A barrier cell is no DMA cell. -/
theorem bcell_ne (c d : Dev nD) (n : DmaSem sig) : bcell c ≠ ((d : Thread nD τ), .dma n) := fun h => by
  have := congrArg Prod.snd h
  cases this

/-- The barrier cells, one for each device. -/
def barEmb : Dev nD ↪ GSem nD τ sig := ⟨fun c => bcell c, fun _ _ h => bcell_inj h⟩
/-- The DMA cells, one for each device, kind, distance and half. -/
def ownEmb : Dev nD × Fin 4 × Fin 16 × Fin 2 ↪ GSem nD τ sig :=
  ⟨fun p => dcell p.1 p.2.1 p.2.2.1 p.2.2.2, fun p q h => by
    obtain ⟨h1, h2, h3, h4⟩ := dcell_inj h
    exact Prod.ext h1 (Prod.ext h2 (Prod.ext h3 h4))⟩

/-- The barrier cells, live from the launch; the kernels' own, dormant until their region is entered. -/
def barCells : Finset (GSem nD τ sig) := Finset.univ.map barEmb
/-- The DMA cells of all devices. -/
def ownCells : Finset (GSem nD τ sig) := Finset.univ.map ownEmb

/-- No cell is both a barrier's and a kernel's own. -/
theorem cells_disjoint : Disjoint barCells ownCells := by
  rw [Finset.disjoint_left]
  rintro g h₁ h₂
  obtain ⟨c, -, rfl⟩ := Finset.mem_map.mp h₁
  obtain ⟨p, -, h⟩ := Finset.mem_map.mp h₂
  exact bcell_ne c p.1 _ h.symm

/-- The device whose cell of kind `a` device `c` pays at a distance: its own for a departure, the other's for an arrival. -/
def payTo (c : Dev nD) (a : Fin 4) (i : Fin 15) : Dev nD := match a with
  | 0 => c
  | 1 => c + i.succ
  | 2 => c
  | 3 => c + i.succ

/-- Of one kind and distance, two devices pay two cells. -/
theorem payTo_inj (a : Fin 4) (i : Fin 15) (c d : Dev nD) (h : payTo c a i = payTo d a i) : c = d := by
  match a, h with
  | 0, h => exact h
  | 1, h => exact add_right_cancel h
  | 2, h => exact h
  | 3, h => exact add_right_cancel h

/-- From one device, two distances lead to two devices. -/
theorem next_inj (c : Dev nD) (i j : Fin 15) (h : c + i.succ = c + j.succ) : i = j := Fin.succ_injective _ (add_left_cancel h)

/-- Each token, named by the device that pays with it. -/
def barTok : Dev nD × Fin 15 ↪ GSem nD τ sig × ℕ × Fin 16 :=
  ⟨fun p => (bcell (p.1 + p.2.succ), 0, p.1), fun p q h => by
    have h1 : p.1 = q.1 := congrArg (fun x => x.2.2) h
    have h2 := bcell_inj (congrArg Prod.fst h)
    rw [h1] at h2
    exact Prod.ext h1 (next_inj _ _ _ h2)⟩
/-- The tokens of the copies, named by the paying device, the kind, the distance and the half. -/
def ownTok : Dev nD × Fin 4 × Fin 15 × Fin 2 ↪ GSem nD τ sig × ℕ × Fin 16 :=
  ⟨fun p => (dcell (payTo p.1 p.2.1 p.2.2.1) p.2.1 p.2.2.1.succ p.2.2.2, 0, 0), fun p q h => by
    obtain ⟨c, a, i, s⟩ := p
    obtain ⟨d, b, j, t⟩ := q
    obtain ⟨h1, rfl, h3, rfl⟩ := dcell_inj (congrArg Prod.fst h)
    obtain rfl := Fin.succ_injective _ h3
    obtain rfl := payTo_inj _ _ _ _ h1
    rfl⟩
/-- All the tokens of the barriers, -/
def barToks : Finset (GSem nD τ sig × ℕ × Fin 16) := Finset.univ.map barTok
/-- and all those of the copies. -/
def ownToks : Finset (GSem nD τ sig × ℕ × Fin 16) := Finset.univ.map ownTok

/-- No token is both a barrier's and a copy's. -/
theorem toks_disjoint : Disjoint barToks ownToks := by
  rw [Finset.disjoint_left]
  rintro g h₁ h₂
  obtain ⟨p, -, rfl⟩ := Finset.mem_map.mp h₁
  obtain ⟨q, -, h⟩ := Finset.mem_map.mp h₂
  exact bcell_ne _ _ _ (congrArg Prod.fst h).symm

/-- Four pairs, regrouped as two fours. -/
theorem halves (A B C D A' B' C' D' : sProp 𝕄) :
    iprop((A ∗ A') ∗ (B ∗ B') ∗ (C ∗ C') ∗ (D ∗ D')) ⊢ iprop((A ∗ B ∗ C ∗ D) ∗ (A' ∗ B' ∗ C' ∗ D')) := by
  iintro ⟨⟨HA, HA'⟩, ⟨HB, HB'⟩, ⟨HC, HC'⟩, HD, HD'⟩
  isplitl [HA HB HC HD]
  · isplitl [HA]; · iexact HA
    isplitl [HB]; · iexact HB
    isplitl [HC] <;> iassumption
  isplitl [HA']; · iexact HA'
  isplitl [HB']; · iexact HB'
  isplitl [HC'] <;> iassumption

/-- A device's tokens for its copies, sorted by half. -/
theorem toks_halves (c : Dev nD) : (bigSep Finset.univ fun p : Fin 4 × Fin 15 × Fin 2 =>
      (dutyTok ER (dcell (payTo c p.1 p.2.1) p.1 p.2.1.succ p.2.2) 0 0 : sProp 𝕄)) ⊢ iprop(toks c 0 ∗ toks c 1) := by
  refine BIBase.Entails.trans (Entails.of_eq ?_) (halves (each fun i => dutyTok ER (dcell c 0 i.succ 0) 0 0)
    (each fun i => dutyTok ER (dcell (c + i.succ) 1 i.succ 0) 0 0) (each fun i => dutyTok ER (dcell c 2 i.succ 0) 0 0)
    (each fun i => dutyTok ER (dcell (c + i.succ) 3 i.succ 0) 0 0) (each fun i => dutyTok ER (dcell c 0 i.succ 1) 0 0)
    (each fun i => dutyTok ER (dcell (c + i.succ) 1 i.succ 1) 0 0) (each fun i => dutyTok ER (dcell c 2 i.succ 1) 0 0)
    (each fun i => dutyTok ER (dcell (c + i.succ) 3 i.succ 1) 0 0))
  rw [bigSep_univ_prod, four]
  simp only [bigSep_univ_prod, bigSep_fin_two, payTo]
  exact congrArg₂ BI.sep (each_sep _ _) (congrArg₂ BI.sep (each_sep _ _) (congrArg₂ BI.sep (each_sep _ _) (each_sep _ _)))

/-- A family over a finite type may be weakened member by member. -/
theorem map_entails {I : Type} [Fintype I] {Φ Ψ : I → sProp 𝕄} (h : ∀ i, Φ i ⊢ Ψ i) : bigSep Finset.univ Φ ⊢ bigSep Finset.univ Ψ :=
  BI.bigSep_mono fun i _ => h i

/-- All the tokens, dealt to the devices that pay with them. -/
theorem toks_deal : bigSep (barToks ∪ ownToks) (fun x => (dutyTok ER x.1 x.2.1 x.2.2 : sProp 𝕄))
    ⊢ bigSep Finset.univ fun c : Dev nD => iprop((each fun i => dutyTok ER (bcell (c + i.succ)) 0 c) ∗ (toks c 0 ∗ toks c 1)) := by
  rw [BI.bigSep_union toks_disjoint, bigSep_sep']
  unfold barToks ownToks
  rw [BI.bigSep_map, BI.bigSep_map, bigSep_univ_prod, bigSep_univ_prod]
  exact sep_mono BIBase.Entails.rfl (map_entails fun c => toks_halves c)

/-! ## The credit -/

/-- What a device owes a cell, phase by phase. -/
theorem owedL_apply (f : Fin 15 → CellTallies nD τ sig Unit) (base : CellTallies nD τ sig Unit) (g : GSem nD τ sig) :
    ∀ l : List (Fin 15), owedL f l base g () = (l.map fun i => f i g ()).sum + base g ()
  | [] => (Nat.zero_add _).symm
  | i :: l => by
    show owedL f l base g () + f i g () = _
    rw [owedL_apply f base g l, List.map_cons, List.sum_cons]; omega

/-- Summing in the order of the waits is summing over all distances; -/
theorem sum_recv (h : Fin 15 → ℕ) : (recvOrder.map h).sum = ∑ i, h i := by
  rw [show (Finset.univ : Finset (Fin 15)) = recvOrder.toFinset by decide, List.sum_toFinset _ (by decide)]
/-- so is summing in the order of the sends. -/
theorem sum_send (h : Fin 15 → ℕ) : (sendOrder.map h).sum = ∑ i, h i := by
  rw [show (Finset.univ : Finset (Fin 15)) = sendOrder.toFinset by decide, List.sum_toFinset _ (by decide)]

/-- What a device owes one cell at launch: its barrier units and the two halves of its scatter and its gather. -/
theorem O₀_apply (d : Dev nD) (g : GSem nD τ sig) : O₀ d g () = (∑ i, barOw d i g ())
    + ((∑ i, arrOw 1 0 d i g ()) + ((∑ i, arrOw 1 1 d i g ()) + ((∑ i, arrOw 3 0 d i g ()) + ∑ i, arrOw 3 1 d i g ()))) := by
  unfold O₀ O2 O3 O4 O5
  rw [owedL_apply, owedL_apply, owedL_apply, owedL_apply, owedL_apply, sum_recv, sum_send, sum_send, sum_send, sum_send,
    show (0 : CellTallies nD τ sig Unit) g () = 0 from rfl, Nat.add_zero]

/-- For each distance, one device pays. -/
theorem sum_around (c : Dev nD) (i : Fin 15) (n : ℕ) : (∑ d : Dev nD, if c = d + i.succ then n else 0) = n := by
  rw [Finset.sum_congr rfl fun d _ => if_congr (show c = d + i.succ ↔ d = c - i.succ from ⟨fun h => by rw [h, add_sub_cancel_right], fun h => by rw [h, sub_add_cancel]⟩) rfl rfl,
    Finset.sum_ite_eq', if_pos (Finset.mem_univ _)]

/-- A device's barrier unit for distance `i + 1` is owed to the device there, -/
theorem barOw_bar (c d : Dev nD) (i : Fin 15) : barOw d i (bcell c) () = if c = d + i.succ then 1 else 0 := by
  rw [tallyAt_apply]
  exact if_congr ⟨fun h => bcell_inj h.1, fun h => ⟨h ▸ rfl, rfl⟩⟩ rfl rfl
/-- and no copy is owed to a barrier; -/
theorem arrOw_bar (a : Fin 4) (s : Fin 2) (c d : Dev nD) (i : Fin 15) : arrOw a s d i (bcell c) () = 0 := by
  rw [tallyAt_apply, if_neg fun h => bcell_ne _ _ _ h.1]
/-- no barrier unit is owed to a DMA cell, -/
theorem barOw_own (c d : Dev nD) (n : DmaSem sig) (i : Fin 15) : barOw d i ((c : Thread nD τ), .dma n) () = 0 := by
  rw [tallyAt_apply, if_neg fun h => bcell_ne _ _ _ h.1.symm]
/-- and a copy is owed to the cell of its kind, distance and half on the device at that distance, and to no other. -/
theorem arrOw_own (a b : Fin 4) (s t : Fin 2) (c d : Dev nD) (i j : Fin 15) : arrOw a s d i (dcell c b j.succ t) ()
    = if j = i then (if c = d + i.succ then (if b = a ∧ t = s then N else 0) else 0) else 0 := by
  rw [tallyAt_apply]
  by_cases h1 : j = i
  · subst h1
    by_cases h2 : c = d + j.succ
    · by_cases h3 : b = a ∧ t = s
      · obtain ⟨rfl, rfl⟩ := h3; rw [if_pos ⟨h2 ▸ rfl, rfl⟩, if_pos rfl, if_pos h2, if_pos ⟨rfl, rfl⟩]
      · rw [if_pos rfl, if_pos h2, if_neg h3, if_neg fun h => h3 ⟨(dcell_inj h.1).2.1, (dcell_inj h.1).2.2.2⟩]
    · rw [if_pos rfl, if_neg h2, if_neg fun h => h2 (dcell_inj h.1).1]
  · rw [if_neg h1, if_neg fun h => h1 (Fin.succ_injective _ (dcell_inj h.1).2.2.1)]

/-- A barrier is owed its fifteen units; -/
theorem due_bar (c : Dev nD) : ∑ d : Dev nD, O₀ d (bcell c) () = 15 := by
  simp only [O₀_apply, barOw_bar, arrOw_bar, Finset.sum_const_zero, Nat.add_zero]
  rw [Finset.sum_comm, Finset.sum_congr rfl fun i _ => sum_around c i 1]
  rfl

/-- All devices together owe an arrival cell one copy of its kind and half, -/
theorem due_arr (a b : Fin 4) (s t : Fin 2) (c : Dev nD) (j : Fin 15) :
    ∑ d : Dev nD, ∑ i, arrOw a s d i (dcell c b j.succ t) () = if b = a ∧ t = s then N else 0 := by
  rw [Finset.sum_comm]
  simp only [arrOw_own]
  rw [Fintype.sum_eq_single j fun i hi => Finset.sum_eq_zero fun d _ => if_neg fun h => hi h.symm]
  simp only [if_true]
  exact sum_around c j _

/-- and an arrival cell one copy. -/
theorem due_own (a : Fin 2) (t : Fin 2) (c : Dev nD) (j : Fin 15) :
    ∑ d : Dev nD, O₀ d (dcell c (![1, 3] a) j.succ t) () = N := by
  simp only [O₀_apply, barOw_own, Finset.sum_const_zero, Nat.zero_add, Finset.sum_add_distrib, due_arr]
  have h : ∀ a t : Fin 2, ((![1, 3] a : Fin 4) = 1 ∧ t = 0 ∨ (![1, 3] a : Fin 4) = 1 ∧ t = 1 ∨ (![1, 3] a : Fin 4) = 3 ∧ t = 0 ∨ (![1, 3] a : Fin 4) = 3 ∧ t = 1) := by decide
  rcases h a t with ⟨h1, rfl⟩ | ⟨h1, rfl⟩ | ⟨h1, rfl⟩ | ⟨h1, rfl⟩ <;> rw [h1] <;> simp

/-- The credit that a cell starts with is what all the devices together owe it. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- The arrival semaphores, by scatter or gather, distance and half. -/
def arrEmb : Fin 2 × Fin 15 × Fin 2 ↪ SemLoc sig :=
  ⟨fun p => .dma (dsem (![1, 3] p.1) p.2.1.succ p.2.2), fun p q h => by
    have h1 := dsem_inj (_, _, _) (_, _, _) (SemLoc.dma.inj h)
    have h2 : (![1, 3] p.1 : Fin 4) = ![1, 3] q.1 := congrArg Prod.fst h1
    have h3 : p.2.1.succ = q.2.1.succ := congrArg (fun x => x.2.1) h1
    have h4 : p.2.2 = q.2.2 := congrArg (fun x => x.2.2) h1
    have h5 : ∀ a b : Fin 2, (![1, 3] a : Fin 4) = ![1, 3] b → a = b := by decide
    exact Prod.ext (h5 _ _ h2) (Prod.ext (Fin.succ_injective _ h3) h4)⟩

/-- The credit each device starts with. -/
theorem credit (c : Dev nD) : (Pipeline.launchCred O₀ c : sProp 𝕄) ⊢ iprop(cred (tallyAt (bcell c) () 15) ∗ (creds c 0 ∗ creds c 1)) := by
  unfold Pipeline.launchCred
  rw [bigSep_univ_at _ (SemLoc.reg barS), launch_at (bcell c) 15 (due_bar c)]
  refine sep_mono BIBase.Entails.rfl (BIBase.Entails.trans (BI.bigSep_subset (t := Finset.univ.map arrEmb) fun sm h => ?_) ?_)
  · obtain ⟨p, -, rfl⟩ := Finset.mem_map.mp h
    exact Finset.mem_erase.mpr ⟨(fun h => by cases h), Finset.mem_univ _⟩
  · rw [BI.bigSep_map]
    refine BIBase.Entails.trans (Entails.of_eq (BI.bigSep_congr (s := Finset.univ) (Ψ := fun p : Fin 2 × Fin 15 × Fin 2 => (cred (tallyAt (dcell c (![1, 3] p.1) p.2.1.succ p.2.2) () N) : sProp 𝕄))
      fun p _ => congrArg cred (launch_at (dcell c (![1, 3] p.1) p.2.1.succ p.2.2) N (due_own p.1 p.2.2 c p.2.1)))) ?_
    simp only [bigSep_univ_prod, bigSep_fin_two]
    unfold creds
    show iprop((each fun i => iprop(cred (tallyAt (dcell c 1 i.succ 0) () N) ∗ cred (tallyAt (dcell c 1 i.succ 1) () N)))
      ∗ each fun i => iprop(cred (tallyAt (dcell c 3 i.succ 0) () N) ∗ cred (tallyAt (dcell c 3 i.succ 1) () N))) ⊢ _
    rw [each_sep, each_sep]
    iintro ⟨⟨H10, H11⟩, H30, H31⟩
    isplitl [H10 H30]
    · isplitl [H10] <;> iassumption
    isplitl [H11] <;> iassumption

end Cert.KernelIdealProof

end
-- ==== Proof.Main.lean ====
/-
  The whole program, run on all the devices: the launch, the host's work before and after, and the region between.
-/
module

public import proofs.«01_k».proof.Proof.Deal
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)

variable {F : FTy → Type} [FloatOps F]

local notation "𝕄" => MT nD τ sig Unit (Elt F) ℕ UU ℕ

variable (m : (ℓ : Loc nD τ sig) → Buf (Elt F) ℓ) (ρ : Dev nD → PrngReg)

/-- The partial products: what the host's work leaves for the kernel. -/
abbrev partials : Dev nD → S512x512.Idx → Elt F .f32 := parts (V3 m)

/-! ## The ghost state at the launch -/

/-- The launch element: the pipeline library's and the protocol's. -/
def u₀ : UU :=
  (initOf (Pipeline.cells (Pipeline.pin (pcfgs (F := F)) adm) cellOf_inj) (Pipeline.launchToks (Pipeline.pin (pcfgs (F := F)) adm) cellOf_inj),
    launchOf barCells ownCells (barToks ∪ ownToks))

/-- A resource that device 0 holds for all. -/
def onFirst (X : sProp 𝕄) (c : Dev nD) : sProp 𝕄 := if c = 0 then X else iprop(emp)
/-- What device 0 holds for all is held once. -/
theorem bigSep_onFirst (X : sProp 𝕄) : bigSep Finset.univ (onFirst X) = X := by
  rw [bigSep_univ_at _ (0 : Dev nD), BI.bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp
/-- The protocol's launch element, held by device 0 until it is dealt out. -/
def G : Dev nD → sProp 𝕄 := onFirst (BI.own (ER (launchOf barCells ownCells (barToks ∪ ownToks))))
/-- All the devices together hold the protocol's launch element. -/
theorem G_own : bigSep Finset.univ G ⊢ (BI.own (ER (launchOf barCells ownCells (barToks ∪ ownToks))) : sProp 𝕄) :=
  Entails.of_eq (bigSep_onFirst _)

/-- What every device may consult: the invariants under one map of names, and that each barrier is in its round. -/
def records (P : Dev nD → S512x512.Idx → Elt F .f32) (κ : GSem nD τ sig → ℕ) : sProp 𝕄 :=
  iprop(invs P κ ∗ bigSep Finset.univ fun t : Dev nD => reached ER (bcell t) 0)
/-- The records may be copied. -/
instance records_persistent (P : Dev nD → S512x512.Idx → Elt F .f32) (κ : GSem nD τ sig → ℕ) : BI.Persistent (records P κ) := by
  unfold records; infer_instance

/-- The invariants of the two sets of cells, and the barriers' rounds, are the records. -/
theorem records_intro (P : Dev nD → S512x512.Idx → Elt F .f32) (κ : GSem nD τ sig → ℕ) :
    iprop((bigSep (barCells ∪ ownCells) fun g => cellInv ER (talkRd P) (κ g) g) ∗ bigSep barCells fun g => reached ER g 0) ⊢ records P κ := by
  unfold records invs
  rw [BI.bigSep_union cells_disjoint]
  unfold barCells ownCells
  rw [BI.bigSep_map, BI.bigSep_map, BI.bigSep_map]
  exact BIBase.Entails.rfl

/-- The one counter of a device outside the kernel's own is its barrier's. -/
theorem unscoped_eq (c : Dev nD) : (unscopedSems0 c : sProp 𝕄) = semVal (bcell c) 0 := by
  unfold unscopedSems0
  rw [show (Finset.univ.filter fun sm : SemLoc sig => ¬ sm.isScoped .tc) = {SemLoc.reg barS} from by decide +kernel, BI.bigSep_singleton]

/-- Two families over the devices are one family of pairs. -/
theorem both_join {Φ Ψ : Dev nD → sProp 𝕄} :
    iprop(bigSep Finset.univ Φ ∗ bigSep Finset.univ Ψ) ⊢ bigSep Finset.univ fun c => iprop(Φ c ∗ Ψ c) := Entails.of_eq (bigSep_sep' _ _ _).symm
/-- A family of pairs over the devices is two families. -/
theorem both_apart {Φ Ψ : Dev nD → sProp 𝕄} :
    (bigSep Finset.univ fun c => iprop(Φ c ∗ Ψ c)) ⊢ iprop(bigSep Finset.univ Φ ∗ bigSep Finset.univ Ψ) := Entails.of_eq (bigSep_sep' _ _ _)

/-! ## The states between the segments -/

/-- Before the region: the protocol's resources, the generator register, what is owed; after it: the barrier's counter, nothing owed. -/
def rest : Fin 2 → Dev nD → sProp 𝕄
  | 0 => fun c => iprop(Tk (V3 m) c ∗ (∃ r, prngReg c r) ∗ owesE c (O₀ c))
  | 1 => fun c => iprop(semVal (bcell c) 0 ∗ owesE c 0)

/-- What the region leaves in the output array. -/
def outs : Outs (F := F) := fun _ r c => outV (V3 m) c (Proc.devRef .tc r)

/-- After the region the buffers hold what the region's exit says. -/
theorem V4_eq (c : Dev nD) : V4 m (outs m) c = outV (V3 m) c := by
  show Function.update (V3 m c) _ (outV (V3 m) c (Proc.devRef .tc main_v53)) = _
  rw [outV_self]; rfl

/-- The segments of the host program on one device. -/
abbrev items (c : Dev nD) : List (Seg (pcfgs (F := F)) adm (pdats (V3 m)) () defs₀ 𝒱₀ L lv) :=
  segs m (outs m) 𝒱₀ L lv (rest m) () (pdats (V3 m)) (region (V3 m)) c

/-- The host program is its segments, one after another. -/
theorem main_wp (c : Dev nD) : main (F := F) c = Seg.run (items m c) := by
  rewrite [main_chain c, Seg.run_eq_chain,
    show (items m c).map Seg.prog = [
      StableHlo.seq (hostOps0 c),
      StableHlo.seq hostOps0_1,
      StableHlo.seq hostOps0_2,
      Prog.lift (.customCall (Pipeline.entry 0) ()),
      StableHlo.seq hostOps1 ] from rfl]
  rfl

/-- What a device holds when its program starts, -/
abbrev T₀ (c : Dev nD) : sProp 𝕄 := iprop(StableHlo.held (c : Thread nD τ) (Pipeline.ucRefs τ sig) (V0 m c) ∗ rest m 0 c)
/-- and when it has ended. -/
abbrev Tₙ (c : Dev nD) : sProp 𝕄 := iprop(StableHlo.held (c : Thread nD τ) (Pipeline.ucRefs τ sig) (V5 m (outs m) c) ∗ semVal (bcell c) 0)

/-- What of a device's launch holdings is its own from the start, -/
def bundle (c : Dev nD) : sProp 𝕄 :=
  iprop(StableHlo.held (c : Thread nD τ) (Pipeline.ucRefs τ sig) (V0 m c) ∗ (cred (tallyAt (bcell c) () 15) ∗ (creds c 0 ∗ creds c 1))
    ∗ owes (c : Thread nD τ) (O₀ c) ∅ ∗ ∃ r, prngReg c r)
/-- and what is dealt to it. -/
def share (c : Dev nD) : sProp 𝕄 :=
  iprop(atPos ER (bcell c) 0 ∅ 0 ∗ (bigSep Finset.univ fun q : Fin 4 × Fin 16 × Fin 2 => openTok ER (dcell c q.1 q.2.1 q.2.2))
    ∗ ((each fun i => dutyTok ER (bcell (c + i.succ)) 0 c) ∗ (toks c 0 ∗ toks c 1)))

/-- The records, a device's share and its bundle are what it holds at the start. -/
theorem start_intro (κ : GSem nD τ sig → ℕ) (c : Dev nD) : iprop(records (partials m) κ ∗ (share c ∗ bundle m c)) ⊢ T₀ m c := by
  unfold bundle T₀ rest share records Tk owesE
  dsimp only
  iintro ⟨⟨#HI, #HR⟩, ⟨Hab, Hop, Htb, Ht⟩, Hh, ⟨Hcb, Hc⟩, HO, Hp⟩
  isplitl [Hh]; · iexact Hh
  isplitl [Hab Hop Htb Ht Hcb Hc]
  · iexists κ
    isplitr
    · isplitr; · iexact HI
      iexact HR
    isplitl [Htb]; · iexact Htb
    isplitl [Ht]; · iexact Ht
    isplitl [Hcb]; · iexact Hcb
    isplitl [Hc]; · iexact Hc
    isplitl [Hab] <;> iassumption
  isplitl [Hp]; · iexact Hp
  iexists ∅; iexact HO

/-- What the launch gives a device, sorted: its bundle, and the barrier's counter and the ghost element for dealing. -/
theorem sort_out (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (bcell c) 0 ∗ G c)) : sProp 𝕄) := by
  rw [Pipeline.unscopedBufs_held (Ix := Unit) (Name := ℕ) (U := UU) (Lvl := ℕ) c (V0 m c), unscoped_eq]
  unfold bundle
  iintro ⟨Hh, Hus, HO, Hcr, Hp, HG⟩
  ihave Hc := (credit (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- The devices' barrier counters are those of the barrier cells. -/
theorem counters_deal : bigSep Finset.univ (fun c : Dev nD => (semVal (bcell c) 0 : sProp 𝕄)) ⊢ bigSep barCells (fun g => (semVal g 0 : sProp 𝕄)) :=
  Entails.of_eq (BI.bigSep_map (s := Finset.univ) barEmb (Φ := fun g : GSem nD τ sig => (semVal g 0 : sProp 𝕄))).symm
/-- The barrier cells' starting places are dealt one to each device. -/
theorem places_deal : bigSep barCells (fun g => (atPos ER g 0 ∅ 0 : sProp 𝕄)) ⊢ bigSep Finset.univ (fun c : Dev nD => (atPos ER (bcell c) 0 ∅ 0 : sProp 𝕄)) :=
  Entails.of_eq (BI.bigSep_map (s := Finset.univ) barEmb (Φ := fun g : GSem nD τ sig => (atPos ER g 0 ∅ 0 : sProp 𝕄)))
/-- The rights to open the kernels' own cells are dealt to the devices that own them. -/
theorem opens_deal : bigSep ownCells (fun g => (openTok ER g : sProp 𝕄))
    ⊢ bigSep Finset.univ (fun c : Dev nD => bigSep Finset.univ fun q : Fin 4 × Fin 16 × Fin 2 => openTok ER (dcell c q.1 q.2.1 q.2.2)) := by
  unfold ownCells
  rw [BI.bigSep_map, bigSep_univ_prod]
  exact BIBase.Entails.rfl

/-- The library's launch of the protocol, at any sets of cells and tokens. -/
theorem fund (P : Dev nD → S512x512.Idx → Elt F .f32) (S Sd : Finset (GSem nD τ sig)) (T : Finset (GSem nD τ sig × ℕ × Fin 16)) (hd : Disjoint S Sd) :
    iprop((bigSep S fun g => (semVal g 0 : sProp 𝕄)) ∗ BI.own (ER (launchOf S Sd T)))
      ⊢ (|={Set.univ}=> ∃ κ : GSem nD τ sig → ℕ,
          ((bigSep (S ∪ Sd) fun g => cellInv ER (talkRd P) (κ g) g) ∗ bigSep S fun g => reached ER g 0)
            ∗ (bigSep S fun g => atPos ER g 0 ∅ 0) ∗ (bigSep Sd fun g => openTok ER g) ∗ bigSep T fun x => dutyTok ER x.1 x.2.1 x.2.2 : sProp 𝕄) := by
  iintro H
  imod (Rounds.fund_launch ER (talkRd P) hd (fun g _ h => h) T) $$ H with ⟨%κ, -, Hinv, Hr, Hat, Hopen, Htok⟩
  imodintro
  iexists κ
  isplitl [Hinv Hr]; · isplitl [Hinv] <;> iassumption
  isplitl [Hat]; · iexact Hat
  isplitl [Hopen] <;> iassumption

/-- What is dealt of the tokens and places, as every device's share. -/
theorem shares : iprop((bigSep barCells fun g => atPos ER g 0 ∅ 0) ∗ (bigSep ownCells fun g => openTok ER g)
      ∗ bigSep (barToks ∪ ownToks) fun x => dutyTok ER x.1 x.2.1 x.2.2) ⊢ (bigSep Finset.univ share : sProp 𝕄) := by
  iintro ⟨Hat, Hopen, Htok⟩
  ihave Hat := (places_deal (F := F)) $$ Hat
  ihave Hopen := (opens_deal (F := F)) $$ Hopen
  ihave Htok := (toks_deal (F := F)) $$ Htok
  unfold share
  iapply both_join; isplitl [Hat]; · iexact Hat
  iapply both_join; isplitl [Hopen]; · iexact Hopen
  iexact Htok

/-- Every device's start, from the records that all may consult. -/
theorem start_all (P : Dev nD → S512x512.Idx → Elt F .f32) (B T : Dev nD → sProp 𝕄) (κ : GSem nD τ sig → ℕ)
    (h : ∀ c, iprop(records P κ ∗ (share c ∗ B c)) ⊢ T c) : iprop(records P κ ∗ bigSep Finset.univ share ∗ bigSep Finset.univ B) ⊢ bigSep Finset.univ T := by
  iintro ⟨#HR, HS, HB⟩
  iapply (bigSep_with_persistent (R := records P κ) (Φ := fun c => iprop(share c ∗ B c)) fun c _ => h c)
  isplitr; · iexact HR
  iapply both_join
  isplitl [HS] <;> iassumption

/-- The protocol's dealing, over any partial products. -/
theorem deal (P : Dev nD → S512x512.Idx → Elt F .f32) (B T : Dev nD → sProp 𝕄)
    (h : ∀ (κ : GSem nD τ sig → ℕ) c, iprop(records P κ ∗ (share c ∗ B c)) ⊢ T c) :
    iprop((bigSep Finset.univ B) ∗ (bigSep Finset.univ fun c : Dev nD => (semVal (bcell c) 0 : sProp 𝕄))
      ∗ BI.own (ER (launchOf barCells ownCells (barToks ∪ ownToks)))) ⊢ (|={Set.univ}=> bigSep Finset.univ T : sProp 𝕄) := by
  iintro ⟨HB, Hv, Hu⟩
  ihave Hv := (counters_deal (F := F)) $$ Hv
  ihave HF := (fund P barCells ownCells (barToks ∪ ownToks) cells_disjoint) $$ [Hv Hu]
  · isplitl [Hv] <;> iassumption
  imod HF with ⟨%κ, HR, HS⟩
  imodintro
  ihave HR := (records_intro P κ) $$ HR
  ihave HS := (shares (F := F)) $$ HS
  iapply (start_all P B T κ (h κ))
  isplitl [HR]; · iexact HR
  isplitl [HS] <;> iassumption

/-- The launch: what it hands out becomes every device's first state. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (map_entails (sort_out m ρ)) $$ H
  ihave H2 := both_apart $$ H'; icases H2 with ⟨HB, H3⟩
  ihave H4 := both_apart $$ H3; icases H4 with ⟨Hv, HG⟩
  ihave Hu := (G_own (F := F)) $$ HG
  iapply (deal (partials m) (bundle m) (T₀ m) (start_intro m))
  isplitl [HB]; · iexact HB
  isplitl [Hv]; · iexact Hv
  iexact Hu

/-! ## The run -/

/-- What the run leaves: every unscoped buffer of every device at its last contents. -/
def Final (s : MemSt nD τ sig (Elt F)) : Prop :=
  ∀ (c : Dev nD) (b : Ref sig .tc), (Proc.devRef .tc b : DevRef τ sig) ∈ Pipeline.ucRefs τ sig →
    s.mem ((c : Thread nD τ).loc b) = V5 m (outs m) c (Proc.devRef .tc b)

/-- At the end nothing is owed, and the buffers and the barrier's counter are left. -/
theorem leave (c : Dev nD) : iprop(StableHlo.held (c : Thread nD τ) (Pipeline.ucRefs τ sig) (V5 m (outs m) c) ∗ rest m 1 c)
    ⊢ iprop(Tₙ m c ∗ ∃ W, owes (c : Thread nD τ) (0 : CellTallies nD τ sig Unit) W) := by
  unfold rest owesE
  dsimp only
  iintro ⟨Hh, Hb, HO⟩
  isplitl [Hh Hb]
  · isplitl [Hh] <;> iassumption
  iexact HO

set_option backward.isDefEq.respectTransparency.types false in
set_option maxRecDepth 1024 in
/-- From any memory with zero counters every weakly fair execution of the program on the sixteen devices ends, with every
    buffer at its last contents and every counter at zero. -/
theorem run_main : θ_run defs (onTc (τ := τ) (main (F := F))) ⟨m, fun _ => 0, ρ⟩ (fun r => Final m r.2 ∧ r.2.sem = fun _ => 0) :=
  Pipeline.θ_run_regions_kit_dev_sems (pcfgs (F := F)) adm (pdats (V3 m)) () cellOf_inj EP defs₀ 𝒱₀ L lv m ρ main (items m)
    (fun c Q => by rw [main_wp m c])
    (fun c => by simp only [segs, Seg.pipes_host, Seg.pipes_region, Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onFirst]; iexact HX)
    (T₀ := T₀ m) (Tₙ := Tₙ m)
    (hch := fun c => ⟨.rfl, .rfl, .rfl, region_pre (V3 m) c, by
      have h := region_post (V3 m) c
      rw [← V4_eq] at h
      exact h, leave m c⟩)
    (hinit := init m ρ)
    (QY := fun c s => (∀ b : Ref sig .tc, (Proc.devRef .tc b : DevRef τ sig) ∈ Pipeline.ucRefs τ sig →
      s.mem ((c : Thread nD τ).loc b) = V5 m (outs m) c (Proc.devRef .tc b))
      ∧ ∀ sm : SemLoc sig, sm.isScoped .tc = false → s.sem ((c.tc : Thread nD τ), sm) = 0)
    (hfin := fun c s' => by
      unfold Tₙ StableHlo.held
      iintro ⟨⟨Hh, Hb⟩, HSI⟩
      ihave %h := (SI_pointsTo_bufs_agree (qs := fun _ => fullShare) (Pipeline.ucRefs τ sig)) $$ [HSI Hh]
      · isplitl [HSI]; · iexact HSI
        iexact Hh
      imod (Pipeline.unscopedSems0_read (X := semVal (bcell c) 0) (c := c)
        (by rw [unscoped_eq]; iintro H; imodintro; iexact H) s') $$ [Hb HSI] with ⟨%hz, HSI⟩
      · isplitl [Hb] <;> iassumption
      imodintro
      isplitr; · ipureintro; exact ⟨fun b hb => h _ hb, hz⟩
      iexact HSI)
    (hQ := fun s h hs => ⟨fun c => (h c).1, sem_eq_zero hs fun c => (h c).2⟩)

end Cert.KernelIdealProof

end
-- ==== Proof.Frames.lean ====
/-
  The frames: each program runs to its end with its arguments unchanged and every counter at zero.
-/
module

public import proofs.«01_k».proof.Defs
public import proofs.«01_k».proof.Proof.Main
public import proofs.«01_k».proof.Proof.Gen.Kernel
public import proofs.«01_k».proof.Proof.Gen.Kernel.Launch
public import proofs.«01_k».proof.Proof.Gen.ReferenceIdeal.Run
public import Idealize.ShloMosaic.Lib.Quiescent

@[expose] public section

noncomputable section

namespace Cert.KernelIdealProof

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ)

/-- A buffer of the host program is among those the run's end speaks of. -/
theorem main_unscoped (b : Ref sig .tc) (h : b.isScoped = false := by decide) : (Proc.devRef .tc b : DevRef τ sig) ∈ Pipeline.ucRefs τ sig :=
  Pipeline.devRef_mem_ucRefs h

/-- A final state has the arguments as they were at the launch, and every counter at zero. -/
def Kept (r : PUnit × MemSt nD τ sig (Elt F)) : Prop :=
  (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4))
  ∧ r.2.sem = fun _ => 0

/-- The final contents of the five arguments are those at the launch. -/
theorem args_kept {s : MemSt nD τ sig (Elt F)} (h : Final m s) (c : Dev nD) :
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4) :=
  ⟨(h c main_arg0 (main_unscoped _)).trans (V5_main_arg0 m (outs m) c), (h c main_arg1 (main_unscoped _)).trans (V5_main_arg1 m (outs m) c),
    (h c main_arg2 (main_unscoped _)).trans (V5_main_arg2 m (outs m) c), (h c main_arg3 (main_unscoped _)).trans (V5_main_arg3 m (outs m) c),
    (h c main_arg4 (main_unscoped _)).trans (V5_main_arg4 m (outs m) c)⟩

/-- From any memory, with all counters at zero, every run ends with the arguments kept and the counters at zero. -/
theorem run_kept (ρ : Dev nD → PrngReg) : θ_run defs (onTc (τ := τ) (main (F := F))) ⟨m, fun _ => 0, ρ⟩ (Kept m) :=
  (θ_run defs (onTc (τ := τ) (main (F := F))) ⟨m, fun _ => 0, ρ⟩).mono (fun _ h => And.intro (fun c => args_kept m h.1 c) h.2) (run_main m ρ)

/-- The idealized kernel's frame. -/
theorem frame_ideal : Cert.quiescent_KernelIdeal := fun m ρ _ => run_kept (F := Ideal) m ρ

/-- The two programs have the same text: the body, -/
theorem body_same : @Cert.Kernel.cc0__allreduce_body F _ _ = @Cert.KernelIdeal.cc0__allreduce_body F _ _ := rfl
/-- the table that calls it, -/
theorem table_same : Cert.Kernel.defs₀ (F := F) = Cert.KernelIdeal.defs₀ (F := F) := by
  unfold Cert.Kernel.defs₀ Cert.KernelIdeal.defs₀
  congr 1
  funext l p
  match l, p with
  | 0, (t, s) =>
    exact congrFun (congrFun (congrFun (congrFun (congrFun (congrFun (congrFun (congrFun (congrFun (congrFun (congrFun (congrFun body_same _) _) _) _) _) _) _) _) _) _) _) _
  | ⟨_ + 1, h⟩, _ => exact absurd h (Nat.not_lt.2 (Nat.le_add_left _ _))
/-- and that table with the pipeline's entries. -/
theorem defs_same : Cert.Kernel.defs (F := F) = Cert.KernelIdeal.defs (F := F) := by
  unfold Cert.Kernel.defs Cert.KernelIdeal.defs
  rw [table_same]
  rfl

/-- The host's work too, stretch by stretch. -/
theorem host_same (c : Dev nD) : Cert.Kernel.Gen.hostOps0 (F := F) c = Cert.KernelIdeal.Gen.hostOps0 (F := F) c := rfl
/-- The second stretch of the host's work is the same text in both programs, -/
theorem host_same₁ : Cert.Kernel.Gen.hostOps0_1 (F := F) = Cert.KernelIdeal.Gen.hostOps0_1 (F := F) := rfl
/-- the third, -/
theorem host_same₂ : Cert.Kernel.Gen.hostOps0_2 (F := F) = Cert.KernelIdeal.Gen.hostOps0_2 (F := F) := rfl
/-- and the one after the kernel; -/
theorem host_same₃ : Cert.Kernel.Gen.hostOps1 (F := F) = Cert.KernelIdeal.Gen.hostOps1 (F := F) := rfl
/-- so the two host programs are the same. -/
theorem main_same : Cert.Kernel.main (F := F) = Cert.KernelIdeal.main (F := F) := by
  funext c
  refine (Cert.Kernel.Gen.main_chain c).trans (Eq.trans ?_ (Cert.KernelIdeal.Gen.main_chain c).symm)
  rw [host_same, host_same₁, host_same₂, host_same₃]

/-- The kernel's frame. -/
theorem frame_kernel : Cert.quiescent_Kernel := fun m ρ _ => by
  rw [main_same, defs_same]
  exact run_kept (F := Bits) m ρ

/-- The reference's frame. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

end Cert.KernelIdealProof

end
-- ==== Proof.Reads.lean ====
/-
  The operations of an attention layer, each read at one index over the ideal values: the three matrix products, the
  changes of layout between rows and heads, and the sums and maxima along the last axis. The number of heads and the
  other extents are variables, so that one lemma serves a device's four heads and the whole sixty-four.
-/
module

public import Idealize.ShloMosaic.Lib.IdealHost
public import Idealize.ShloMosaic.Lib.DynamicIndex
public import Idealize.ShloMosaic.Lib.ValueIdx
public import Idealize.ShloMosaic.Lib.ValueIdxCoords
public import Idealize.ShloMosaic.Lib.Pipeline.Value

@[expose] public section

namespace Cert.Attention

open Idealize.ShloMosaic Idealize.ShloMosaic.ValueIdx
open scoped BigOperators

variable {α : Type} {B S T H D N C : ℕ}

/-! ## Products -/

section products

variable {φ₁ φ₂ ψ : FTy}

/-- A product of every row of a batch by one matrix. -/
theorem rowsTimes_apply (w : DotDims.WF ⟨3, ![B, S, D]⟩ ⟨2, ![D, N]⟩ ⟨3, ![B, S, N]⟩ [2] [0] [0, 1] [1] [] [])
    (l : FVec Ideal ⟨3, ![B, S, D]⟩ φ₁) (r : FVec Ideal ⟨2, ![D, N]⟩ φ₂) (b : Fin B) (s : Fin S) (n : Fin N) :
    (Host.dotGeneral ⟨[2], [0], [0, 1], [1], [], [], w⟩ none l r : FVec Ideal ⟨3, ![B, S, N]⟩ ψ) (ix3 b s n)
      = ∑ d : Fin D, l (ix3 b s d) * r (ix2 d n) := by
  refine (Ideal.dotGeneral_apply _ none _ l r (ix3 b s n)).trans ?_
  refine (Equiv.sum_comp (contrEquiv1 _ D rfl rfl).symm _).symm.trans (Finset.sum_congr rfl fun d _ => ?_)
  congr 1
  · refine congrArg l (funext fun a => Fin.ext ?_)
    match a with
    | ⟨0, _⟩ => rfl
    | ⟨1, _⟩ => rfl
    | ⟨2, _⟩ => rfl
  · refine congrArg r (funext fun a => Fin.ext ?_)
    match a with
    | ⟨0, _⟩ => rfl
    | ⟨1, _⟩ => rfl

/-- Queries against keys, head by head. -/
theorem queryKey_apply (w : DotDims.WF ⟨4, ![B, S, H, D]⟩ ⟨4, ![B, T, H, D]⟩ ⟨4, ![B, H, S, T]⟩ [3] [3] [1] [1] [0, 2] [0, 2])
    (l : FVec Ideal ⟨4, ![B, S, H, D]⟩ φ₁) (r : FVec Ideal ⟨4, ![B, T, H, D]⟩ φ₂) (b : Fin B) (h : Fin H) (i : Fin S) (j : Fin T) :
    (Host.dotGeneral ⟨[3], [3], [1], [1], [0, 2], [0, 2], w⟩ none l r : FVec Ideal ⟨4, ![B, H, S, T]⟩ ψ) (ix4 b h i j)
      = ∑ d : Fin D, l (ix4 b i h d) * r (ix4 b j h d) := by
  refine (Ideal.dotGeneral_apply _ none _ l r (ix4 b h i j)).trans ?_
  refine (Equiv.sum_comp (contrEquiv1 _ D rfl rfl).symm _).symm.trans (Finset.sum_congr rfl fun d _ => ?_)
  congr 1
  · refine congrArg l (funext fun a => Fin.ext ?_)
    match a with
    | ⟨0, _⟩ => rfl
    | ⟨1, _⟩ => rfl
    | ⟨2, _⟩ => rfl
    | ⟨3, _⟩ => rfl
  · refine congrArg r (funext fun a => Fin.ext ?_)
    match a with
    | ⟨0, _⟩ => rfl
    | ⟨1, _⟩ => rfl
    | ⟨2, _⟩ => rfl
    | ⟨3, _⟩ => rfl

/-- Values under weights, head by head. -/
theorem valueWeight_apply (w : DotDims.WF ⟨4, ![B, T, H, D]⟩ ⟨4, ![B, H, S, T]⟩ ⟨4, ![B, H, D, S]⟩ [1] [3] [3] [2] [0, 2] [0, 1])
    (l : FVec Ideal ⟨4, ![B, T, H, D]⟩ φ₁) (r : FVec Ideal ⟨4, ![B, H, S, T]⟩ φ₂) (b : Fin B) (h : Fin H) (d : Fin D) (i : Fin S) :
    (Host.dotGeneral ⟨[1], [3], [3], [2], [0, 2], [0, 1], w⟩ none l r : FVec Ideal ⟨4, ![B, H, D, S]⟩ ψ) (ix4 b h d i)
      = ∑ j : Fin T, l (ix4 b j h d) * r (ix4 b h i j) := by
  refine (Ideal.dotGeneral_apply _ none _ l r (ix4 b h d i)).trans ?_
  refine (Equiv.sum_comp (contrEquiv1 _ T rfl rfl).symm _).symm.trans (Finset.sum_congr rfl fun j _ => ?_)
  congr 1
  · refine congrArg l (funext fun a => Fin.ext ?_)
    match a with
    | ⟨0, _⟩ => rfl
    | ⟨1, _⟩ => rfl
    | ⟨2, _⟩ => rfl
    | ⟨3, _⟩ => rfl
  · refine congrArg r (funext fun a => Fin.ext ?_)
    match a with
    | ⟨0, _⟩ => rfl
    | ⟨1, _⟩ => rfl
    | ⟨2, _⟩ => rfl
    | ⟨3, _⟩ => rfl

end products

/-! ## Layout -/

/-- Heads and positions exchanged: the context brought back to rows. -/
theorem toRows_apply (x : (⟨4, ![B, H, D, S]⟩ : Shape).Idx → α)
    (w : (⟨4, ![B, H, D, S]⟩ : Shape).Transposes [0, 3, 1, 2] ⟨4, ![B, S, H, D]⟩) (b : Fin B) (s : Fin S) (h : Fin H) (d : Fin D) :
    transpose ⟨4, ![B, S, H, D]⟩ [0, 3, 1, 2] x w (ix4 b s h d) = x (ix4 b h d s) :=
  transpose_apply _ x w _ _ fun c => by
    match c with
    | ⟨0, _⟩ => rfl
    | ⟨1, _⟩ => rfl
    | ⟨2, _⟩ => rfl
    | ⟨3, _⟩ => rfl

/-- A row of `N = H · D` numbers as `H` heads of `D`. -/
theorem split_apply (x : (⟨3, ![B, S, N]⟩ : Shape).Idx → α) (w : (⟨3, ![B, S, N]⟩ : Shape).ShapeCasts ⟨4, ![B, S, H, D]⟩)
    (hN : N = H * D) (b : Fin B) (s : Fin S) (h : Fin H) (d : Fin D) (n : Fin N) (hn : n.val = h.val * D + d.val) :
    shapeCast ⟨4, ![B, S, H, D]⟩ x w (ix4 b s h d) = x (ix3 b s n) :=
  shapeCast_apply x w _ _ (by
    rw [Shape.rowMajor_val_three, Shape.rowMajor_val_four]
    show (b.val * S + s.val) * N + n.val = ((b.val * S + s.val) * H + h.val) * D + d.val
    rw [hn, hN]; ring)

/-- `H` heads of `D` numbers as one row. -/
theorem join_apply (x : (⟨4, ![B, S, H, D]⟩ : Shape).Idx → α) (w : (⟨4, ![B, S, H, D]⟩ : Shape).ShapeCasts ⟨3, ![B, S, N]⟩)
    (hN : N = H * D) (b : Fin B) (s : Fin S) (h : Fin H) (d : Fin D) (n : Fin N) (hn : n.val = h.val * D + d.val) :
    shapeCast ⟨3, ![B, S, N]⟩ x w (ix3 b s n) = x (ix4 b s h d) :=
  shapeCast_apply x w _ _ (by
    rw [Shape.rowMajor_val_three, Shape.rowMajor_val_four]
    show ((b.val * S + s.val) * H + h.val) * D + d.val = (b.val * S + s.val) * N + n.val
    rw [hn, hN]; ring)

/-- A batch of rows as one array of rows. -/
theorem flatten_apply (x : (⟨3, ![B, S, C]⟩ : Shape).Idx → α) (w : (⟨3, ![B, S, C]⟩ : Shape).ShapeCasts ⟨2, ![N, C]⟩)
    (b : Fin B) (s : Fin S) (c : Fin C) (n : Fin N) (hn : n.val = b.val * S + s.val) :
    shapeCast ⟨2, ![N, C]⟩ x w (ix2 n c) = x (ix3 b s c) :=
  shapeCast_apply x w _ _ (by
    rw [Shape.rowMajor_val_three, Shape.rowMajor_val_two]
    show (b.val * S + s.val) * C + c.val = n.val * C + c.val
    rw [hn])

/-- One array of rows as a batch of rows. -/
theorem unflatten_apply (x : (⟨2, ![N, C]⟩ : Shape).Idx → α) (w : (⟨2, ![N, C]⟩ : Shape).ShapeCasts ⟨3, ![B, S, C]⟩)
    (b : Fin B) (s : Fin S) (c : Fin C) (n : Fin N) (hn : n.val = b.val * S + s.val) :
    shapeCast ⟨3, ![B, S, C]⟩ x w (ix3 b s c) = x (ix2 n c) :=
  shapeCast_apply x w _ _ (by
    rw [Shape.rowMajor_val_three, Shape.rowMajor_val_two]
    show n.val * C + c.val = (b.val * S + s.val) * C + c.val
    rw [hn])

/-- Some of the heads, from head `o` on. -/
theorem heads_apply (x : (⟨4, ![B, T, N, D]⟩ : Shape).Idx → α) (st : Fin 4 → Int) (o : ℕ)
    (w : (⟨4, ![B, T, N, D]⟩ : Shape).Slices (fun _ => 0) ⟨4, ![B, T, H, D]⟩) (ho : o + H ≤ N)
    (h0 : st 0 = 0) (h1 : st 1 = 0) (h2 : st 2 = o) (h3 : st 3 = 0)
    (b : Fin B) (t : Fin T) (h : Fin H) (d : Fin D) (n : Fin N) (hn : n.val = o + h.val) :
    Host.dynamicSlice ⟨4, ![B, T, H, D]⟩ x st w (ix4 b t h d) = x (ix4 b t n d) := by
  have hw : (⟨4, ![B, T, N, D]⟩ : Shape).Slices ![0, 0, o, 0] ⟨4, ![B, T, H, D]⟩ := ⟨rfl, fun a => by
    match a with
    | ⟨0, _⟩ => show 0 + B ≤ B; omega
    | ⟨1, _⟩ => show 0 + T ≤ T; omega
    | ⟨2, _⟩ => exact ho
    | ⟨3, _⟩ => show 0 + D ≤ D; omega⟩
  rw [Host.dynamicSlice_eq_extractStridedSlice _ x st ![0, 0, o, 0] w hw fun a => by
    match a with
    | ⟨0, _⟩ => exact h0
    | ⟨1, _⟩ => exact h1
    | ⟨2, _⟩ => exact h2
    | ⟨3, _⟩ => exact h3]
  exact extractStridedSlice_apply _ _ hw _ _ fun a => by
    match a with
    | ⟨0, _⟩ => show b.val = 0 + b.val; omega
    | ⟨1, _⟩ => show t.val = 0 + t.val; omega
    | ⟨2, _⟩ => exact hn
    | ⟨3, _⟩ => show d.val = 0 + d.val; omega

/-! ## Along the last axis -/

/-- The sum of a row. -/
theorem rowSum_apply {φ : FTy} {u : Shape} (x : FVec Ideal ⟨4, ![B, H, S, T]⟩ φ) (init : u.Idx → Ideal φ)
    (w : (⟨4, ![B, H, S, T]⟩ : Shape).ReducesTo [3] ⟨3, ![B, H, S]⟩) (hu : 0 < u.numel) (b : Fin B) (h : Fin H) (i : Fin S) :
    Host.reduceAdd x init w hu (ix3 b h i) = init (Shape.Idx.first hu) + ∑ j : Fin T, x (ix4 b h i j) := by
  have w' : (⟨4, ![B, H, S, T]⟩ : Shape).Reduces [3] ⟨3, ![B, H, S]⟩ := ⟨w.1, Nat.succ_pos 2, w.2⟩
  rw [hostReduceAdd_apply, Ideal.hostReduceAdd_single w w']
  refine congrArg (_ + ·) (Finset.sum_congr rfl fun j _ => congrArg x (funext fun a => Fin.ext ?_))
  match a with
  | ⟨0, _⟩ => rfl
  | ⟨1, _⟩ => rfl
  | ⟨2, _⟩ => rfl
  | ⟨3, _⟩ => rfl

/-- A fold along a row. -/
theorem rowFold_apply {u : Shape} (f : α → α → α) [Std.Commutative f] [Std.Associative f] (x : (⟨4, ![B, H, S, T]⟩ : Shape).Idx → α)
    (init : u.Idx → α) (w : (⟨4, ![B, H, S, T]⟩ : Shape).ReducesTo [3] ⟨3, ![B, H, S]⟩) (hu : 0 < u.numel) (b : Fin B) (h : Fin H) (i : Fin S) :
    Host.reduce f x init w hu (ix3 b h i) = (Finset.univ : Finset (Fin T)).fold f (init (Shape.Idx.first hu)) fun j => x (ix4 b h i j) := by
  have w' : (⟨4, ![B, H, S, T]⟩ : Shape).Reduces [3] ⟨3, ![B, H, S]⟩ := ⟨w.1, Nat.succ_pos 2, w.2⟩
  rw [Host.reduce_eq_fold_single f x init w w']
  refine congrArg (Finset.fold f _ · _) (funext fun j => congrArg x (funext fun a => Fin.ext ?_))
  match a with
  | ⟨0, _⟩ => rfl
  | ⟨1, _⟩ => rfl
  | ⟨2, _⟩ => rfl
  | ⟨3, _⟩ => rfl

/-- One number for each row, as a row of length one. -/
theorem column_apply (x : (⟨3, ![B, H, S]⟩ : Shape).Idx → α)
    (w : (⟨3, ![B, H, S]⟩ : Shape).BroadcastsInDim ⟨4, ![B, H, S, 1]⟩ ![0, 1, 2]) (b : Fin B) (h : Fin H) (i : Fin S) (z : Fin 1) :
    broadcastInDim ⟨4, ![B, H, S, 1]⟩ ![0, 1, 2] w x (ix4 b h i z) = x (ix3 b h i) :=
  broadcastInDim_apply _ w x _ _ fun a => by
    match a with
    | ⟨0, _⟩ => show b.val = if B = 1 then 0 else b.val; split <;> omega
    | ⟨1, _⟩ => show h.val = if H = 1 then 0 else h.val; split <;> omega
    | ⟨2, _⟩ => show i.val = if S = 1 then 0 else i.val; split <;> omega

/-- A row of length one repeated along the row. -/
theorem spread_apply (x : (⟨4, ![B, H, S, 1]⟩ : Shape).Idx → α)
    (w : (⟨4, ![B, H, S, 1]⟩ : Shape).BroadcastsInDim ⟨4, ![B, H, S, T]⟩ ![0, 1, 2, 3]) (b : Fin B) (h : Fin H) (i : Fin S) (j : Fin T) :
    broadcastInDim ⟨4, ![B, H, S, T]⟩ ![0, 1, 2, 3] w x (ix4 b h i j) = x (ix4 b h i 0) :=
  broadcastInDim_apply _ w x _ _ fun a => by
    match a with
    | ⟨0, _⟩ => show b.val = if B = 1 then 0 else b.val; split <;> omega
    | ⟨1, _⟩ => show h.val = if H = 1 then 0 else h.val; split <;> omega
    | ⟨2, _⟩ => show i.val = if S = 1 then 0 else i.val; split <;> omega
    | ⟨3, _⟩ => rfl

/-- The mask, the same for every batch and head. -/
theorem mask_apply (x : (⟨2, ![S, T]⟩ : Shape).Idx → α)
    (w : (⟨2, ![S, T]⟩ : Shape).BroadcastsInDim ⟨4, ![1, 1, S, T]⟩ ![2, 3])
    (w' : (⟨4, ![1, 1, S, T]⟩ : Shape).BroadcastsInDim ⟨4, ![B, H, S, T]⟩ ![0, 1, 2, 3]) (b : Fin B) (h : Fin H) (i : Fin S) (j : Fin T) :
    broadcastInDim ⟨4, ![B, H, S, T]⟩ ![0, 1, 2, 3] w' (broadcastInDim ⟨4, ![1, 1, S, T]⟩ ![2, 3] w x) (ix4 b h i j) = x (ix2 i j) := by
  refine (broadcastInDim_apply _ w' _ _ (ix4 0 0 i j) fun a => ?_).trans (broadcastInDim_apply _ w x _ _ fun a => ?_)
  · match a with
    | ⟨0, _⟩ => rfl
    | ⟨1, _⟩ => rfl
    | ⟨2, _⟩ => show i.val = if S = 1 then 0 else i.val; split <;> omega
    | ⟨3, _⟩ => show j.val = if T = 1 then 0 else j.val; split <;> omega
  · match a with
    | ⟨0, _⟩ => show i.val = if S = 1 then 0 else i.val; split <;> omega
    | ⟨1, _⟩ => show j.val = if T = 1 then 0 else j.val; split <;> omega

/-- A flag for each position, the same for every batch, head and key. -/
theorem flag_apply (x : (⟨1, ![S]⟩ : Shape).Idx → α)
    (w : (⟨1, ![S]⟩ : Shape).BroadcastsInDim ⟨4, ![1, 1, S, 1]⟩ ![2])
    (w' : (⟨4, ![1, 1, S, 1]⟩ : Shape).BroadcastsInDim ⟨4, ![B, H, S, T]⟩ ![0, 1, 2, 3]) (b : Fin B) (h : Fin H) (i : Fin S) (j : Fin T) :
    broadcastInDim ⟨4, ![B, H, S, T]⟩ ![0, 1, 2, 3] w' (broadcastInDim ⟨4, ![1, 1, S, 1]⟩ ![2] w x) (ix4 b h i j) = x (ix1 i) := by
  refine (broadcastInDim_apply _ w' _ _ (ix4 0 0 i 0) fun a => ?_).trans (broadcastInDim_apply _ w x _ _ fun a => ?_)
  · match a with
    | ⟨0, _⟩ => rfl
    | ⟨1, _⟩ => rfl
    | ⟨2, _⟩ => show i.val = if S = 1 then 0 else i.val; split <;> omega
    | ⟨3, _⟩ => rfl
  · match a with
    | ⟨0, _⟩ => show i.val = if S = 1 then 0 else i.val; split <;> omega

end Cert.Attention

end
-- ==== Proof.Softmax.lean ====
/-
  The arithmetic of the extended reals that an attention layer needs: which values are real numbers, a scale moved
  across a product, and the softmax of a row of real scores with and without the row's maximum taken off.
-/
module

public import Idealize.ShloMosaic.Lib.IdealHost

@[expose] public section

namespace Cert.Attention

open Idealize.ShloMosaic
open scoped BigOperators

/-- A value that is a real number: neither infinity. -/
def IsReal (x : EReal) : Prop := ∃ r : ℝ, x = r

/-- A real number is real. -/
theorem IsReal.coe (r : ℝ) : IsReal r := ⟨r, rfl⟩
/-- Zero is real. -/
theorem IsReal.zero : IsReal 0 := ⟨0, rfl⟩
/-- A product of reals is real. -/
theorem IsReal.mul {x y : EReal} : IsReal x → IsReal y → IsReal (x * y)
  | ⟨a, ha⟩, ⟨b, hb⟩ => ⟨a * b, by rw [ha, hb, EReal.coe_mul]⟩
/-- A sum of two reals is real. -/
theorem IsReal.add {x y : EReal} : IsReal x → IsReal y → IsReal (x + y)
  | ⟨a, ha⟩, ⟨b, hb⟩ => ⟨a + b, by rw [ha, hb, EReal.coe_add]⟩

/-- The real sum, read as an extended real. -/
theorem coe_sum {ι : Type} (s : Finset ι) (r : ι → ℝ) : ((∑ i ∈ s, r i : ℝ) : EReal) = ∑ i ∈ s, (r i : EReal) := by
  classical
  induction s using Finset.induction_on with
  | empty => simp
  | insert i s h ih => rw [Finset.sum_insert h, Finset.sum_insert h, EReal.coe_add, ih]

/-- A finite sum of reals is real. -/
theorem IsReal.sum {ι : Type} (s : Finset ι) {f : ι → EReal} (h : ∀ i, IsReal (f i)) : IsReal (∑ i ∈ s, f i) := by
  choose r hr using h
  exact ⟨∑ i ∈ s, r i, by rw [coe_sum]; exact Finset.sum_congr rfl fun i _ => hr i⟩

/-- A value whose absolute value is below infinity is real. -/
theorem IsReal.of_abs_lt {x : EReal} (h : max x (-x) < ⊤) : IsReal x := by
  rcases lt_or_ge x ⊤ with h1 | h1
  · rcases lt_or_ge ⊥ x with h2 | h2
    · exact ⟨x.toReal, (EReal.coe_toReal h1.ne h2.ne').symm⟩
    · rw [le_bot_iff.mp h2] at h; simp at h
  · rw [top_le_iff.mp h1] at h; simp at h

/-- A scale applied to the queries is the scale applied to the scores. -/
theorem sum_scale {ι : Type} [Fintype ι] (q k : ι → EReal) {c : EReal} (hq : ∀ i, IsReal (q i)) (hk : ∀ i, IsReal (k i)) (hc : IsReal c) :
    ∑ i, q i * c * k i = (∑ i, q i * k i) * c := by
  choose a ha using hq
  choose b hb using hk
  obtain ⟨r, rfl⟩ := hc
  rw [show (∑ i, q i * r * k i) = ((∑ i, a i * r * b i : ℝ) : EReal) from by
      rw [coe_sum]; exact Finset.sum_congr rfl fun i _ => by rw [ha, hb, EReal.coe_mul, EReal.coe_mul],
    show (∑ i, q i * k i) = ((∑ i, a i * b i : ℝ) : EReal) from by
      rw [coe_sum]; exact Finset.sum_congr rfl fun i _ => by rw [ha, hb, EReal.coe_mul],
    ← EReal.coe_mul, Finset.sum_mul]
  exact congrArg _ (Finset.sum_congr rfl fun i _ => by ring)

/-- The weight of one score in its row, as it stands: the exponential over the sum of the exponentials. -/
noncomputable def weight {n : ℕ} (s : Fin n → EReal) (j : Fin n) : EReal := Ideal.div (Ideal.exp (s j)) (0 + ∑ i, Ideal.exp (s i))

/-- The largest score of a row, `⊥` of none. -/
noncomputable def rowMax {n : ℕ} (s : Fin n → EReal) : EReal := (Finset.univ : Finset (Fin n)).fold max ⊥ s

/-- The maximum of a row of reals is real. -/
theorem rowMax_isReal {n : ℕ} [NeZero n] {s : Fin n → EReal} (h : ∀ i, IsReal (s i)) : IsReal (rowMax s) := by
  obtain ⟨i, -, hi⟩ := Finset.exists_mem_eq_sup (Finset.univ : Finset (Fin n)) ⟨0, Finset.mem_univ _⟩ s
  have : rowMax s = s i := hi
  rw [this]; exact h i

/-- A row of real scores keeps its weights when every score is lowered by one real number. -/
theorem weight_sub {n : ℕ} [NeZero n] {s : Fin n → EReal} (h : ∀ i, IsReal (s i)) {M : EReal} (hM : IsReal M) (j : Fin n) :
    weight (fun i => s i - M) j = weight s j := by
  choose r hr using h
  obtain ⟨m, rfl⟩ := hM
  obtain rfl : s = fun i => (r i : EReal) := funext hr
  have h1 (f : Fin n → ℝ) : weight (fun i => (f i : EReal)) j = ((Real.exp (f j) / ∑ i, Real.exp (f i) : ℝ) : EReal) := by
    unfold weight
    have hs : (0 + ∑ i, Ideal.exp (f i : EReal)) = ((∑ i, Real.exp (f i) : ℝ) : EReal) := by
      rw [coe_sum, zero_add]; rfl
    have hp : (0 : ℝ) < ∑ i, Real.exp (f i) := Finset.sum_pos (fun i _ => Real.exp_pos _) ⟨0, Finset.mem_univ _⟩
    rw [hs, Ideal.div, if_neg (by exact_mod_cast hp.ne'), ← EReal.coe_inv, div_eq_mul_inv, EReal.coe_mul]
    rfl
  have h2 : (fun i => ((r i : EReal) - (m : EReal))) = fun i => ((r i - m : ℝ) : EReal) := funext fun i => (EReal.coe_sub _ _).symm
  rw [h2, h1, h1]
  refine congrArg _ ?_
  simp only [Real.exp_sub]
  rw [← Finset.sum_div, div_div_div_cancel_right₀ (Real.exp_pos m).ne']

end Cert.Attention

end
-- ==== Proof.Reference.lean ====
/-
  The reference's result, read at one index: queries, scores, softmax weights, context and output projection, each a sum
  of the arguments' elements.
-/
module

public import proofs.«01_k».proof.Proof.Gen.ReferenceIdeal.Run
public import proofs.«01_k».proof.Proof.Reads
public import proofs.«01_k».proof.Proof.Softmax

@[expose] public section

noncomputable section

namespace Cert.Attention

open Idealize.ShloMosaic Idealize.ShloMosaic.ValueIdx
open scoped BigOperators

/-- Whether the query at `i` may look at the key at `j`: near it, or one of the two among the first thirty-two. -/
def looks (i j : Fin 256) : BitVec 1 :=
  IntOp.ori (IntOp.cmpi .sle (IntOp.absi (IntOp.subi (BitVec.ofNat 32 i.val) (BitVec.ofNat 32 j.val))) 128#32)
    (IntOp.ori (IntOp.cmpi .slt (BitVec.ofNat 32 j.val) 32#32) (IntOp.cmpi .slt (BitVec.ofNat 32 i.val) 32#32))

/-- Every query may look at the key of its own place. -/
theorem looks_self (i : Fin 256) : looks i i = 1#1 := by
  unfold looks
  rw [show IntOp.subi (BitVec.ofNat 32 i.val) (BitVec.ofNat 32 i.val) = 0#32 from BitVec.sub_self _]
  generalize IntOp.ori (IntOp.cmpi .slt (BitVec.ofNat 32 i.val) 32#32) _ = y
  revert y; decide

/-- A disjunction with a true member is true. -/
theorem fold_ori {n : ℕ} (f : Fin n → BitVec 1) (i : Fin n) (h : f i = 1#1) : (Finset.univ : Finset (Fin n)).fold IntOp.ori 0#1 f = 1#1 := by
  rw [← Finset.insert_erase (Finset.mem_univ i), Finset.fold_insert (Finset.notMem_erase _ _), h]
  generalize (Finset.univ.erase i).fold IntOp.ori 0#1 f = y
  revert y; decide

/-- The score a masked-out key gets, and the scale of the scores. -/
abbrev low : EReal := Ideal.ofBits .f32 0xCE6E6B28#32
/-- The scale of the scores, 1/8. -/
abbrev scale : EReal := Ideal.ofBits .f32 0x3E000000#32

/-- A row of scores with the mask laid over it. -/
def masked (i : Fin 256) (s : Fin 256 → EReal) (j : Fin 256) : EReal := if looks i j = 1#1 then s j else low

/-- One row of an input times one column of the query weights. -/
def query {N : ℕ} (x : (⟨3, ![2, 256, 512]⟩ : Shape).Idx → EReal) (wq : (⟨2, ![512, N]⟩ : Shape).Idx → EReal)
    (b : Fin 2) (i : Fin 256) (n : Fin N) : EReal := ∑ e : Fin 512, x (ix3 b i e) * wq (ix2 e n)

/-- Element `d` of head `h` in a row. -/
def at64 {H : ℕ} (N : ℕ) (hN : N = H * 64) (h : Fin H) (d : Fin 64) : Fin N := ⟨h.val * 64 + d.val, by have := h.isLt; have := d.isLt; omega⟩

end Cert.Attention

namespace Cert.ReferenceProof

open Cert.ReferenceIdeal Cert.ReferenceIdeal.Gen Cert.Attention
open Idealize.ShloMosaic Idealize.ShloMosaic.TcCoe Idealize.ShloMosaic.ValueIdx
open scoped BigOperators

/-! ## The stages -/

/-- The mask. -/
def mask : IVec S256x256 1 := ori (cmpi .sle (absi (subi (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0))))) (broadcastInDim S256x256 ![] bcast_S_S256x256 (constantI S_ 32 128#32))) (ori (broadcastInDim S256x256 ![0, 1] bcast_S1x256_S256x256_0_1 (cmpi .slt (broadcastInDim S1x256 ![1] bcast_S256_S1x256_1 (iotaInDim S256 32 0)) (broadcastInDim S1x256 ![] bcast_S_S1x256 (constantI S_ 32 32#32)))) (broadcastInDim S256x256 ![0, 1] bcast_S256x1_S256x256_0_1 (cmpi .slt (broadcastInDim S256x1 ![0] bcast_S256_S256x1_0 (iotaInDim S256 32 0)) (broadcastInDim S256x1 ![] bcast_S_S256x1 (constantI S_ 32 32#32)))))

/-- Whether a row has any key to look at. -/
def keep : IVec S1x1x256x1 1 := broadcastInDim S1x1x256x1 ![2] bcast_S256_S1x1x256x1_2 (Host.reduce IntOp.ori mask (constantI S_ 1 0#1) reducesTo_S256x256_S256_d1 h_S_)

variable (x : FVec Ideal S2x256x512 .bf16) (wq : FVec Ideal S512x4096 .bf16) (k v : FVec Ideal S2x256x64x64 .bf16) (wo : FVec Ideal S4096x512 .bf16)

/-- The masked scores. -/
def scores : FVec Ideal S2x64x256x256 .f32 :=
  select (broadcastInDim S2x64x256x256 ![0, 1, 2, 3] bcast_S1x1x256x256_S2x64x256x256_0_1_2_3 (broadcastInDim S1x1x256x256 ![2, 3] bcast_S256x256_S1x1x256x256_2_3 mask)) (mulf (extf .f32 (truncf .bf16 (Host.dotGeneral dot_S2x256x64x64_S2x256x64x64_S2x64x256x256_3_3_1_1_02_02 none (shapeCast _ (truncf .bf16 (Host.dotGeneral dot_S2x256x512_S512x4096_S2x256x4096_2_0_01_1_n_n none x wq) bitsLt_bf16_f32) shapeCasts_S2x256x4096_S2x256x64x64) k) bitsLt_bf16_f32) bitsLt_bf16_f32) (broadcastInDim S2x64x256x256 ![] bcast_S_S2x64x256x256 (constant S_ .f32 0x3E000000#32))) (broadcastInDim S2x64x256x256 ![] bcast_S_S2x64x256x256 (id (constant S_ .f32 0xCE6E6B28#32)))

variable (s : FVec Ideal S2x64x256x256 .f32)

/-- The exponentials of the scores less their row's largest. -/
def lowered : FVec Ideal S2x64x256x256 .f32 :=
  Host.exp (subf s (broadcastInDim S2x64x256x256 ![0, 1, 2, 3] bcast_S2x64x256x1_S2x64x256x256_0_1_2_3 (broadcastInDim S2x64x256x1 ![0, 1, 2] bcast_S2x64x256_S2x64x256x1_0_1_2 (Host.reduce FloatOps.maximumf s (constant S_ .f32 0xFF800000#32) reducesTo_S2x64x256x256_S2x64x256_d3 h_S_))))

/-- The softmax weights. -/
def weights (e : FVec Ideal S2x64x256x256 .f32) : FVec Ideal S2x64x256x256 .f32 :=
  select (broadcastInDim S2x64x256x256 ![0, 1, 2, 3] bcast_S1x1x256x1_S2x64x256x256_0_1_2_3 keep) (Host.divf e (broadcastInDim S2x64x256x256 ![0, 1, 2, 3] bcast_S2x64x256x1_S2x64x256x256_0_1_2_3 (select (broadcastInDim S2x64x256x1 ![0, 1, 2, 3] bcast_S1x1x256x1_S2x64x256x1_0_1_2_3 keep) (broadcastInDim S2x64x256x1 ![0, 1, 2] bcast_S2x64x256_S2x64x256x1_0_1_2 (Host.reduceAdd e (constant S_ .f32 0x00000000#32) reducesTo_S2x64x256x256_S2x64x256_d3 h_S_)) (broadcastInDim S2x64x256x1 ![] bcast_S_S2x64x256x1 (id (constant S_ .f32 0x3F800000#32)))))) (broadcastInDim S2x64x256x256 ![] bcast_S_S2x64x256x256 (id (constant S_ .f32 0x00000000#32)))

/-- The context times the output weights. -/
def out (w : FVec Ideal S2x64x256x256 .f32) : FVec Ideal S2x256x512 .bf16 :=
  truncf .bf16 (Host.dotGeneral dot_S2x256x4096_S4096x512_S2x256x512_2_0_01_1_n_n none (shapeCast _ (transpose S2x256x64x64 [0, 3, 1, 2] (Host.dotGeneral dot_S2x256x64x64_S2x64x256x256_S2x64x64x256_1_3_3_2_02_01 none (extf .f32 v bitsLt_bf16_f32) w) transposes_S2x64x64x256_S2x256x64x64_0_3_1_2) shapeCasts_S2x256x64x64_S2x256x4096) (extf .f32 wo bitsLt_bf16_f32)) bitsLt_bf16_f32

/-- The reference's result is these stages, one after another. -/
theorem res_eq (m : (ℓ : Loc nD τ sig) → Buf (Elt Ideal) ℓ) (c : Dev nD) :
    Value.res_main_v48 m c = out (m ((c.tc : Thread nD τ).loc main_arg3)) (m ((c.tc : Thread nD τ).loc main_arg4))
      (weights (lowered (scores (m ((c.tc : Thread nD τ).loc main_arg0)) (m ((c.tc : Thread nD τ).loc main_arg1)) (m ((c.tc : Thread nD τ).loc main_arg2))))) := by
  unfold Value.res_main_v48; rfl

/-! ## The stages at an index -/

/-- The reference's mask at an index. -/
theorem mask_at (i j : Fin 256) : mask (ix2 i j) = looks i j := by
  have hr {α : Type} (f : S256x1.Idx → α) : broadcastInDim S256x256 ![0, 1] bcast_S256x1_S256x256_0_1 f (ix2 i j) = f (ix2 i 0) :=
    broadcastInDim_apply _ _ f _ _ fun a => by
      match a with
      | ⟨0, _⟩ => rfl
      | ⟨1, _⟩ => rfl
  have hc {α : Type} (f : S1x256.Idx → α) : broadcastInDim S256x256 ![0, 1] bcast_S1x256_S256x256_0_1 f (ix2 i j) = f (ix2 0 j) :=
    broadcastInDim_apply _ _ f _ _ fun a => by
      match a with
      | ⟨0, _⟩ => rfl
      | ⟨1, _⟩ => rfl
  have hi : broadcastInDim S256x1 ![0] bcast_S256_S256x1_0 (iotaInDim S256 32 0) (ix2 i 0) = BitVec.ofNat 32 i.val :=
    (broadcastInDim_apply _ _ _ _ (ix1 i) fun a => by
      match a with
      | ⟨0, _⟩ => rfl).trans (iotaInDim_apply _ _ _)
  have hj : broadcastInDim S1x256 ![1] bcast_S256_S1x256_1 (iotaInDim S256 32 0) (ix2 0 j) = BitVec.ofNat 32 j.val :=
    (broadcastInDim_apply _ _ _ _ (ix1 j) fun a => by
      match a with
      | ⟨0, _⟩ => rfl).trans (iotaInDim_apply _ _ _)
  show IntOp.ori (IntOp.cmpi _ (IntOp.absi (IntOp.subi (broadcastInDim _ _ _ _ _) (broadcastInDim _ _ _ _ _))) (broadcastInDim _ _ _ _ _))
    (IntOp.ori (broadcastInDim _ _ _ _ _) (broadcastInDim _ _ _ _ _)) = _
  rw [hr, hc, hc, hr, broadcastInDim_scalar_apply, hi, hj]
  show IntOp.ori _ (IntOp.ori (IntOp.cmpi _ (broadcastInDim _ _ _ _ _) (broadcastInDim _ _ _ _ _)) (IntOp.cmpi _ (broadcastInDim _ _ _ _ _) (broadcastInDim _ _ _ _ _))) = _
  rw [hi, hj, broadcastInDim_scalar_apply, broadcastInDim_scalar_apply]
  rfl

/-- Every row has a key to look at: its own. -/
theorem keep_at (i : Fin 256) : keep (ix4 0 0 i 0) = 1#1 := by
  unfold keep
  refine (broadcastInDim_apply _ _ _ _ (ix1 i) fun a => by
    match a with
    | ⟨0, _⟩ => rfl).trans ?_
  have w : S256x256.Reduces [1] S256 := ⟨reducesTo_S256x256_S256_d1.1, Nat.one_pos, reducesTo_S256x256_S256_d1.2⟩
  rw [Host.reduce_eq_fold_single IntOp.ori mask _ reducesTo_S256x256_S256_d1 w]
  refine fold_ori (n := 256) _ i ?_
  rw [← looks_self i, ← mask_at i i]
  refine congrArg mask (funext fun a => Fin.ext ?_)
  match a with
  | ⟨0, _⟩ => rfl
  | ⟨1, _⟩ => rfl

/-- A row of masked scores: the scale applied to the scores. -/
def row (b : Fin 2) (h : Fin 64) (i : Fin 256) : Fin 256 → EReal :=
  masked i fun j => (∑ d : Fin 64, query x wq b i (at64 4096 rfl h d) * k (ix4 b j h d)) * scale

/-- The masked scores at an index. -/
theorem scores_at (b : Fin 2) (h : Fin 64) (i j : Fin 256) :
    scores x wq k (ix4 b h i j) = row x wq k b h i j := by
  unfold scores row
  rw [select_apply, mask_apply, mask_at]
  unfold masked
  refine if_congr Iff.rfl ?_ ?_
  · rw [mulf_apply, extf_apply, truncf_apply, broadcastInDim_scalar_apply]
    refine congrArg (· * scale) ((queryKey_apply _ _ _ b h i j).trans (Finset.sum_congr rfl fun d _ => congrArg (· * _) ?_))
    rw [split_apply _ _ rfl b i h d (at64 4096 rfl h d) rfl, truncf_apply]
    exact rowsTimes_apply _ _ _ b i _
  · rw [broadcastInDim_scalar_apply]; rfl

/-- The exponentials at an index: the row's maximum is taken off first. -/
theorem lowered_at (b : Fin 2) (h : Fin 64) (i j : Fin 256) :
    lowered s (ix4 b h i j) = Ideal.exp (s (ix4 b h i j) - rowMax fun j => s (ix4 b h i j)) := by
  show Ideal.exp (_ - broadcastInDim _ _ _ _ _) = _
  rw [spread_apply, column_apply]
  have := rowFold_apply (FloatOps.maximumf (F := Ideal) (φ := .f32)) s (constant S_ .f32 0xFF800000#32) reducesTo_S2x64x256x256_S2x64x256_d3 h_S_ b h i
  refine congrArg (fun z => Ideal.exp (_ - z)) (this.trans ?_)
  unfold rowMax
  congr 1

/-- The weights at an index: since every row has a key, neither `where` on that changes anything. -/
theorem weights_at (e : FVec Ideal S2x64x256x256 .f32) (b : Fin 2) (h : Fin 64) (i j : Fin 256) :
    weights e (ix4 b h i j) = Ideal.div (e (ix4 b h i j)) (0 + ∑ j : Fin 256, e (ix4 b h i j)) := by
  have hk : broadcastInDim S2x64x256x256 ![0, 1, 2, 3] bcast_S1x1x256x1_S2x64x256x256_0_1_2_3 keep (ix4 b h i j) = 1#1 :=
    (broadcastInDim_apply _ _ _ _ (ix4 0 0 i 0) fun a => by
      match a with
      | ⟨0, _⟩ => rfl
      | ⟨1, _⟩ => rfl
      | ⟨2, _⟩ => rfl
      | ⟨3, _⟩ => rfl).trans (keep_at i)
  have hk' : broadcastInDim S2x64x256x1 ![0, 1, 2, 3] bcast_S1x1x256x1_S2x64x256x1_0_1_2_3 keep (ix4 b h i 0) = 1#1 :=
    (broadcastInDim_apply _ _ _ _ (ix4 0 0 i 0) fun a => by
      match a with
      | ⟨0, _⟩ => rfl
      | ⟨1, _⟩ => rfl
      | ⟨2, _⟩ => rfl
      | ⟨3, _⟩ => rfl).trans (keep_at i)
  unfold weights
  rw [select_apply, hk, select_one, hostDivf_apply, spread_apply, select_apply, hk', select_one, column_apply, rowSum_apply]
  exact congrArg (fun z => Ideal.div _ (z + _)) Ideal.ofBits_zero_f32

/-- The result at an index: the weighted values of all the heads times the output weights. -/
theorem out_at (w : FVec Ideal S2x64x256x256 .f32) (b : Fin 2) (i : Fin 256) (n : Fin 512) :
    out v wo w (ix3 b i n) = ∑ g : Fin 4096, (∑ j : Fin 256, v (ix4 b j ⟨g.val / 64, by omega⟩ ⟨g.val % 64, by omega⟩)
      * w (ix4 b ⟨g.val / 64, by omega⟩ i j)) * wo (ix2 g n) := by
  unfold out
  rw [truncf_apply]
  refine (rowsTimes_apply _ _ _ b i n).trans (Finset.sum_congr rfl fun g _ => congrArg₂ (· * ·) ?_ (extf_apply _ _ _))
  rw [join_apply (H := 64) (D := 64) _ _ rfl b i ⟨g.val / 64, by omega⟩ ⟨g.val % 64, by omega⟩ g (by show g.val = g.val / 64 * 64 + g.val % 64; omega), toRows_apply]
  exact (valueWeight_apply _ _ _ b _ _ i)

/-- The result at an index, for any arguments: queries, masked scores, weights lowered by the row's largest score, context, projection. -/
theorem result_at (b : Fin 2) (i : Fin 256) (n : Fin 512) :
    out v wo (weights (lowered (scores x wq k))) (ix3 b i n) = ∑ g : Fin 4096, (∑ j : Fin 256, v (ix4 b j ⟨g.val / 64, by omega⟩ ⟨g.val % 64, by omega⟩)
      * weight (fun j => row x wq k b ⟨g.val / 64, by omega⟩ i j - rowMax (row x wq k b ⟨g.val / 64, by omega⟩ i)) j) * wo (ix2 g n) := by
  rw [out_at]
  refine Finset.sum_congr rfl fun g _ => congrArg (· * _) (Finset.sum_congr rfl fun j _ => congrArg (_ * ·) ?_)
  have hs (j : Fin 256) : scores x wq k (ix4 b ⟨g.val / 64, by omega⟩ i j) = row x wq k b ⟨g.val / 64, by omega⟩ i j := scores_at ..
  rw [weights_at]
  simp only [lowered_at, hs]
  rfl

end Cert.ReferenceProof

end
-- ==== Proof.Partial.lean ====
/-
  What a device's work on its four heads comes to before the exchange, read at one index.
-/
module

public import proofs.«01_k».proof.Proof.Gen.KernelIdeal.Regions
public import Idealize.ShloMosaic.Lib.StableHlo.RunClose
public import Idealize.ShloMosaic.Lib.WordCmp
public import proofs.«01_k».proof.Proof.Reference

@[expose] public section

noncomputable section

namespace Cert.KernelIdealProof

open Cert.KernelIdeal Cert.KernelIdeal.Gen Cert.Attention
open Idealize.ShloMosaic Idealize.ShloMosaic.TcCoe Idealize.ShloMosaic.ValueIdx
open scoped BigOperators

/-! ## The stages -/

/-- The mask. -/
def mask : IVec S256x256 1 := ori (ori (cmpi .sle (absi (subi (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0))))) (broadcastInDim S256x256 ![] bcast_S_S256x256 (constantI S_ 32 128#32))) (broadcastInDim S256x256 ![0, 1] bcast_S1x256_S256x256_0_1 (cmpi .slt (broadcastInDim S1x256 ![1] bcast_S256_S1x256_1 (iotaInDim S256 32 0)) (broadcastInDim S1x256 ![] bcast_S_S1x256 (constantI S_ 32 32#32))))) (broadcastInDim S256x256 ![0, 1] bcast_S256x1_S256x256_0_1 (cmpi .slt (broadcastInDim S256x1 ![0] bcast_S256_S256x1_0 (iotaInDim S256 32 0)) (broadcastInDim S256x1 ![] bcast_S_S256x1 (constantI S_ 32 32#32))))

/-- The number of a device's first head, as the program computes it. -/
def firstHead (c : Dev nD) : IVec S_ 32 :=
  let h := muli (id (Host.remui (Host.divui (constantI S_ 32 (Dev.word c)) (constantI S_ 32 1#32)) (constantI S_ 32 16#32))) (constantI S_ 32 4#32)
  select (cmpi .slt h (constantI S_ 32 0#32)) (addi h (constantI S_ 32 64#32)) h

/-- Where a device's heads start in the keys and the values. -/
def start (c : Dev nD) (a : Fin 4) : Int :=
  BitVec.toInt ((![constantI S_ 32 0#32, constantI S_ 32 0#32, firstHead c, constantI S_ 32 0#32] : Fin 4 → IVec S_ 32) a (Shape.Idx.first h_S_))

section stages

variable {F : FTy → Type} [FloatOps F]

/-- A device's heads of the keys or the values. -/
def headsOf (c : Dev nD) (k : S2x256x64x64.Idx → F .bf16) : S2x256x4x64.Idx → F .bf16 :=
  Host.dynamicSlice S2x256x4x64 k (start c) sliceFits_S2x256x64x64_S2x256x4x64

/-- The scores, before the mask. -/
def rawScores (x : FVec F S2x256x512 .bf16) (wq : FVec F S512x256 .bf16) (k : FVec F S2x256x4x64 .bf16) : FVec F S2x4x256x256 .f32 :=
  Host.dotGeneral dot_S2x256x4x64_S2x256x4x64_S2x4x256x256_3_3_1_1_02_02 none
    (truncf .bf16 (mulf (shapeCast _ (Host.dotGeneral dot_S2x256x512_S512x256_S2x256x256_2_0_01_1_n_n none x wq) shapeCasts_S2x256x256_S2x256x4x64) (broadcastInDim S2x256x4x64 ![] bcast_S_S2x256x4x64 (constant S_ .f32 0x3E000000#32))) bitsLt_bf16_f32) k

/-- The mask laid over the scores. -/
def maskScores (s : FVec F S2x4x256x256 .f32) : FVec F S2x4x256x256 .f32 :=
  select (broadcastInDim S2x4x256x256 ![0, 1, 2, 3] bcast_S1x1x256x256_S2x4x256x256_0_1_2_3 (broadcastInDim S1x1x256x256 ![2, 3] bcast_S256x256_S1x1x256x256_2_3 mask)) s (broadcastInDim S2x4x256x256 ![] bcast_S_S2x4x256x256 (id (constant S_ .f32 0xCE6E6B28#32)))

/-- The softmax weights. -/
def weights (e : FVec F S2x4x256x256 .f32) : FVec F S2x4x256x256 .bf16 :=
  truncf .bf16 (Host.divf e (broadcastInDim S2x4x256x256 ![0, 1, 2, 3] bcast_S2x4x256x1_S2x4x256x256_0_1_2_3 (broadcastInDim S2x4x256x1 ![0, 1, 2] bcast_S2x4x256_S2x4x256x1_0_1_2 (Host.reduceAdd e (constant S_ .f32 0x00000000#32) reducesTo_S2x4x256x256_S2x4x256_d3 h_S_)))) bitsLt_bf16_f32

/-- The context times a device's rows of the output weights. -/
def project (v : FVec F S2x256x4x64 .bf16) (wo : FVec F S256x512 .bf16) (w : FVec F S2x4x256x256 .bf16) : FVec F S512x512 .f32 :=
  shapeCast _ (Host.dotGeneral dot_S2x256x256_S256x512_S2x256x512_2_0_01_1_n_n none
    (truncf .bf16 (shapeCast _ (transpose S2x256x4x64 [0, 3, 1, 2] (Host.dotGeneral dot_S2x256x4x64_S2x4x256x256_S2x4x64x256_1_3_3_2_02_01 none v w) transposes_S2x4x64x256_S2x256x4x64_0_3_1_2) shapeCasts_S2x256x4x64_S2x256x256) bitsLt_bf16_f32) wo) shapeCasts_S2x256x512_S512x512

variable (m : (ℓ : Loc nD τ sig) → Buf (Elt F) ℓ) (c : Dev nD)

/-- The first stretch of the host's work leaves the raw scores, -/
theorem V1_scores : V1 m c main_v20 = rawScores (m ((c : Thread nD τ).loc main_arg0)) (m ((c : Thread nD τ).loc main_arg1)) (headsOf c (m ((c : Thread nD τ).loc main_arg2))) := by
  unfold V1
  after_results_simp_entrywise
  rfl

/-- the mask, -/
theorem V1_mask : V1 m c main_v39 = broadcastInDim S1x1x256x256 ![2, 3] bcast_S256x256_S1x1x256x256_2_3 mask := by
  unfold V1
  after_results_simp_entrywise <;> rfl

/-- the score of a masked-out key, -/
theorem V1_low : V1 m c main_cst_16 = constant S_ .f32 0xCE6E6B28#32 := by
  unfold V1
  after_results_simp_entrywise <;> rfl

/-- and the device's heads of the values. -/
theorem V1_values : V1 m c main_v16 = headsOf c (m ((c : Thread nD τ).loc main_arg3)) := by
  unfold V1
  after_results_simp_entrywise <;> rfl

/-- The second stretch lays the mask over the scores. -/
theorem V2_scores : V2 m c main_v40 = maskScores (rawScores (m ((c : Thread nD τ).loc main_arg0)) (m ((c : Thread nD τ).loc main_arg1)) (headsOf c (m ((c : Thread nD τ).loc main_arg2)))) := by
  have h : V2 m c main_v40 = select (broadcastInDim S2x4x256x256 ![0, 1, 2, 3] bcast_S1x1x256x256_S2x4x256x256_0_1_2_3 (V1 m c main_v39)) (V1 m c main_v20)
      (broadcastInDim S2x4x256x256 ![] bcast_S_S2x4x256x256 (id (V1 m c main_cst_16))) := by
    show StableHlo.after hostOps0_1 (V1 m c) _ = _
    generalize V1 m c = V
    simp only [StableHlo.TRef.ternary, StableHlo.TRef.unary, StableHlo.TRef.toBuf, StableHlo.TRef.ofBuf, cast_eq]
    after_results_simp_entrywise <;> rfl
  rw [h, V1_scores, V1_mask, V1_low]; rfl

/-- What a device's work comes to: these stages, one after another. -/
theorem V3_partial : V3 m c main_v52 = project (headsOf c (m ((c : Thread nD τ).loc main_arg3))) (m ((c : Thread nD τ).loc main_arg4))
    (weights (Host.exp (maskScores (rawScores (m ((c : Thread nD τ).loc main_arg0)) (m ((c : Thread nD τ).loc main_arg1)) (headsOf c (m ((c : Thread nD τ).loc main_arg2))))))) := by
  have h : V3 m c main_v52 = project (V2 m c main_v16) (V2 m c main_arg4) (weights (Host.exp (V2 m c main_v40))) := by
    show StableHlo.after hostOps0_2 (V2 m c) _ = _
    generalize V2 m c = V
    after_results_simp_entrywise <;> rfl
  rw [h, V2_scores, V2_of m c main_v16 (by decide), V1_values, V2_of m c main_arg4 (by decide), V1_of m c main_arg4 (by decide)]

end stages

/-! ## The stages at an index -/

/-- The kernel's mask at an index is the reference's, the disjunction bracketed the other way. -/
theorem mask_at (i j : Fin 256) : mask (ix2 i j) = looks i j := by
  rw [← ReferenceProof.mask_at]
  show IntOp.ori (IntOp.ori _ _) _ = IntOp.ori _ (IntOp.ori _ _)
  exact BitVec.or_assoc _ _ _

/-- Device `c`'s first head is head `4 c`. -/
theorem firstHead_eq (c : Dev nD) : firstHead c = constantI S_ 32 (BitVec.ofNat 32 (4 * c.val)) := by
  funext j
  show (fun h : BitVec 32 => Scalar.select (IntOp.cmpi .slt h 0#32) (IntOp.addi h 64#32) h) (IntOp.muli (id (IntOp.remui .host (IntOp.divui .host (Dev.word c) 1#32) 16#32)) 4#32) = BitVec.ofNat 32 (4 * c.val)
  revert c; decide

/-- Head `h` of device `c` among all the heads. -/
def headOf (c : Fin 16) (h : Fin 4) : Fin 64 := ⟨4 * c.val + h.val, by omega⟩

/-- Head `h` of a device's keys or values is head `4 c + h` of the whole array. -/
theorem headsOf_at (c : Dev nD) (k : S2x256x64x64.Idx → Ideal .bf16) (b : Fin 2) (j : Fin 256) (h : Fin 4) (d : Fin 64) :
    headsOf (F := Ideal) c k (ix4 b j h d) = k (ix4 b j (headOf c h) d) := by
  refine heads_apply k (start c) (4 * c.val) _ (by have : c.val < 16 := c.isLt; omega) rfl rfl ?_ rfl b j h d _ rfl
  show BitVec.toInt (firstHead c _) = _
  rw [firstHead_eq]
  exact WordCmp.toInt_ofNat_of_lt (by have : c.val < 16 := c.isLt; norm_num; omega)

variable (x : FVec Ideal S2x256x512 .bf16) (wq : FVec Ideal S512x256 .bf16) (k v : FVec Ideal S2x256x4x64 .bf16) (wo : FVec Ideal S256x512 .bf16)

/-- A row of masked scores: the scale applied to the queries. -/
def row (b : Fin 2) (h : Fin 4) (i : Fin 256) : Fin 256 → EReal :=
  masked i fun j => ∑ d : Fin 64, query x wq b i (at64 256 rfl h d) * scale * k (ix4 b j h d)

/-- The masked scores at an index. -/
theorem scores_at (b : Fin 2) (h : Fin 4) (i j : Fin 256) : maskScores (rawScores x wq k) (ix4 b h i j) = row x wq k b h i j := by
  unfold maskScores row
  rw [select_apply, mask_apply, mask_at]
  unfold masked
  refine if_congr Iff.rfl ?_ ?_
  · unfold rawScores
    refine (queryKey_apply _ _ _ b h i j).trans (Finset.sum_congr rfl fun d _ => congrArg (· * _) ?_)
    rw [truncf_apply, mulf_apply, broadcastInDim_scalar_apply]
    refine congrArg (· * scale) ?_
    rw [split_apply _ _ rfl b i h d (at64 256 rfl h d) rfl]
    exact rowsTimes_apply _ _ _ b i _
  · rw [broadcastInDim_scalar_apply]; rfl

/-- The weights at an index: the softmax of the row as it stands, without the row's maximum taken off. -/
theorem weights_at (s : FVec Ideal S2x4x256x256 .f32) (b : Fin 2) (h : Fin 4) (i j : Fin 256) :
    weights (Host.exp s) (ix4 b h i j) = weight (fun j => s (ix4 b h i j)) j := by
  unfold weights
  rw [truncf_apply, hostDivf_apply, spread_apply, column_apply, rowSum_apply]
  exact congrArg (fun z => Ideal.div _ (z + _)) Ideal.ofBits_zero_f32

/-- The partial product at an index: the weighted values times the device's rows of the output weights. -/
theorem project_at (w : FVec Ideal S2x4x256x256 .bf16) (b : Fin 2) (i : Fin 256) (n r : Fin 512) (hr : r.val = b.val * 256 + i.val) :
    project v wo w (ix2 r n) = ∑ g : Fin 256, (∑ j : Fin 256, v (ix4 b j ⟨g.val / 64, by omega⟩ ⟨g.val % 64, by omega⟩)
      * w (ix4 b ⟨g.val / 64, by omega⟩ i j)) * wo (ix2 g n) := by
  unfold project
  rw [flatten_apply _ _ b i n r hr]
  refine (rowsTimes_apply _ _ _ b i n).trans (Finset.sum_congr rfl fun g _ => congrArg (· * _) ?_)
  rw [truncf_apply, join_apply (H := 4) (D := 64) _ _ rfl b i ⟨g.val / 64, by omega⟩ ⟨g.val % 64, by omega⟩ g (by show g.val = g.val / 64 * 64 + g.val % 64; omega), toRows_apply]
  exact (valueWeight_apply _ _ _ b _ _ i)

/-- A device's work, the stages one after another. -/
def work (c : Dev nD) (k v : FVec Ideal S2x256x64x64 .bf16) : FVec Ideal S512x512 .f32 :=
  project (headsOf (F := Ideal) c v) wo (weights (Host.exp (maskScores (rawScores x wq (headsOf (F := Ideal) c k)))))

/-- A device's work at an index, for any arguments. -/
theorem work_at (c : Dev nD) (k v : FVec Ideal S2x256x64x64 .bf16) (b : Fin 2) (i : Fin 256) (n r : Fin 512) (hr : r.val = b.val * 256 + i.val) :
    work x wq wo c k v (ix2 r n) = ∑ g : Fin 256, (∑ j : Fin 256, v (ix4 b j (headOf c ⟨g.val / 64, by omega⟩) ⟨g.val % 64, by omega⟩)
      * weight (row x wq (headsOf (F := Ideal) c k) b ⟨g.val / 64, by omega⟩ i) j) * wo (ix2 g n) := by
  unfold work
  rw [project_at _ _ _ b i n r hr]
  refine Finset.sum_congr rfl fun g _ => congrArg (· * _) (Finset.sum_congr rfl fun j _ => congrArg₂ (· * ·) (headsOf_at ..) ?_)
  rw [weights_at]
  exact congrArg (weight · j) (funext fun j => scores_at ..)

end Cert.KernelIdealProof

end
-- ==== Proof.Total.lean ====
/-
  The exchange, over the ideal values: every row of the result is the sum of the devices' partial products.
-/
module

public import proofs.«01_k».proof.Proof.Proto
public import Idealize.ShloMosaic.Lib.Pipeline.Value
public import Idealize.ShloMosaic.Lib.ValueIdx

@[expose] public section

noncomputable section

namespace Cert.KernelIdealProof

open Cert.KernelIdeal Cert.KernelIdeal.Gen
open Idealize.ShloMosaic
open Idealize.ShloMosaic.TcCoe
open scoped BigOperators

/-- A reshape to the same shape changes nothing. -/
theorem recast_same {α : Type} {s : Shape} (x : s.Idx → α) (h : s.ShapeCasts s) : shapeCast s x h = x :=
  funext fun j => shapeCast_apply x h j j rfl

/-- A sum built up block by block, at one element. -/
theorem foldl_addf {ι : Type} {s : Shape} (f : ι → FVec Ideal s .f32) (l : List ι) (a : FVec Ideal s .f32) (x : s.Idx) :
    l.foldl (fun acc i => addf acc (f i)) a x = a x + (l.map fun i => f i x).sum := by
  induction l generalizing a with
  | nil => exact (add_zero _).symm
  | cons i l ih => rw [List.foldl_cons, ih, List.map_cons, List.sum_cons, ← add_assoc]; rfl

/-- Each device's own term, then the others' in the order of their distance, is every device's. -/
theorem ring_sum (g : Fin 16 → EReal) (d : Fin 16) : g d + (recvOrder.map fun i => g (d - i.succ)).sum = ∑ c, g c := by
  rw [show recvOrder = List.finRange 15 from by decide, ← Fin.sum_univ_def]
  have h : g d = g (d - 0) := by rw [sub_zero]
  rw [h, ← Fin.sum_univ_succ fun j => g (d - j)]
  exact Equiv.sum_comp (Equiv.subLeft d) g

variable (P : Dev nD → S512x512.Idx → Elt Ideal .f32)

/-- The sum a device forms, at one element of its rows. -/
theorem red_at (d : Dev nD) (s : Fin 2) (y : S16x512.Idx) :
    (red P d s y : EReal) = ∑ c : Fin 16, (P c ((rowsV outM d s).view.emb y) : EReal) := by
  refine Eq.trans ?_ (ring_sum (fun c => P c ((rowsV outM d s).view.emb y)) d)
  unfold red
  rw [foldl_addf]
  refine congrArg₂ (· + ·) ?_ (congrArg List.sum (List.map_congr_left fun i _ => ?_))
  · unfold accInit; rw [recast_same]; rfl
  · show stagePay (P (d - i.succ)) _ = _
    unfold stagePay k0_pay1
    simp only [recast_same]
    rfl

/-- The result at an index is the sum of all the devices' partial products there. -/
theorem outAll_at (x : S512x512.Idx) : (outAll P x : EReal) = ∑ c : Fin 16, (P c x : EReal) := by
  have h0 : (x 0).val < 512 := (x 0).isLt
  let y : S16x512.Idx := ValueIdx.ix2 (n0 := 16) (n1 := 512) ⟨(x 0).val % 16, by omega⟩ (x 1)
  have hy : (rowsV outM (rowDev x) (rowHalf x)).view.emb y = x := by
    funext a
    refine Fin.ext ?_
    match a with
    | 0 =>
      show 32 * ((x 0).val / 32) + 16 * ((x 0).val % 32 / 16) + 1 * ((x 0).val % 16) = (x 0).val
      omega
    | 1 =>
      show 0 + 1 * (x 1).val = (x 1).val
      omega
  have h := congrFun (read_outAll P (rowDev x) (rowHalf x)) y
  refine Eq.trans ?_ ((red_at P (rowDev x) (rowHalf x) y).trans (by rw [hy]))
  refine Eq.trans ?_ h
  show _ = outAll P ((rowsV outM (rowDev x) (rowHalf x)).view.emb y)
  rw [hy]

end Cert.KernelIdealProof

end
-- ==== Proof.Finite.lean ====
/-
  What the precondition says of a device's arguments: the input, the query weights and the keys are real numbers.
-/
module

public import proofs.«01_k».proof.Pre_finite_KernelIdeal
public import proofs.«01_k».proof.Pre_finite_ReferenceIdeal
public import proofs.«01_k».proof.Proof.Softmax
public import Idealize.ShloMosaic.Lib.ReduceAll

@[expose] public section

noncomputable section

namespace Cert.Attention

open Idealize.ShloMosaic Idealize.ShloMosaic.ValueIdx

/-- The side conditions of the precondition's operations, on a device's blocks and on the whole arrays. -/
theorem finite_facts : Cert.Pre_finite_KernelIdeal.Facts where
  bcast_S_S2x256x512 := by decide
  reducesTo_S2x256x512_S_d0_1_2 := by decide
  h_S_ := by decide
  bcast_S_S512x256 := by decide
  reducesTo_S512x256_S_d0_1 := by decide
  bcast_S_S2x256x64x64 := by decide
  reducesTo_S2x256x64x64_S_d0_1_2_3 := by decide

/-- The shape facts of the precondition over the whole arrays. -/
theorem finite_facts_whole : Cert.Pre_finite_ReferenceIdeal.Facts where
  bcast_S_S2x256x512 := by decide
  reducesTo_S2x256x512_S_d0_1_2 := by decide
  h_S_ := by decide
  bcast_S_S512x4096 := by decide
  reducesTo_S512x4096_S_d0_1 := by decide
  bcast_S_S2x256x64x64 := by decide
  reducesTo_S2x256x64x64_S_d0_1_2_3 := by decide

/-- An array whose elements all have an absolute value below infinity is real at every index. -/
theorem isReal_of_all {s : Shape} {axes : List (Fin s.rank)} (x : FVec Ideal s .bf16) (w : (⟨0, ![]⟩ : Shape).BroadcastsInDim s ![])
    (init : (⟨0, ![]⟩ : Shape).Idx → BitVec 1) (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] w (constant ⟨0, ![]⟩ .bf16 0x7F80#16))) init h hu j = 1#1)
    (i : s.Idx) : IsReal (x i) := by
  have : Subsingleton (⟨0, ![]⟩ : Shape).Idx := ⟨fun a b => funext fun k => k.elim0⟩
  have h1 := Host.reduce_andi_all _ _ _ _ _ e i
  rw [cmpf_apply, broadcastInDim_scalar_apply] at h1
  have ht : Ideal.ofBits .bf16 0x7F80#16 = ⊤ := by simp [Ideal.ofBits, Ideal.ieee]
  refine IsReal.of_abs_lt ?_
  by_contra hn
  have h2 : (BitVec.ofBool (decide (max (x i) (-(x i)) < Ideal.ofBits .bf16 0x7F80#16))) = 1#1 := h1
  rw [ht, decide_eq_false hn] at h2
  exact absurd h2 (by decide)

/-- The precondition, read. -/
theorem isReal_of_finite [Cert.Pre_finite_KernelIdeal.Facts] (x : FVec Ideal ⟨3, ![2, 256, 512]⟩ .bf16) (wq : FVec Ideal ⟨2, ![512, 256]⟩ .bf16)
    (k v : FVec Ideal ⟨4, ![2, 256, 64, 64]⟩ .bf16) (wo : FVec Ideal ⟨2, ![256, 512]⟩ .bf16)
    (h : Cert.Pre_finite_KernelIdeal.fn x wq k v wo = fun _ => 1#1) :
    (∀ i, IsReal (x i)) ∧ (∀ i, IsReal (wq i)) ∧ ∀ i, IsReal (k i) := by
  have h0 := congrFun h ix0
  obtain ⟨h1, hk⟩ := IntOp.andi_eq_one.1 h0
  obtain ⟨hx, hq⟩ := IntOp.andi_eq_one.1 h1
  exact ⟨isReal_of_all _ _ _ _ _ _ hx, isReal_of_all _ _ _ _ _ _ hq, isReal_of_all _ _ _ _ _ _ hk⟩

end Cert.Attention

end
-- ==== Proof.Agree.lean ====
/-
  The kernel's result is the reference's, over the ideal values: head by head the weights agree, and the sum over all
  the heads' elements is the sum over the devices of the sums over each device's elements.
-/
module

public import proofs.«01_k».proof.Proof.Partial
public import proofs.«01_k».proof.Proof.Total
public import proofs.«01_k».proof.Proof.Finite
public import Idealize.ShloMosaic.Lib.Layout

@[expose] public section

noncomputable section

namespace Cert.KernelIdealProof

open Cert.KernelIdeal Cert.KernelIdeal.Gen Cert.Attention
open Idealize.ShloMosaic Idealize.ShloMosaic.TcCoe Idealize.ShloMosaic.ValueIdx
open scoped BigOperators

/-! ## The constants -/

/-- The scale is a real number. -/
theorem scale_isReal : IsReal scale := IsReal.of_abs_lt (by simp [scale, Ideal.ofBits, Ideal.ieee, -EReal.coe_mul, ← EReal.coe_neg])
/-- The score of a masked-out key is a real number. -/
theorem low_isReal : IsReal low := IsReal.of_abs_lt (by simp [low, Ideal.ofBits, Ideal.ieee, -EReal.coe_mul, ← EReal.coe_neg])

/-! ## Rows of scores -/

/-- Queries formed from real inputs and weights are real. -/
theorem query_isReal {N : ℕ} {x : (⟨3, ![2, 256, 512]⟩ : Shape).Idx → EReal} {wq : (⟨2, ![512, N]⟩ : Shape).Idx → EReal}
    (hx : ∀ i, IsReal (x i)) (hq : ∀ i, IsReal (wq i)) (b : Fin 2) (i : Fin 256) (n : Fin N) : IsReal (query x wq b i n) :=
  IsReal.sum _ fun e => (hx _).mul (hq _)

/-- A row of real scores stays real under the mask. -/
theorem masked_isReal (i : Fin 256) {s : Fin 256 → EReal} (h : ∀ j, IsReal (s j)) (j : Fin 256) : IsReal (masked i s j) := by
  unfold masked
  split
  · exact h j
  · exact low_isReal

/-- A device's columns of the query weights. -/
abbrev colsOf (c : Fin 16) (wq : (⟨2, ![512, 4096]⟩ : Shape).Idx → EReal) : (⟨2, ![512, 256]⟩ : Shape).Idx → EReal :=
  Layout.block ⟨2, ![512, 256]⟩ ⟨2, ![512, 4096]⟩ 1 16 c wq
/-- A device's rows of the output weights. -/
abbrev rowsOf (c : Fin 16) (wo : (⟨2, ![4096, 512]⟩ : Shape).Idx → EReal) : (⟨2, ![256, 512]⟩ : Shape).Idx → EReal :=
  Layout.block ⟨2, ![256, 512]⟩ ⟨2, ![4096, 512]⟩ 0 16 c wo

/-- Element `g` of device `c`'s heads among all the heads' elements. -/
def eltOf (c : Fin 16) (g : Fin 256) : Fin 4096 := ⟨256 * c.val + g.val, by omega⟩

/-- Column `g` of device `c`'s block of the query weights is column `256 c + g` of the whole. -/
theorem colsOf_at (c : Fin 16) (wq : (⟨2, ![512, 4096]⟩ : Shape).Idx → EReal) (e : Fin 512) (g : Fin 256) :
    colsOf c wq (ix2 e g) = wq (ix2 e (eltOf c g)) := by
  rw [colsOf, Layout.block_apply]
  refine congrArg wq (funext fun a => Fin.ext ?_)
  match a with
  | ⟨0, _⟩ => rfl
  | ⟨1, _⟩ => show c.val * 256 + g.val = 256 * c.val + g.val; omega

/-- Row `g` of device `c`'s block of the output weights is row `256 c + g` of the whole. -/
theorem rowsOf_at (c : Fin 16) (wo : (⟨2, ![4096, 512]⟩ : Shape).Idx → EReal) (g : Fin 256) (n : Fin 512) :
    rowsOf c wo (ix2 g n) = wo (ix2 (eltOf c g) n) := by
  rw [rowsOf, Layout.block_apply]
  refine congrArg wo (funext fun a => Fin.ext ?_)
  match a with
  | ⟨0, _⟩ => show c.val * 256 + g.val = 256 * c.val + g.val; omega
  | ⟨1, _⟩ => rfl

section rows

variable {x : (⟨3, ![2, 256, 512]⟩ : Shape).Idx → EReal} {wq : (⟨2, ![512, 4096]⟩ : Shape).Idx → EReal} {k : (⟨4, ![2, 256, 64, 64]⟩ : Shape).Idx → EReal}
  {c : Fin 16} (hx : ∀ i, IsReal (x i)) (hq : ∀ i, IsReal (colsOf c wq i)) (hk : ∀ i, IsReal (k i))
include hx hq hk

/-- A device's rows of masked scores are real. -/
theorem row_isReal (b : Fin 2) (h : Fin 4) (i j : Fin 256) : IsReal (row x (colsOf c wq) (headsOf (F := Ideal) c k) b h i j) := by
  refine masked_isReal i (fun j => IsReal.sum _ fun d => ?_) j
  rw [headsOf_at]
  exact ((query_isReal hx hq _ _ _).mul scale_isReal).mul (hk _)

/-- A device's row of scores is the reference's row of the same head. -/
theorem row_eq (b : Fin 2) (h : Fin 4) (i : Fin 256) :
    row x (colsOf c wq) (headsOf (F := Ideal) c k) b h i = ReferenceProof.row x wq k b (headOf c h) i := by
  unfold row ReferenceProof.row
  refine congrArg (masked i) (funext fun j => ?_)
  simp only [headsOf_at]
  rw [sum_scale _ _ (fun d => query_isReal hx hq _ _ _) (fun d => hk _) scale_isReal]
  refine congrArg (· * scale) (Finset.sum_congr rfl fun d _ => congrArg (· * _) (Finset.sum_congr rfl fun e _ => congrArg (_ * ·) ?_))
  rw [colsOf_at]
  refine congrArg (fun n => wq (ix2 e n)) (Fin.ext ?_)
  show 256 * c.val + (h.val * 64 + d.val) = (4 * c.val + h.val) * 64 + d.val
  omega

/-- So its weights are the reference's. -/
theorem weight_eq (b : Fin 2) (h : Fin 4) (i j : Fin 256) :
    weight (row x (colsOf c wq) (headsOf (F := Ideal) c k) b h i) j
      = weight (fun j => ReferenceProof.row x wq k b (headOf c h) i j - rowMax (ReferenceProof.row x wq k b (headOf c h) i)) j := by
  have hr := row_isReal hx hq hk b h i
  rw [row_eq hx hq hk] at hr ⊢
  exact (weight_sub hr (rowMax_isReal hr) j).symm

end rows

/-! ## The result -/

/-- A sum over all the heads' elements, device by device. -/
theorem sum_devices (f : Fin 4096 → EReal) : ∑ g, f g = ∑ c : Fin 16, ∑ g : Fin 256, f (eltOf c g) := by
  rw [← Fintype.sum_prod_type' fun c g => f (eltOf c g)]
  refine (Fintype.sum_equiv (finProdFinEquiv (m := 16) (n := 256)) _ _ fun p => congrArg f (Fin.ext ?_)).symm
  show 256 * p.1.val + p.2.val = p.2.val + 256 * p.1.val
  omega

/-- The devices' work, added up, is the reference's result. -/
theorem total_eq {x : FVec Ideal S2x256x512 .bf16} {wq : (⟨2, ![512, 4096]⟩ : Shape).Idx → EReal} {k : FVec Ideal S2x256x64x64 .bf16}
    (v : FVec Ideal S2x256x64x64 .bf16) (wo : (⟨2, ![4096, 512]⟩ : Shape).Idx → EReal)
    (hx : ∀ i, IsReal (x i)) (hq : ∀ (c : Fin 16) i, IsReal (colsOf c wq i)) (hk : ∀ i, IsReal (k i))
    (b : Fin 2) (i : Fin 256) (n r : Fin 512) (hr : r.val = b.val * 256 + i.val) :
    ∑ c : Fin 16, work x (colsOf c wq) (rowsOf c wo) c k v (ix2 r n)
      = ReferenceProof.out v wo (ReferenceProof.weights (ReferenceProof.lowered (ReferenceProof.scores x wq k))) (ix3 b i n) := by
  rw [ReferenceProof.result_at, sum_devices]
  refine Finset.sum_congr rfl fun c _ => (work_at _ _ _ c k v b i n r hr).trans (Finset.sum_congr rfl fun g _ => ?_)
  have hd : (⟨(eltOf c g).val / 64, by omega⟩ : Fin 64) = headOf c ⟨g.val / 64, by omega⟩ := Fin.ext (by show (256 * c.val + g.val) / 64 = 4 * c.val + g.val / 64; omega)
  have he : (⟨(eltOf c g).val % 64, by omega⟩ : Fin 64) = ⟨g.val % 64, by omega⟩ := Fin.ext (by show (256 * c.val + g.val) % 64 = g.val % 64; omega)
  rw [rowsOf_at, hd, he]
  exact congrArg (· * _) (Finset.sum_congr rfl fun j _ => congrArg (_ * ·) (weight_eq hx (hq c) hk ..))

end Cert.KernelIdealProof

end
-- ==== Proof.Value.lean ====
/-
  The value claim: from arguments of which the input, the query weights and the keys are finite, every device ends with
  the reference's result.
-/
module

public import proofs.«01_k».proof.Proof.Agree
public import proofs.«01_k».proof.Proof.Frames

@[expose] public section

noncomputable section

namespace Cert.KernelIdealProof

open Cert.KernelIdeal Cert.KernelIdeal.Gen Cert.Attention
open Idealize.ShloMosaic Idealize.ShloMosaic.TcCoe Idealize.ShloMosaic.ValueIdx Idealize.SL.Sem
open scoped BigOperators

/-- The host's last step: the exchanged rows as a batch again. -/
theorem V5_result {F : FTy → Type} [FloatOps F] (m : (ℓ : Loc nD τ sig) → Buf (Elt F) ℓ) (c : Dev nD) :
    V5 m (outs m) c main_v54 = shapeCast S2x256x512 (outAll (partials m)) shapeCasts_S512x512_S2x256x512 := by
  have h : V5 m (outs m) c main_v54 = shapeCast S2x256x512 (V4 m (outs m) c main_v53) shapeCasts_S512x512_S2x256x512 := by
    show StableHlo.after hostOps1 (V4 m (outs m) c) _ = _
    generalize V4 m (outs m) c = V
    after_results_simp_entrywise <;> rfl
  rw [h, V4_eq, outV_self]

/-- A memory's partial products are the devices' work on their arguments. -/
theorem partials_eq (m : (ℓ : Loc nD τ sig) → Buf (Elt Ideal) ℓ) (c : Dev nD) :
    partials m c = work (m ((c : Thread nD τ).loc main_arg0)) (m ((c : Thread nD τ).loc main_arg1)) (m ((c : Thread nD τ).loc main_arg4)) c
      (m ((c : Thread nD τ).loc main_arg2)) (m ((c : Thread nD τ).loc main_arg3)) := V3_partial m c

/-- What every device ends with, when each holds its part of the whole arrays. -/
theorem result_eq (m : (ℓ : Loc nD τ sig) → Buf (Elt Ideal) ℓ)
    (x : FVec Ideal S2x256x512 .bf16) (wq : (⟨2, ![512, 4096]⟩ : Shape).Idx → EReal) (k v : FVec Ideal S2x256x64x64 .bf16) (wo : (⟨2, ![4096, 512]⟩ : Shape).Idx → EReal)
    (hx : ∀ i, IsReal (x i)) (hq : ∀ (c : Fin 16) i, IsReal (colsOf c wq i)) (hk : ∀ i, IsReal (k i))
    (hP : ∀ c, partials m c = work x (colsOf c wq) (rowsOf c wo) c k v) (c : Dev nD) :
    V5 m (outs m) c main_v54 = ReferenceProof.out v wo (ReferenceProof.weights (ReferenceProof.lowered (ReferenceProof.scores x wq k))) := by
  rw [V5_result]
  funext j
  have hj := ValueIdx.eq_ix3 (n0 := 2) (n1 := 256) (n2 := 512) j
  rw [hj]
  generalize j 0 = b, j 1 = i, j 2 = n at *
  have hb : b.val < 2 := b.isLt
  have hi : i.val < 256 := i.isLt
  refine (unflatten_apply _ _ b i n ⟨b.val * 256 + i.val, by omega⟩ rfl).trans ?_
  refine (outAll_at (partials m) _).trans ((Finset.sum_congr rfl fun c _ => congrFun (hP c) _).trans ?_)
  exact total_eq v wo hx hq hk b i n _ rfl

/-- The kernel and the reference end with the same values. -/
theorem value : Cert.algebraic_KernelIdeal_ReferenceIdeal_pre_finite_KernelIdeal (hPre_finite_KernelIdeal := finite_facts) := by
  intro m g m' g' hpre hargs
  refine ⟨Cert.ReferenceIdeal.Value.res_main_v48 m' 0, ?_, ?_⟩
  · have hfin (c : Dev nD) := @isReal_of_finite finite_facts _ _ _ _ _ (hpre c)
    refine (θ_run defs _ _).mono (fun r h c => ⟨?_, args_kept m h.1 c⟩) (run_main m g)
    refine (h.1 c main_v54 (main_unscoped _)).trans ((result_eq m _ _ _ _ _ ?_ ?_ ?_ ?_ c).trans (ReferenceProof.res_eq m' 0).symm)
    · intro i; rw [← (hargs 0).1]; exact (hfin 0).1 i
    · intro c i
      have := (hfin c).2.1 i
      rw [(hargs c).2.1] at this
      exact this
    · intro i; rw [← (hargs 0).2.2.1]; exact (hfin 0).2.2 i
    · intro c
      obtain ⟨h0, h1, h2, h3, h4⟩ := hargs c
      rw [partials_eq, h0, h1, h2, h3, h4]
  · exact (θ_run Cert.ReferenceIdeal.defs _ _).mono (fun r h => h 0) (Cert.ReferenceIdeal.Value.run (F := Ideal) m' g')

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Cert.KernelIdealProof

/-- Everything claimed: the three frames (and, for the two programs the value claim names, the same under its
    precondition), that idealizing changed no operation, and that the kernel and the reference end with the same values. -/
theorem claim : Cert.Claim :=
  ⟨Cert.Kernel.Gen.facts, Cert.KernelIdeal.Gen.facts, Cert.ReferenceIdeal.Gen.facts, Cert.Attention.finite_facts, Cert.Attention.finite_facts_whole,
    frame_kernel, frame_ideal, fun m g _ => frame_ideal m g trivial, frame_reference, fun m g _ => frame_reference m g trivial, trivial, value⟩

end Cert.Proof

end
